-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x768 : Shape := ⟨3, ![2, 1024, 768]⟩
abbrev S4x3072x768 : Shape := ⟨3, ![4, 3072, 768]⟩
abbrev S4x1536x4 : Shape := ⟨3, ![4, 1536, 4]⟩
abbrev S4x1536 : Shape := ⟨2, ![4, 1536]⟩
abbrev S4x80x1536 : Shape := ⟨3, ![4, 80, 1536]⟩
abbrev S4x1536x48 : Shape := ⟨3, ![4, 1536, 48]⟩
abbrev S4x1536x16 : Shape := ⟨3, ![4, 1536, 16]⟩
abbrev S4x768x1536 : Shape := ⟨3, ![4, 768, 1536]⟩
abbrev S4x768 : Shape := ⟨2, ![4, 768]⟩
abbrev S4x1536x768 : Shape := ⟨3, ![4, 1536, 768]⟩
abbrev S4x4x1536 : Shape := ⟨3, ![4, 4, 1536]⟩
abbrev S_ : Shape := ⟨0, ![]⟩
abbrev S4x8x1536 : Shape := ⟨3, ![4, 8, 1536]⟩
abbrev S4x1x1536 : Shape := ⟨3, ![4, 1, 1536]⟩
abbrev S4x1536x80 : Shape := ⟨3, ![4, 1536, 80]⟩
abbrev S4x1536x128 : Shape := ⟨3, ![4, 1536, 128]⟩
abbrev S4x48x1536 : Shape := ⟨3, ![4, 48, 1536]⟩
abbrev S4x128x1536 : Shape := ⟨3, ![4, 128, 1536]⟩
abbrev S4x16x1536 : Shape := ⟨3, ![4, 16, 1536]⟩
abbrev S4x1x768 : Shape := ⟨3, ![4, 1, 768]⟩
abbrev S1x1024x768 : Shape := ⟨3, ![1, 1024, 768]⟩
abbrev S1x768x1536 : Shape := ⟨3, ![1, 768, 1536]⟩
abbrev S1x8x1536 : Shape := ⟨3, ![1, 8, 1536]⟩
abbrev S1x1x1536 : Shape := ⟨3, ![1, 1, 1536]⟩
abbrev S1x1536x128 : Shape := ⟨3, ![1, 1536, 128]⟩
abbrev S1x128x1536 : Shape := ⟨3, ![1, 128, 1536]⟩
abbrev S1x16x1536 : Shape := ⟨3, ![1, 16, 1536]⟩
abbrev S1x1536x768 : Shape := ⟨3, ![1, 1536, 768]⟩
abbrev S1x1x768 : Shape := ⟨3, ![1, 1, 768]⟩
abbrev S1024x1536 : Shape := ⟨2, ![1024, 1536]⟩
abbrev S1024x1x128 : Shape := ⟨3, ![1024, 1, 128]⟩
abbrev S32x16x1536 : Shape := ⟨3, ![32, 16, 1536]⟩
abbrev S32x16x1 : Shape := ⟨3, ![32, 16, 1]⟩
abbrev S1024x768 : Shape := ⟨2, ![1024, 768]⟩
abbrev S768x1536 : Shape := ⟨2, ![768, 1536]⟩
abbrev S8x1536 : Shape := ⟨2, ![8, 1536]⟩
abbrev S1x1536 : Shape := ⟨2, ![1, 1536]⟩
abbrev S1023x1536 : Shape := ⟨2, ![1023, 1536]⟩
abbrev S2x1536 : Shape := ⟨2, ![2, 1536]⟩
abbrev S1022x1536 : Shape := ⟨2, ![1022, 1536]⟩
abbrev S3x1536 : Shape := ⟨2, ![3, 1536]⟩
abbrev S1021x1536 : Shape := ⟨2, ![1021, 1536]⟩
abbrev S1536x128 : Shape := ⟨2, ![1536, 128]⟩
abbrev S1024x128 : Shape := ⟨2, ![1024, 128]⟩
abbrev S128x1536 : Shape := ⟨2, ![128, 1536]⟩
abbrev S16x1536 : Shape := ⟨2, ![16, 1536]⟩
abbrev S32x1536 : Shape := ⟨2, ![32, 1536]⟩
abbrev S32x1x1536 : Shape := ⟨3, ![32, 1, 1536]⟩
abbrev S32x1x16 : Shape := ⟨3, ![32, 1, 16]⟩
abbrev S1536x768 : Shape := ⟨2, ![1536, 768]⟩
abbrev S1024 : Shape := ⟨1, ![1024]⟩
abbrev S1024x1 : Shape := ⟨2, ![1024, 1]⟩
abbrev S1x768 : Shape := ⟨2, ![1, 768]⟩

abbrev nBuf : Space → Nat
  | .hbm => 41
  | .vmem => 34
  | .smem => 0
  | _ => 0

abbrev bufTy : (tb : Table) → Fin (tcTables nBuf tb) → BufTy
  | .hbm, ⟨0, _⟩ => ⟨S2x1024x768, .f32⟩
  | .hbm, ⟨1, _⟩ => ⟨S4x3072x768, .f32⟩
  | .hbm, ⟨2, _⟩ => ⟨S4x1536x4, .f32⟩
  | .hbm, ⟨3, _⟩ => ⟨S4x1536, .f32⟩
  | .hbm, ⟨4, _⟩ => ⟨S4x80x1536, .f32⟩
  | .hbm, ⟨5, _⟩ => ⟨S4x1536x48, .f32⟩
  | .hbm, ⟨6, _⟩ => ⟨S4x1536, .f32⟩
  | .hbm, ⟨7, _⟩ => ⟨S4x1536x16, .f32⟩
  | .hbm, ⟨8, _⟩ => ⟨S4x1536, .f32⟩
  | .hbm, ⟨9, _⟩ => ⟨S4x768x1536, .f32⟩
  | .hbm, ⟨10, _⟩ => ⟨S4x768, .f32⟩
  | .hbm, ⟨11, _⟩ => ⟨S4x768, .f32⟩
  | .hbm, ⟨12, _⟩ => ⟨S4x1536x768, .f32⟩
  | .hbm, ⟨13, _⟩ => ⟨S4x768x1536, .f32⟩
  | .hbm, ⟨14, _⟩ => ⟨S4x768x1536, .bf16⟩
  | .hbm, ⟨15, _⟩ => ⟨S4x1536x768, .f32⟩
  | .hbm, ⟨16, _⟩ => ⟨S4x768x1536, .f32⟩
  | .hbm, ⟨17, _⟩ => ⟨S4x768x1536, .bf16⟩
  | .hbm, ⟨18, _⟩ => ⟨S4x4x1536, .f32⟩
  | .hbm, ⟨19, _⟩ => ⟨S_, .i32⟩
  | .hbm, ⟨20, _⟩ => ⟨S_, .f32⟩
  | .hbm, ⟨21, _⟩ => ⟨S4x8x1536, .f32⟩
  | .hbm, ⟨22, _⟩ => ⟨S4x1x1536, .f32⟩
  | .hbm, ⟨23, _⟩ => ⟨S4x1536x80, .f32⟩
  | .hbm, ⟨24, _⟩ => ⟨S_, .i32⟩
  | .hbm, ⟨25, _⟩ => ⟨S_, .f32⟩
  | .hbm, ⟨26, _⟩ => ⟨S4x1536x128, .f32⟩
  | .hbm, ⟨27, _⟩ => ⟨S4x1536x128, .bf16⟩
  | .hbm, ⟨28, _⟩ => ⟨S4x48x1536, .f32⟩
  | .hbm, ⟨29, _⟩ => ⟨S_, .i32⟩
  | .hbm, ⟨30, _⟩ => ⟨S_, .f32⟩
  | .hbm, ⟨31, _⟩ => ⟨S4x128x1536, .f32⟩
  | .hbm, ⟨32, _⟩ => ⟨S4x128x1536, .bf16⟩
  | .hbm, ⟨33, _⟩ => ⟨S4x1x1536, .f32⟩
  | .hbm, ⟨34, _⟩ => ⟨S4x16x1536, .f32⟩
  | .hbm, ⟨35, _⟩ => ⟨S4x1x1536, .f32⟩
  | .hbm, ⟨36, _⟩ => ⟨S4x1536x768, .f32⟩
  | .hbm, ⟨37, _⟩ => ⟨S4x1536x768, .bf16⟩
  | .hbm, ⟨38, _⟩ => ⟨S4x1x768, .f32⟩
  | .hbm, ⟨39, _⟩ => ⟨S4x1x768, .f32⟩
  | .hbm, ⟨40, _⟩ => ⟨S2x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S1x768x1536, .bf16⟩
  | .local _ .vmem, ⟨3, _⟩ => ⟨S1x768x1536, .bf16⟩
  | .local _ .vmem, ⟨4, _⟩ => ⟨S1x768x1536, .bf16⟩
  | .local _ .vmem, ⟨5, _⟩ => ⟨S1x768x1536, .bf16⟩
  | .local _ .vmem, ⟨6, _⟩ => ⟨S1x8x1536, .f32⟩
  | .local _ .vmem, ⟨7, _⟩ => ⟨S1x8x1536, .f32⟩
  | .local _ .vmem, ⟨8, _⟩ => ⟨S1x1x1536, .f32⟩
  | .local _ .vmem, ⟨9, _⟩ => ⟨S1x1x1536, .f32⟩
  | .local _ .vmem, ⟨10, _⟩ => ⟨S1x1536x128, .bf16⟩
  | .local _ .vmem, ⟨11, _⟩ => ⟨S1x1536x128, .bf16⟩
  | .local _ .vmem, ⟨12, _⟩ => ⟨S1x128x1536, .bf16⟩
  | .local _ .vmem, ⟨13, _⟩ => ⟨S1x128x1536, .bf16⟩
  | .local _ .vmem, ⟨14, _⟩ => ⟨S1x1x1536, .f32⟩
  | .local _ .vmem, ⟨15, _⟩ => ⟨S1x1x1536, .f32⟩
  | .local _ .vmem, ⟨16, _⟩ => ⟨S1x16x1536, .f32⟩
  | .local _ .vmem, ⟨17, _⟩ => ⟨S1x16x1536, .f32⟩
  | .local _ .vmem, ⟨18, _⟩ => ⟨S1x1x1536, .f32⟩
  | .local _ .vmem, ⟨19, _⟩ => ⟨S1x1x1536, .f32⟩
  | .local _ .vmem, ⟨20, _⟩ => ⟨S1x1536x768, .bf16⟩
  | .local _ .vmem, ⟨21, _⟩ => ⟨S1x1536x768, .bf16⟩
  | .local _ .vmem, ⟨22, _⟩ => ⟨S1x1x768, .f32⟩
  | .local _ .vmem, ⟨23, _⟩ => ⟨S1x1x768, .f32⟩
  | .local _ .vmem, ⟨24, _⟩ => ⟨S1x1x768, .f32⟩
  | .local _ .vmem, ⟨25, _⟩ => ⟨S1x1x768, .f32⟩
  | .local _ .vmem, ⟨26, _⟩ => ⟨S1x1024x768, .f32⟩
  | .local _ .vmem, ⟨27, _⟩ => ⟨S1x1024x768, .f32⟩
  | .local _ .vmem, ⟨28, _⟩ => ⟨S1024x1536, .f32⟩
  | .local _ .vmem, ⟨29, _⟩ => ⟨S1024x1536, .f32⟩
  | .local _ .vmem, ⟨30, _⟩ => ⟨S1024x1x128, .f32⟩
  | .local _ .vmem, ⟨31, _⟩ => ⟨S32x16x1536, .f32⟩
  | .local _ .vmem, ⟨32, _⟩ => ⟨S32x16x1536, .f32⟩
  | .local _ .vmem, ⟨33, _⟩ => ⟨S32x16x1, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_call1_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_call2_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_48 : BitVec 32 := 0#32
  let c32_i32 : BitVec 32 := 32#32
  let v89 : BitVec 32 := Scalar.addi c0_i32_48 c32_i32
  let c1_i32 : BitVec 32 := 1#32
  ⟨c0_i32_48, v89, c1_i32⟩
def k0_off1 (k0_t1 : Fin k0_t1_loop.trips) : Fin 2 → Nat :=
  let c0_i32_48 : BitVec 32 := 0#32
  let c1_i32 : BitVec 32 := 1#32
  let arg22 : BitVec 32 := Scf.iv c0_i32_48 c1_i32 k0_t1
  let c32_i32_82 : BitVec 32 := 32#32
  let v142 : BitVec 32 := Scalar.muli arg22 c32_i32_82
  let v143 : Index := Scalar.indexCast v142
  let c0_83 : Index := 0#32
  ![v143.toNat, 0]
def k0_off2 (k0_t1 : Fin k0_t1_loop.trips) : Fin 3 → Nat :=
  let c0_i32_48 : BitVec 32 := 0#32
  let c1_i32 : BitVec 32 := 1#32
  let arg22 : BitVec 32 := Scf.iv c0_i32_48 c1_i32 k0_t1
  let c32_i32_82 : BitVec 32 := 32#32
  let v142 : BitVec 32 := Scalar.muli arg22 c32_i32_82
  let v158 : Index := Scalar.indexCast v142
  let c0_88 : Index := 0#32
  let c48 : Index := 48#32
  ![v158.toNat, 0, 48]
def k0_off3 (k0_t1 : Fin k0_t1_loop.trips) : Fin 3 → Nat :=
  let c0_i32_48 : BitVec 32 := 0#32
  let c1_i32 : BitVec 32 := 1#32
  let arg22 : BitVec 32 := Scf.iv c0_i32_48 c1_i32 k0_t1
  let c32_i32_82 : BitVec 32 := 32#32
  let v142 : BitVec 32 := Scalar.muli arg22 c32_i32_82
  let v161 : Index := Scalar.indexCast v142
  let c0_89 : Index := 0#32
  let c64 : Index := 64#32
  ![v161.toNat, 0, 64]
@[reducible] def k0_t2_loop : Scf.Loop 32 :=
  let c0_i32_96 : BitVec 32 := 0#32
  let c32_i32_97 : BitVec 32 := 32#32
  let v173 : BitVec 32 := Scalar.addi c0_i32_96 c32_i32_97
  let c1_i32_98 : BitVec 32 := 1#32
  ⟨c0_i32_96, v173, c1_i32_98⟩
def k0_off4 (k0_t2 : Fin k0_t2_loop.trips) : Fin 3 → Nat :=
  let c0_i32_96 : BitVec 32 := 0#32
  let c1_i32_98 : BitVec 32 := 1#32
  let arg24 : BitVec 32 := Scf.iv c0_i32_96 c1_i32_98 k0_t2
  let v184 : Index := Scalar.indexCast arg24
  let c0_108 : Index := 0#32
  let c0_109 : Index := 0#32
  ![v184.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1536x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x16x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1536x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1024x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S2x1024x768 : Shape := ⟨3, ![2, 1024, 768]⟩
abbrev S4x3072x768 : Shape := ⟨3, ![4, 3072, 768]⟩
abbrev S4x1536x4 : Shape := ⟨3, ![4, 1536, 4]⟩
abbrev S4x1536 : Shape := ⟨2, ![4, 1536]⟩
abbrev S4x80x1536 : Shape := ⟨3, ![4, 80, 1536]⟩
abbrev S4x1536x48 : Shape := ⟨3, ![4, 1536, 48]⟩
abbrev S4x1536x16 : Shape := ⟨3, ![4, 1536, 16]⟩
abbrev S4x768x1536 : Shape := ⟨3, ![4, 768, 1536]⟩
abbrev S4x768 : Shape := ⟨2, ![4, 768]⟩
abbrev S1x3072x768 : Shape := ⟨3, ![1, 3072, 768]⟩
abbrev S3072x768 : Shape := ⟨2, ![3072, 768]⟩
abbrev S1x1536x4 : Shape := ⟨3, ![1, 1536, 4]⟩
abbrev S1536x4 : Shape := ⟨2, ![1536, 4]⟩
abbrev S1x1536 : Shape := ⟨2, ![1, 1536]⟩
abbrev S1536 : Shape := ⟨1, ![1536]⟩
abbrev S1x80x1536 : Shape := ⟨3, ![1, 80, 1536]⟩
abbrev S80x1536 : Shape := ⟨2, ![80, 1536]⟩
abbrev S1x1536x48 : Shape := ⟨3, ![1, 1536, 48]⟩
abbrev S1536x48 : Shape := ⟨2, ![1536, 48]⟩
abbrev S1x1536x16 : Shape := ⟨3, ![1, 1536, 16]⟩
abbrev S1536x16 : Shape := ⟨2, ![1536, 16]⟩
abbrev S1x768x1536 : Shape := ⟨3, ![1, 768, 1536]⟩
abbrev S768x1536 : Shape := ⟨2, ![768, 1536]⟩
abbrev S1x768 : Shape := ⟨2, ![1, 768]⟩
abbrev S768 : Shape := ⟨1, ![768]⟩
abbrev S2x1024x3072 : Shape := ⟨3, ![2, 1024, 3072]⟩
abbrev S2x1024x1536 : Shape := ⟨3, ![2, 1024, 1536]⟩
abbrev S_ : Shape := ⟨0, ![]⟩
abbrev S2x1027x1536 : Shape := ⟨3, ![2, 1027, 1536]⟩
abbrev S1536x1 : Shape := ⟨2, ![1536, 1]⟩
abbrev S1x1x1536 : Shape := ⟨3, ![1, 1, 1536]⟩
abbrev S2x1024x80 : Shape := ⟨3, ![2, 1024, 80]⟩
abbrev S2x1024x48 : Shape := ⟨3, ![2, 1024, 48]⟩
abbrev S2x1024x16 : Shape := ⟨3, ![2, 1024, 16]⟩
abbrev S2x1024x1536x1 : Shape := ⟨4, ![2, 1024, 1536, 1]⟩
abbrev S1x1x1536x16 : Shape := ⟨4, ![1, 1, 1536, 16]⟩
abbrev S2x1024x1536x16 : Shape := ⟨4, ![2, 1024, 1536, 16]⟩
abbrev S2x1024x1x16 : Shape := ⟨4, ![2, 1024, 1, 16]⟩
abbrev S2x1536x16 : Shape := ⟨3, ![2, 1536, 16]⟩
abbrev S1024x2x1536x16 : Shape := ⟨4, ![1024, 2, 1536, 16]⟩
abbrev S1024x2x16 : Shape := ⟨3, ![1024, 2, 16]⟩
abbrev S1024x2x1536 : Shape := ⟨3, ![1024, 2, 1536]⟩
abbrev S1x2x1536x16 : Shape := ⟨4, ![1, 2, 1536, 16]⟩
abbrev S1x2x16 : Shape := ⟨3, ![1, 2, 16]⟩
abbrev S2x16 : Shape := ⟨2, ![2, 16]⟩
abbrev S2x1536 : Shape := ⟨2, ![2, 1536]⟩
abbrev S1x2x1536 : Shape := ⟨3, ![1, 2, 1536]⟩
abbrev S2x1024 : Shape := ⟨2, ![2, 1024]⟩
abbrev S2x1024x1 : Shape := ⟨3, ![2, 1024, 1]⟩
abbrev S1x1x768 : Shape := ⟨3, ![1, 1, 768]⟩

abbrev nBuf : Space → Nat
  | .hbm => 776
  | .vmem => 0
  | .smem => 0
  | _ => 0

abbrev hbmTy0_0 (i : Nat) : BufTy := match i % 128 with
  | 0 => ⟨S2x1024x768, .f32⟩
  | 1 => ⟨S4x3072x768, .f32⟩
  | 2 => ⟨S4x1536x4, .f32⟩
  | 3 => ⟨S4x1536, .f32⟩
  | 4 => ⟨S4x80x1536, .f32⟩
  | 5 => ⟨S4x1536x48, .f32⟩
  | 6 => ⟨S4x1536, .f32⟩
  | 7 => ⟨S4x1536x16, .f32⟩
  | 8 => ⟨S4x1536, .f32⟩
  | 9 => ⟨S4x768x1536, .f32⟩
  | 10 => ⟨S4x768, .f32⟩
  | 11 => ⟨S4x768, .f32⟩
  | 12 => ⟨S1x3072x768, .f32⟩
  | 13 => ⟨S3072x768, .f32⟩
  | 14 => ⟨S1x1536x4, .f32⟩
  | 15 => ⟨S1536x4, .f32⟩
  | 16 => ⟨S1x1536, .f32⟩
  | 17 => ⟨S1536, .f32⟩
  | 18 => ⟨S1x80x1536, .f32⟩
  | 19 => ⟨S80x1536, .f32⟩
  | 20 => ⟨S1x1536x48, .f32⟩
  | 21 => ⟨S1536x48, .f32⟩
  | 22 => ⟨S1x1536, .f32⟩
  | 23 => ⟨S1536, .f32⟩
  | 24 => ⟨S1x1536x16, .f32⟩
  | 25 => ⟨S1536x16, .f32⟩
  | 26 => ⟨S1x1536, .f32⟩
  | 27 => ⟨S1536, .f32⟩
  | 28 => ⟨S1x768x1536, .f32⟩
  | 29 => ⟨S768x1536, .f32⟩
  | 30 => ⟨S1x768, .f32⟩
  | 31 => ⟨S768, .f32⟩
  | 32 => ⟨S1x768, .f32⟩
  | 33 => ⟨S768, .f32⟩
  | 34 => ⟨S2x1024x3072, .f32⟩
  | 35 => ⟨S2x1024x1536, .f32⟩
  | 36 => ⟨S2x1024x1536, .f32⟩
  | 37 => ⟨S_, .i32⟩
  | 38 => ⟨S_, .f32⟩
  | 39 => ⟨S2x1027x1536, .f32⟩
  | 40 => ⟨S2x1024x1536, .f32⟩
  | 41 => ⟨S1536x1, .f32⟩
  | 42 => ⟨S1536, .f32⟩
  | 43 => ⟨S1x1x1536, .f32⟩
  | 44 => ⟨S2x1024x1536, .f32⟩
  | 45 => ⟨S2x1024x1536, .f32⟩
  | 46 => ⟨S_, .f32⟩
  | 47 => ⟨S2x1024x1536, .f32⟩
  | 48 => ⟨S2x1024x1536, .f32⟩
  | 49 => ⟨S2x1024x1536, .f32⟩
  | 50 => ⟨S1536x1, .f32⟩
  | 51 => ⟨S1536, .f32⟩
  | 52 => ⟨S1x1x1536, .f32⟩
  | 53 => ⟨S2x1024x1536, .f32⟩
  | 54 => ⟨S2x1024x1536, .f32⟩
  | 55 => ⟨S2x1024x1536, .f32⟩
  | 56 => ⟨S2x1024x1536, .f32⟩
  | 57 => ⟨S1536x1, .f32⟩
  | 58 => ⟨S1536, .f32⟩
  | 59 => ⟨S1x1x1536, .f32⟩
  | 60 => ⟨S2x1024x1536, .f32⟩
  | 61 => ⟨S2x1024x1536, .f32⟩
  | 62 => ⟨S2x1024x1536, .f32⟩
  | 63 => ⟨S2x1024x1536, .f32⟩
  | 64 => ⟨S1536x1, .f32⟩
  | 65 => ⟨S1536, .f32⟩
  | 66 => ⟨S1x1x1536, .f32⟩
  | 67 => ⟨S2x1024x1536, .f32⟩
  | 68 => ⟨S2x1024x1536, .f32⟩
  | 69 => ⟨S2x1024x1536, .f32⟩
  | 70 => ⟨S1x1x1536, .f32⟩
  | 71 => ⟨S2x1024x1536, .f32⟩
  | 72 => ⟨S2x1024x1536, .f32⟩
  | 73 => ⟨S2x1024x1536, .f32⟩
  | 74 => ⟨S2x1024x1536, .f32⟩
  | 75 => ⟨S_, .f32⟩
  | 76 => ⟨S2x1024x1536, .f32⟩
  | 77 => ⟨S2x1024x1536, .f32⟩
  | 78 => ⟨S_, .f32⟩
  | 79 => ⟨S2x1024x1536, .f32⟩
  | 80 => ⟨S2x1024x1536, .f32⟩
  | 81 => ⟨S2x1024x1536, .f32⟩
  | 82 => ⟨S2x1024x80, .f32⟩
  | 83 => ⟨S2x1024x48, .f32⟩
  | 84 => ⟨S2x1024x16, .f32⟩
  | 85 => ⟨S2x1024x16, .f32⟩
  | 86 => ⟨S2x1024x1536, .f32⟩
  | 87 => ⟨S1x1x1536, .f32⟩
  | 88 => ⟨S2x1024x1536, .f32⟩
  | 89 => ⟨S2x1024x1536, .f32⟩
  | 90 => ⟨S_, .f32⟩
  | 91 => ⟨S2x1024x1536, .f32⟩
  | 92 => ⟨S2x1024x1536, .f32⟩
  | 93 => ⟨S2x1024x1536, .f32⟩
  | 94 => ⟨S2x1024x1536, .f32⟩
  | 95 => ⟨S2x1024x1536, .i1⟩
  | 96 => ⟨S2x1024x1536, .f32⟩
  | 97 => ⟨S2x1024x1536, .f32⟩
  | 98 => ⟨S2x1024x1536, .f32⟩
  | 99 => ⟨S2x1024x1536, .f32⟩
  | 100 => ⟨S2x1024x1536, .f32⟩
  | 101 => ⟨S2x1024x1536, .f32⟩
  | 102 => ⟨S2x1024x1536, .f32⟩
  | 103 => ⟨S2x1024x1536, .f32⟩
  | 104 => ⟨S1536x16, .f32⟩
  | 105 => ⟨S1536x16, .f32⟩
  | 106 => ⟨S2x1024x1536x1, .f32⟩
  | 107 => ⟨S1x1x1536x16, .f32⟩
  | 108 => ⟨S2x1024x1536x16, .f32⟩
  | 109 => ⟨S2x1024x1536x16, .f32⟩
  | 110 => ⟨S2x1024x1536x16, .f32⟩
  | 111 => ⟨S2x1024x1536x16, .f32⟩
  | 112 => ⟨S2x1024x1536, .f32⟩
  | 113 => ⟨S2x1024x1536x1, .f32⟩
  | 114 => ⟨S2x1024x1x16, .f32⟩
  | 115 => ⟨S2x1024x1536x16, .f32⟩
  | 116 => ⟨S2x1024x1536x16, .f32⟩
  | 117 => ⟨S2x1024x1536x16, .f32⟩
  | 118 => ⟨S_, .f32⟩
  | 119 => ⟨S2x1536x16, .f32⟩
  | 120 => ⟨S1024x2x1536x16, .f32⟩
  | 121 => ⟨S1024x2x1536x16, .f32⟩
  | 122 => ⟨S1024x2x16, .f32⟩
  | 123 => ⟨S_, .f32⟩
  | 124 => ⟨S1024x2x1536, .f32⟩
  | 125 => ⟨S_, .i32⟩
  | 126 => ⟨S1024x2x1536x16, .f32⟩
  | 127 => ⟨S1024x2x1536x16, .f32⟩
  | _ => ⟨S2x1024x768, .f32⟩

abbrev hbmTy0_1 (i : Nat) : BufTy := match i % 128 with
  | 0 => ⟨S1024x2x16, .f32⟩
  | 1 => ⟨S_, .i32⟩
  | 2 => ⟨S2x1536x16, .f32⟩
  | 3 => ⟨S1024x2x1536, .f32⟩
  | 4 => ⟨S_, .i32⟩
  | 5 => ⟨S_, .i1⟩
  | 6 => ⟨S_, .i32⟩
  | 7 => ⟨S_, .i32⟩
  | 8 => ⟨S_, .i32⟩
  | 9 => ⟨S1x2x1536x16, .f32⟩
  | 10 => ⟨S2x1536x16, .f32⟩
  | 11 => ⟨S_, .i32⟩
  | 12 => ⟨S_, .i32⟩
  | 13 => ⟨S_, .i32⟩
  | 14 => ⟨S1x2x1536x16, .f32⟩
  | 15 => ⟨S2x1536x16, .f32⟩
  | 16 => ⟨S_, .i32⟩
  | 17 => ⟨S_, .i32⟩
  | 18 => ⟨S1x2x16, .f32⟩
  | 19 => ⟨S2x16, .f32⟩
  | 20 => ⟨S2x1536x16, .f32⟩
  | 21 => ⟨S2x1536x16, .f32⟩
  | 22 => ⟨S2x1536, .f32⟩
  | 23 => ⟨S1x2x1536, .f32⟩
  | 24 => ⟨S_, .i32⟩
  | 25 => ⟨S_, .i32⟩
  | 26 => ⟨S1024x2x1536, .f32⟩
  | 27 => ⟨S_, .i32⟩
  | 28 => ⟨S_, .i32⟩
  | 29 => ⟨S2x1024x1536, .f32⟩
  | 30 => ⟨S1x1x1536, .f32⟩
  | 31 => ⟨S2x1024x1536, .f32⟩
  | 32 => ⟨S2x1024x1536, .f32⟩
  | 33 => ⟨S2x1024x1536, .f32⟩
  | 34 => ⟨S2x1024x1536, .f32⟩
  | 35 => ⟨S2x1024x1536, .f32⟩
  | 36 => ⟨S_, .f32⟩
  | 37 => ⟨S2x1024x1536, .f32⟩
  | 38 => ⟨S2x1024x1536, .f32⟩
  | 39 => ⟨S_, .f32⟩
  | 40 => ⟨S2x1024x1536, .f32⟩
  | 41 => ⟨S2x1024x1536, .f32⟩
  | 42 => ⟨S2x1024x1536, .f32⟩
  | 43 => ⟨S2x1024x1536, .f32⟩
  | 44 => ⟨S2x1024x768, .f32⟩
  | 45 => ⟨S2x1024x768, .f32⟩
  | 46 => ⟨S_, .f32⟩
  | 47 => ⟨S2x1024, .f32⟩
  | 48 => ⟨S2x1024x1, .f32⟩
  | 49 => ⟨S_, .f32⟩
  | 50 => ⟨S2x1024x1, .f32⟩
  | 51 => ⟨S2x1024x1, .f32⟩
  | 52 => ⟨S2x1024x768, .f32⟩
  | 53 => ⟨S2x1024x768, .f32⟩
  | 54 => ⟨S2x1024x768, .f32⟩
  | 55 => ⟨S_, .f32⟩
  | 56 => ⟨S2x1024, .f32⟩
  | 57 => ⟨S2x1024x1, .f32⟩
  | 58 => ⟨S_, .f32⟩
  | 59 => ⟨S2x1024x1, .f32⟩
  | 60 => ⟨S2x1024x1, .f32⟩
  | 61 => ⟨S2x1024x768, .f32⟩
  | 62 => ⟨S2x1024x768, .f32⟩
  | 63 => ⟨S_, .f32⟩
  | 64 => ⟨S2x1024x1, .f32⟩
  | 65 => ⟨S2x1024x1, .f32⟩
  | 66 => ⟨S2x1024x1, .f32⟩
  | 67 => ⟨S2x1024x768, .f32⟩
  | 68 => ⟨S2x1024x768, .f32⟩
  | 69 => ⟨S1x1x768, .f32⟩
  | 70 => ⟨S2x1024x768, .f32⟩
  | 71 => ⟨S2x1024x768, .f32⟩
  | 72 => ⟨S1x1x768, .f32⟩
  | 73 => ⟨S2x1024x768, .f32⟩
  | 74 => ⟨S2x1024x768, .f32⟩
  | 75 => ⟨S1x3072x768, .f32⟩
  | 76 => ⟨S3072x768, .f32⟩
  | 77 => ⟨S1x1536x4, .f32⟩
  | 78 => ⟨S1536x4, .f32⟩
  | 79 => ⟨S1x1536, .f32⟩
  | 80 => ⟨S1536, .f32⟩
  | 81 => ⟨S1x80x1536, .f32⟩
  | 82 => ⟨S80x1536, .f32⟩
  | 83 => ⟨S1x1536x48, .f32⟩
  | 84 => ⟨S1536x48, .f32⟩
  | 85 => ⟨S1x1536, .f32⟩
  | 86 => ⟨S1536, .f32⟩
  | 87 => ⟨S1x1536x16, .f32⟩
  | 88 => ⟨S1536x16, .f32⟩
  | 89 => ⟨S1x1536, .f32⟩
  | 90 => ⟨S1536, .f32⟩
  | 91 => ⟨S1x768x1536, .f32⟩
  | 92 => ⟨S768x1536, .f32⟩
  | 93 => ⟨S1x768, .f32⟩
  | 94 => ⟨S768, .f32⟩
  | 95 => ⟨S1x768, .f32⟩
  | 96 => ⟨S768, .f32⟩
  | 97 => ⟨S2x1024x3072, .f32⟩
  | 98 => ⟨S2x1024x1536, .f32⟩
  | 99 => ⟨S2x1024x1536, .f32⟩
  | 100 => ⟨S_, .i32⟩
  | 101 => ⟨S_, .f32⟩
  | 102 => ⟨S2x1027x1536, .f32⟩
  | 103 => ⟨S2x1024x1536, .f32⟩
  | 104 => ⟨S1536x1, .f32⟩
  | 105 => ⟨S1536, .f32⟩
  | 106 => ⟨S1x1x1536, .f32⟩
  | 107 => ⟨S2x1024x1536, .f32⟩
  | 108 => ⟨S2x1024x1536, .f32⟩
  | 109 => ⟨S_, .f32⟩
  | 110 => ⟨S2x1024x1536, .f32⟩
  | 111 => ⟨S2x1024x1536, .f32⟩
  | 112 => ⟨S2x1024x1536, .f32⟩
  | 113 => ⟨S1536x1, .f32⟩
  | 114 => ⟨S1536, .f32⟩
  | 115 => ⟨S1x1x1536, .f32⟩
  | 116 => ⟨S2x1024x1536, .f32⟩
  | 117 => ⟨S2x1024x1536, .f32⟩
  | 118 => ⟨S2x1024x1536, .f32⟩
  | 119 => ⟨S2x1024x1536, .f32⟩
  | 120 => ⟨S1536x1, .f32⟩
  | 121 => ⟨S1536, .f32⟩
  | 122 => ⟨S1x1x1536, .f32⟩
  | 123 => ⟨S2x1024x1536, .f32⟩
  | 124 => ⟨S2x1024x1536, .f32⟩
  | 125 => ⟨S2x1024x1536, .f32⟩
  | 126 => ⟨S2x1024x1536, .f32⟩
  | 127 => ⟨S1536x1, .f32⟩
  | _ => ⟨S2x1024x768, .f32⟩

abbrev hbmTy0_2 (i : Nat) : BufTy := match i % 128 with
  | 0 => ⟨S1536, .f32⟩
  | 1 => ⟨S1x1x1536, .f32⟩
  | 2 => ⟨S2x1024x1536, .f32⟩
  | 3 => ⟨S2x1024x1536, .f32⟩
  | 4 => ⟨S2x1024x1536, .f32⟩
  | 5 => ⟨S1x1x1536, .f32⟩
  | 6 => ⟨S2x1024x1536, .f32⟩
  | 7 => ⟨S2x1024x1536, .f32⟩
  | 8 => ⟨S2x1024x1536, .f32⟩
  | 9 => ⟨S2x1024x1536, .f32⟩
  | 10 => ⟨S_, .f32⟩
  | 11 => ⟨S2x1024x1536, .f32⟩
  | 12 => ⟨S2x1024x1536, .f32⟩
  | 13 => ⟨S_, .f32⟩
  | 14 => ⟨S2x1024x1536, .f32⟩
  | 15 => ⟨S2x1024x1536, .f32⟩
  | 16 => ⟨S2x1024x1536, .f32⟩
  | 17 => ⟨S2x1024x80, .f32⟩
  | 18 => ⟨S2x1024x48, .f32⟩
  | 19 => ⟨S2x1024x16, .f32⟩
  | 20 => ⟨S2x1024x16, .f32⟩
  | 21 => ⟨S2x1024x1536, .f32⟩
  | 22 => ⟨S1x1x1536, .f32⟩
  | 23 => ⟨S2x1024x1536, .f32⟩
  | 24 => ⟨S2x1024x1536, .f32⟩
  | 25 => ⟨S_, .f32⟩
  | 26 => ⟨S2x1024x1536, .f32⟩
  | 27 => ⟨S2x1024x1536, .f32⟩
  | 28 => ⟨S2x1024x1536, .f32⟩
  | 29 => ⟨S2x1024x1536, .f32⟩
  | 30 => ⟨S2x1024x1536, .i1⟩
  | 31 => ⟨S2x1024x1536, .f32⟩
  | 32 => ⟨S2x1024x1536, .f32⟩
  | 33 => ⟨S2x1024x1536, .f32⟩
  | 34 => ⟨S2x1024x1536, .f32⟩
  | 35 => ⟨S2x1024x1536, .f32⟩
  | 36 => ⟨S2x1024x1536, .f32⟩
  | 37 => ⟨S2x1024x1536, .f32⟩
  | 38 => ⟨S2x1024x1536, .f32⟩
  | 39 => ⟨S1536x16, .f32⟩
  | 40 => ⟨S1536x16, .f32⟩
  | 41 => ⟨S2x1024x1536x1, .f32⟩
  | 42 => ⟨S1x1x1536x16, .f32⟩
  | 43 => ⟨S2x1024x1536x16, .f32⟩
  | 44 => ⟨S2x1024x1536x16, .f32⟩
  | 45 => ⟨S2x1024x1536x16, .f32⟩
  | 46 => ⟨S2x1024x1536x16, .f32⟩
  | 47 => ⟨S2x1024x1536, .f32⟩
  | 48 => ⟨S2x1024x1536x1, .f32⟩
  | 49 => ⟨S2x1024x1x16, .f32⟩
  | 50 => ⟨S2x1024x1536x16, .f32⟩
  | 51 => ⟨S2x1024x1536x16, .f32⟩
  | 52 => ⟨S2x1024x1536x16, .f32⟩
  | 53 => ⟨S_, .f32⟩
  | 54 => ⟨S2x1536x16, .f32⟩
  | 55 => ⟨S1024x2x1536x16, .f32⟩
  | 56 => ⟨S1024x2x1536x16, .f32⟩
  | 57 => ⟨S1024x2x16, .f32⟩
  | 58 => ⟨S_, .f32⟩
  | 59 => ⟨S1024x2x1536, .f32⟩
  | 60 => ⟨S_, .i32⟩
  | 61 => ⟨S1024x2x1536x16, .f32⟩
  | 62 => ⟨S1024x2x1536x16, .f32⟩
  | 63 => ⟨S1024x2x16, .f32⟩
  | 64 => ⟨S_, .i32⟩
  | 65 => ⟨S2x1536x16, .f32⟩
  | 66 => ⟨S1024x2x1536, .f32⟩
  | 67 => ⟨S_, .i32⟩
  | 68 => ⟨S_, .i1⟩
  | 69 => ⟨S_, .i32⟩
  | 70 => ⟨S_, .i32⟩
  | 71 => ⟨S_, .i32⟩
  | 72 => ⟨S1x2x1536x16, .f32⟩
  | 73 => ⟨S2x1536x16, .f32⟩
  | 74 => ⟨S_, .i32⟩
  | 75 => ⟨S_, .i32⟩
  | 76 => ⟨S_, .i32⟩
  | 77 => ⟨S1x2x1536x16, .f32⟩
  | 78 => ⟨S2x1536x16, .f32⟩
  | 79 => ⟨S_, .i32⟩
  | 80 => ⟨S_, .i32⟩
  | 81 => ⟨S1x2x16, .f32⟩
  | 82 => ⟨S2x16, .f32⟩
  | 83 => ⟨S2x1536x16, .f32⟩
  | 84 => ⟨S2x1536x16, .f32⟩
  | 85 => ⟨S2x1536, .f32⟩
  | 86 => ⟨S1x2x1536, .f32⟩
  | 87 => ⟨S_, .i32⟩
  | 88 => ⟨S_, .i32⟩
  | 89 => ⟨S1024x2x1536, .f32⟩
  | 90 => ⟨S_, .i32⟩
  | 91 => ⟨S_, .i32⟩
  | 92 => ⟨S2x1024x1536, .f32⟩
  | 93 => ⟨S1x1x1536, .f32⟩
  | 94 => ⟨S2x1024x1536, .f32⟩
  | 95 => ⟨S2x1024x1536, .f32⟩
  | 96 => ⟨S2x1024x1536, .f32⟩
  | 97 => ⟨S2x1024x1536, .f32⟩
  | 98 => ⟨S2x1024x1536, .f32⟩
  | 99 => ⟨S_, .f32⟩
  | 100 => ⟨S2x1024x1536, .f32⟩
  | 101 => ⟨S2x1024x1536, .f32⟩
  | 102 => ⟨S_, .f32⟩
  | 103 => ⟨S2x1024x1536, .f32⟩
  | 104 => ⟨S2x1024x1536, .f32⟩
  | 105 => ⟨S2x1024x1536, .f32⟩
  | 106 => ⟨S2x1024x1536, .f32⟩
  | 107 => ⟨S2x1024x768, .f32⟩
  | 108 => ⟨S2x1024x768, .f32⟩
  | 109 => ⟨S_, .f32⟩
  | 110 => ⟨S2x1024, .f32⟩
  | 111 => ⟨S2x1024x1, .f32⟩
  | 112 => ⟨S_, .f32⟩
  | 113 => ⟨S2x1024x1, .f32⟩
  | 114 => ⟨S2x1024x1, .f32⟩
  | 115 => ⟨S2x1024x768, .f32⟩
  | 116 => ⟨S2x1024x768, .f32⟩
  | 117 => ⟨S2x1024x768, .f32⟩
  | 118 => ⟨S_, .f32⟩
  | 119 => ⟨S2x1024, .f32⟩
  | 120 => ⟨S2x1024x1, .f32⟩
  | 121 => ⟨S_, .f32⟩
  | 122 => ⟨S2x1024x1, .f32⟩
  | 123 => ⟨S2x1024x1, .f32⟩
  | 124 => ⟨S2x1024x768, .f32⟩
  | 125 => ⟨S2x1024x768, .f32⟩
  | 126 => ⟨S_, .f32⟩
  | 127 => ⟨S2x1024x1, .f32⟩
  | _ => ⟨S2x1024x768, .f32⟩

abbrev hbmTy0_3 (i : Nat) : BufTy := match i % 128 with
  | 0 => ⟨S2x1024x1, .f32⟩
  | 1 => ⟨S2x1024x1, .f32⟩
  | 2 => ⟨S2x1024x768, .f32⟩
  | 3 => ⟨S2x1024x768, .f32⟩
  | 4 => ⟨S1x1x768, .f32⟩
  | 5 => ⟨S2x1024x768, .f32⟩
  | 6 => ⟨S2x1024x768, .f32⟩
  | 7 => ⟨S1x1x768, .f32⟩
  | 8 => ⟨S2x1024x768, .f32⟩
  | 9 => ⟨S2x1024x768, .f32⟩
  | 10 => ⟨S1x3072x768, .f32⟩
  | 11 => ⟨S3072x768, .f32⟩
  | 12 => ⟨S1x1536x4, .f32⟩
  | 13 => ⟨S1536x4, .f32⟩
  | 14 => ⟨S1x1536, .f32⟩
  | 15 => ⟨S1536, .f32⟩
  | 16 => ⟨S1x80x1536, .f32⟩
  | 17 => ⟨S80x1536, .f32⟩
  | 18 => ⟨S1x1536x48, .f32⟩
  | 19 => ⟨S1536x48, .f32⟩
  | 20 => ⟨S1x1536, .f32⟩
  | 21 => ⟨S1536, .f32⟩
  | 22 => ⟨S1x1536x16, .f32⟩
  | 23 => ⟨S1536x16, .f32⟩
  | 24 => ⟨S1x1536, .f32⟩
  | 25 => ⟨S1536, .f32⟩
  | 26 => ⟨S1x768x1536, .f32⟩
  | 27 => ⟨S768x1536, .f32⟩
  | 28 => ⟨S1x768, .f32⟩
  | 29 => ⟨S768, .f32⟩
  | 30 => ⟨S1x768, .f32⟩
  | 31 => ⟨S768, .f32⟩
  | 32 => ⟨S2x1024x3072, .f32⟩
  | 33 => ⟨S2x1024x1536, .f32⟩
  | 34 => ⟨S2x1024x1536, .f32⟩
  | 35 => ⟨S_, .i32⟩
  | 36 => ⟨S_, .f32⟩
  | 37 => ⟨S2x1027x1536, .f32⟩
  | 38 => ⟨S2x1024x1536, .f32⟩
  | 39 => ⟨S1536x1, .f32⟩
  | 40 => ⟨S1536, .f32⟩
  | 41 => ⟨S1x1x1536, .f32⟩
  | 42 => ⟨S2x1024x1536, .f32⟩
  | 43 => ⟨S2x1024x1536, .f32⟩
  | 44 => ⟨S_, .f32⟩
  | 45 => ⟨S2x1024x1536, .f32⟩
  | 46 => ⟨S2x1024x1536, .f32⟩
  | 47 => ⟨S2x1024x1536, .f32⟩
  | 48 => ⟨S1536x1, .f32⟩
  | 49 => ⟨S1536, .f32⟩
  | 50 => ⟨S1x1x1536, .f32⟩
  | 51 => ⟨S2x1024x1536, .f32⟩
  | 52 => ⟨S2x1024x1536, .f32⟩
  | 53 => ⟨S2x1024x1536, .f32⟩
  | 54 => ⟨S2x1024x1536, .f32⟩
  | 55 => ⟨S1536x1, .f32⟩
  | 56 => ⟨S1536, .f32⟩
  | 57 => ⟨S1x1x1536, .f32⟩
  | 58 => ⟨S2x1024x1536, .f32⟩
  | 59 => ⟨S2x1024x1536, .f32⟩
  | 60 => ⟨S2x1024x1536, .f32⟩
  | 61 => ⟨S2x1024x1536, .f32⟩
  | 62 => ⟨S1536x1, .f32⟩
  | 63 => ⟨S1536, .f32⟩
  | 64 => ⟨S1x1x1536, .f32⟩
  | 65 => ⟨S2x1024x1536, .f32⟩
  | 66 => ⟨S2x1024x1536, .f32⟩
  | 67 => ⟨S2x1024x1536, .f32⟩
  | 68 => ⟨S1x1x1536, .f32⟩
  | 69 => ⟨S2x1024x1536, .f32⟩
  | 70 => ⟨S2x1024x1536, .f32⟩
  | 71 => ⟨S2x1024x1536, .f32⟩
  | 72 => ⟨S2x1024x1536, .f32⟩
  | 73 => ⟨S_, .f32⟩
  | 74 => ⟨S2x1024x1536, .f32⟩
  | 75 => ⟨S2x1024x1536, .f32⟩
  | 76 => ⟨S_, .f32⟩
  | 77 => ⟨S2x1024x1536, .f32⟩
  | 78 => ⟨S2x1024x1536, .f32⟩
  | 79 => ⟨S2x1024x1536, .f32⟩
  | 80 => ⟨S2x1024x80, .f32⟩
  | 81 => ⟨S2x1024x48, .f32⟩
  | 82 => ⟨S2x1024x16, .f32⟩
  | 83 => ⟨S2x1024x16, .f32⟩
  | 84 => ⟨S2x1024x1536, .f32⟩
  | 85 => ⟨S1x1x1536, .f32⟩
  | 86 => ⟨S2x1024x1536, .f32⟩
  | 87 => ⟨S2x1024x1536, .f32⟩
  | 88 => ⟨S_, .f32⟩
  | 89 => ⟨S2x1024x1536, .f32⟩
  | 90 => ⟨S2x1024x1536, .f32⟩
  | 91 => ⟨S2x1024x1536, .f32⟩
  | 92 => ⟨S2x1024x1536, .f32⟩
  | 93 => ⟨S2x1024x1536, .i1⟩
  | 94 => ⟨S2x1024x1536, .f32⟩
  | 95 => ⟨S2x1024x1536, .f32⟩
  | 96 => ⟨S2x1024x1536, .f32⟩
  | 97 => ⟨S2x1024x1536, .f32⟩
  | 98 => ⟨S2x1024x1536, .f32⟩
  | 99 => ⟨S2x1024x1536, .f32⟩
  | 100 => ⟨S2x1024x1536, .f32⟩
  | 101 => ⟨S2x1024x1536, .f32⟩
  | 102 => ⟨S1536x16, .f32⟩
  | 103 => ⟨S1536x16, .f32⟩
  | 104 => ⟨S2x1024x1536x1, .f32⟩
  | 105 => ⟨S1x1x1536x16, .f32⟩
  | 106 => ⟨S2x1024x1536x16, .f32⟩
  | 107 => ⟨S2x1024x1536x16, .f32⟩
  | 108 => ⟨S2x1024x1536x16, .f32⟩
  | 109 => ⟨S2x1024x1536x16, .f32⟩
  | 110 => ⟨S2x1024x1536, .f32⟩
  | 111 => ⟨S2x1024x1536x1, .f32⟩
  | 112 => ⟨S2x1024x1x16, .f32⟩
  | 113 => ⟨S2x1024x1536x16, .f32⟩
  | 114 => ⟨S2x1024x1536x16, .f32⟩
  | 115 => ⟨S2x1024x1536x16, .f32⟩
  | 116 => ⟨S_, .f32⟩
  | 117 => ⟨S2x1536x16, .f32⟩
  | 118 => ⟨S1024x2x1536x16, .f32⟩
  | 119 => ⟨S1024x2x1536x16, .f32⟩
  | 120 => ⟨S1024x2x16, .f32⟩
  | 121 => ⟨S_, .f32⟩
  | 122 => ⟨S1024x2x1536, .f32⟩
  | 123 => ⟨S_, .i32⟩
  | 124 => ⟨S1024x2x1536x16, .f32⟩
  | 125 => ⟨S1024x2x1536x16, .f32⟩
  | 126 => ⟨S1024x2x16, .f32⟩
  | 127 => ⟨S_, .i32⟩
  | _ => ⟨S2x1024x768, .f32⟩

abbrev hbmTy0_4 (i : Nat) : BufTy := match i % 128 with
  | 0 => ⟨S2x1536x16, .f32⟩
  | 1 => ⟨S1024x2x1536, .f32⟩
  | 2 => ⟨S_, .i32⟩
  | 3 => ⟨S_, .i1⟩
  | 4 => ⟨S_, .i32⟩
  | 5 => ⟨S_, .i32⟩
  | 6 => ⟨S_, .i32⟩
  | 7 => ⟨S1x2x1536x16, .f32⟩
  | 8 => ⟨S2x1536x16, .f32⟩
  | 9 => ⟨S_, .i32⟩
  | 10 => ⟨S_, .i32⟩
  | 11 => ⟨S_, .i32⟩
  | 12 => ⟨S1x2x1536x16, .f32⟩
  | 13 => ⟨S2x1536x16, .f32⟩
  | 14 => ⟨S_, .i32⟩
  | 15 => ⟨S_, .i32⟩
  | 16 => ⟨S1x2x16, .f32⟩
  | 17 => ⟨S2x16, .f32⟩
  | 18 => ⟨S2x1536x16, .f32⟩
  | 19 => ⟨S2x1536x16, .f32⟩
  | 20 => ⟨S2x1536, .f32⟩
  | 21 => ⟨S1x2x1536, .f32⟩
  | 22 => ⟨S_, .i32⟩
  | 23 => ⟨S_, .i32⟩
  | 24 => ⟨S1024x2x1536, .f32⟩
  | 25 => ⟨S_, .i32⟩
  | 26 => ⟨S_, .i32⟩
  | 27 => ⟨S2x1024x1536, .f32⟩
  | 28 => ⟨S1x1x1536, .f32⟩
  | 29 => ⟨S2x1024x1536, .f32⟩
  | 30 => ⟨S2x1024x1536, .f32⟩
  | 31 => ⟨S2x1024x1536, .f32⟩
  | 32 => ⟨S2x1024x1536, .f32⟩
  | 33 => ⟨S2x1024x1536, .f32⟩
  | 34 => ⟨S_, .f32⟩
  | 35 => ⟨S2x1024x1536, .f32⟩
  | 36 => ⟨S2x1024x1536, .f32⟩
  | 37 => ⟨S_, .f32⟩
  | 38 => ⟨S2x1024x1536, .f32⟩
  | 39 => ⟨S2x1024x1536, .f32⟩
  | 40 => ⟨S2x1024x1536, .f32⟩
  | 41 => ⟨S2x1024x1536, .f32⟩
  | 42 => ⟨S2x1024x768, .f32⟩
  | 43 => ⟨S2x1024x768, .f32⟩
  | 44 => ⟨S_, .f32⟩
  | 45 => ⟨S2x1024, .f32⟩
  | 46 => ⟨S2x1024x1, .f32⟩
  | 47 => ⟨S_, .f32⟩
  | 48 => ⟨S2x1024x1, .f32⟩
  | 49 => ⟨S2x1024x1, .f32⟩
  | 50 => ⟨S2x1024x768, .f32⟩
  | 51 => ⟨S2x1024x768, .f32⟩
  | 52 => ⟨S2x1024x768, .f32⟩
  | 53 => ⟨S_, .f32⟩
  | 54 => ⟨S2x1024, .f32⟩
  | 55 => ⟨S2x1024x1, .f32⟩
  | 56 => ⟨S_, .f32⟩
  | 57 => ⟨S2x1024x1, .f32⟩
  | 58 => ⟨S2x1024x1, .f32⟩
  | 59 => ⟨S2x1024x768, .f32⟩
  | 60 => ⟨S2x1024x768, .f32⟩
  | 61 => ⟨S_, .f32⟩
  | 62 => ⟨S2x1024x1, .f32⟩
  | 63 => ⟨S2x1024x1, .f32⟩
  | 64 => ⟨S2x1024x1, .f32⟩
  | 65 => ⟨S2x1024x768, .f32⟩
  | 66 => ⟨S2x1024x768, .f32⟩
  | 67 => ⟨S1x1x768, .f32⟩
  | 68 => ⟨S2x1024x768, .f32⟩
  | 69 => ⟨S2x1024x768, .f32⟩
  | 70 => ⟨S1x1x768, .f32⟩
  | 71 => ⟨S2x1024x768, .f32⟩
  | 72 => ⟨S2x1024x768, .f32⟩
  | 73 => ⟨S1x3072x768, .f32⟩
  | 74 => ⟨S3072x768, .f32⟩
  | 75 => ⟨S1x1536x4, .f32⟩
  | 76 => ⟨S1536x4, .f32⟩
  | 77 => ⟨S1x1536, .f32⟩
  | 78 => ⟨S1536, .f32⟩
  | 79 => ⟨S1x80x1536, .f32⟩
  | 80 => ⟨S80x1536, .f32⟩
  | 81 => ⟨S1x1536x48, .f32⟩
  | 82 => ⟨S1536x48, .f32⟩
  | 83 => ⟨S1x1536, .f32⟩
  | 84 => ⟨S1536, .f32⟩
  | 85 => ⟨S1x1536x16, .f32⟩
  | 86 => ⟨S1536x16, .f32⟩
  | 87 => ⟨S1x1536, .f32⟩
  | 88 => ⟨S1536, .f32⟩
  | 89 => ⟨S1x768x1536, .f32⟩
  | 90 => ⟨S768x1536, .f32⟩
  | 91 => ⟨S1x768, .f32⟩
  | 92 => ⟨S768, .f32⟩
  | 93 => ⟨S1x768, .f32⟩
  | 94 => ⟨S768, .f32⟩
  | 95 => ⟨S2x1024x3072, .f32⟩
  | 96 => ⟨S2x1024x1536, .f32⟩
  | 97 => ⟨S2x1024x1536, .f32⟩
  | 98 => ⟨S_, .i32⟩
  | 99 => ⟨S_, .f32⟩
  | 100 => ⟨S2x1027x1536, .f32⟩
  | 101 => ⟨S2x1024x1536, .f32⟩
  | 102 => ⟨S1536x1, .f32⟩
  | 103 => ⟨S1536, .f32⟩
  | 104 => ⟨S1x1x1536, .f32⟩
  | 105 => ⟨S2x1024x1536, .f32⟩
  | 106 => ⟨S2x1024x1536, .f32⟩
  | 107 => ⟨S_, .f32⟩
  | 108 => ⟨S2x1024x1536, .f32⟩
  | 109 => ⟨S2x1024x1536, .f32⟩
  | 110 => ⟨S2x1024x1536, .f32⟩
  | 111 => ⟨S1536x1, .f32⟩
  | 112 => ⟨S1536, .f32⟩
  | 113 => ⟨S1x1x1536, .f32⟩
  | 114 => ⟨S2x1024x1536, .f32⟩
  | 115 => ⟨S2x1024x1536, .f32⟩
  | 116 => ⟨S2x1024x1536, .f32⟩
  | 117 => ⟨S2x1024x1536, .f32⟩
  | 118 => ⟨S1536x1, .f32⟩
  | 119 => ⟨S1536, .f32⟩
  | 120 => ⟨S1x1x1536, .f32⟩
  | 121 => ⟨S2x1024x1536, .f32⟩
  | 122 => ⟨S2x1024x1536, .f32⟩
  | 123 => ⟨S2x1024x1536, .f32⟩
  | 124 => ⟨S2x1024x1536, .f32⟩
  | 125 => ⟨S1536x1, .f32⟩
  | 126 => ⟨S1536, .f32⟩
  | 127 => ⟨S1x1x1536, .f32⟩
  | _ => ⟨S2x1024x768, .f32⟩

abbrev hbmTy0_5 (i : Nat) : BufTy := match i % 128 with
  | 0 => ⟨S2x1024x1536, .f32⟩
  | 1 => ⟨S2x1024x1536, .f32⟩
  | 2 => ⟨S2x1024x1536, .f32⟩
  | 3 => ⟨S1x1x1536, .f32⟩
  | 4 => ⟨S2x1024x1536, .f32⟩
  | 5 => ⟨S2x1024x1536, .f32⟩
  | 6 => ⟨S2x1024x1536, .f32⟩
  | 7 => ⟨S2x1024x1536, .f32⟩
  | 8 => ⟨S_, .f32⟩
  | 9 => ⟨S2x1024x1536, .f32⟩
  | 10 => ⟨S2x1024x1536, .f32⟩
  | 11 => ⟨S_, .f32⟩
  | 12 => ⟨S2x1024x1536, .f32⟩
  | 13 => ⟨S2x1024x1536, .f32⟩
  | 14 => ⟨S2x1024x1536, .f32⟩
  | 15 => ⟨S2x1024x80, .f32⟩
  | 16 => ⟨S2x1024x48, .f32⟩
  | 17 => ⟨S2x1024x16, .f32⟩
  | 18 => ⟨S2x1024x16, .f32⟩
  | 19 => ⟨S2x1024x1536, .f32⟩
  | 20 => ⟨S1x1x1536, .f32⟩
  | 21 => ⟨S2x1024x1536, .f32⟩
  | 22 => ⟨S2x1024x1536, .f32⟩
  | 23 => ⟨S_, .f32⟩
  | 24 => ⟨S2x1024x1536, .f32⟩
  | 25 => ⟨S2x1024x1536, .f32⟩
  | 26 => ⟨S2x1024x1536, .f32⟩
  | 27 => ⟨S2x1024x1536, .f32⟩
  | 28 => ⟨S2x1024x1536, .i1⟩
  | 29 => ⟨S2x1024x1536, .f32⟩
  | 30 => ⟨S2x1024x1536, .f32⟩
  | 31 => ⟨S2x1024x1536, .f32⟩
  | 32 => ⟨S2x1024x1536, .f32⟩
  | 33 => ⟨S2x1024x1536, .f32⟩
  | 34 => ⟨S2x1024x1536, .f32⟩
  | 35 => ⟨S2x1024x1536, .f32⟩
  | 36 => ⟨S2x1024x1536, .f32⟩
  | 37 => ⟨S1536x16, .f32⟩
  | 38 => ⟨S1536x16, .f32⟩
  | 39 => ⟨S2x1024x1536x1, .f32⟩
  | 40 => ⟨S1x1x1536x16, .f32⟩
  | 41 => ⟨S2x1024x1536x16, .f32⟩
  | 42 => ⟨S2x1024x1536x16, .f32⟩
  | 43 => ⟨S2x1024x1536x16, .f32⟩
  | 44 => ⟨S2x1024x1536x16, .f32⟩
  | 45 => ⟨S2x1024x1536, .f32⟩
  | 46 => ⟨S2x1024x1536x1, .f32⟩
  | 47 => ⟨S2x1024x1x16, .f32⟩
  | 48 => ⟨S2x1024x1536x16, .f32⟩
  | 49 => ⟨S2x1024x1536x16, .f32⟩
  | 50 => ⟨S2x1024x1536x16, .f32⟩
  | 51 => ⟨S_, .f32⟩
  | 52 => ⟨S2x1536x16, .f32⟩
  | 53 => ⟨S1024x2x1536x16, .f32⟩
  | 54 => ⟨S1024x2x1536x16, .f32⟩
  | 55 => ⟨S1024x2x16, .f32⟩
  | 56 => ⟨S_, .f32⟩
  | 57 => ⟨S1024x2x1536, .f32⟩
  | 58 => ⟨S_, .i32⟩
  | 59 => ⟨S1024x2x1536x16, .f32⟩
  | 60 => ⟨S1024x2x1536x16, .f32⟩
  | 61 => ⟨S1024x2x16, .f32⟩
  | 62 => ⟨S_, .i32⟩
  | 63 => ⟨S2x1536x16, .f32⟩
  | 64 => ⟨S1024x2x1536, .f32⟩
  | 65 => ⟨S_, .i32⟩
  | 66 => ⟨S_, .i1⟩
  | 67 => ⟨S_, .i32⟩
  | 68 => ⟨S_, .i32⟩
  | 69 => ⟨S_, .i32⟩
  | 70 => ⟨S1x2x1536x16, .f32⟩
  | 71 => ⟨S2x1536x16, .f32⟩
  | 72 => ⟨S_, .i32⟩
  | 73 => ⟨S_, .i32⟩
  | 74 => ⟨S_, .i32⟩
  | 75 => ⟨S1x2x1536x16, .f32⟩
  | 76 => ⟨S2x1536x16, .f32⟩
  | 77 => ⟨S_, .i32⟩
  | 78 => ⟨S_, .i32⟩
  | 79 => ⟨S1x2x16, .f32⟩
  | 80 => ⟨S2x16, .f32⟩
  | 81 => ⟨S2x1536x16, .f32⟩
  | 82 => ⟨S2x1536x16, .f32⟩
  | 83 => ⟨S2x1536, .f32⟩
  | 84 => ⟨S1x2x1536, .f32⟩
  | 85 => ⟨S_, .i32⟩
  | 86 => ⟨S_, .i32⟩
  | 87 => ⟨S1024x2x1536, .f32⟩
  | 88 => ⟨S_, .i32⟩
  | 89 => ⟨S_, .i32⟩
  | 90 => ⟨S2x1024x1536, .f32⟩
  | 91 => ⟨S1x1x1536, .f32⟩
  | 92 => ⟨S2x1024x1536, .f32⟩
  | 93 => ⟨S2x1024x1536, .f32⟩
  | 94 => ⟨S2x1024x1536, .f32⟩
  | 95 => ⟨S2x1024x1536, .f32⟩
  | 96 => ⟨S2x1024x1536, .f32⟩
  | 97 => ⟨S_, .f32⟩
  | 98 => ⟨S2x1024x1536, .f32⟩
  | 99 => ⟨S2x1024x1536, .f32⟩
  | 100 => ⟨S_, .f32⟩
  | 101 => ⟨S2x1024x1536, .f32⟩
  | 102 => ⟨S2x1024x1536, .f32⟩
  | 103 => ⟨S2x1024x1536, .f32⟩
  | 104 => ⟨S2x1024x1536, .f32⟩
  | 105 => ⟨S2x1024x768, .f32⟩
  | 106 => ⟨S2x1024x768, .f32⟩
  | 107 => ⟨S_, .f32⟩
  | 108 => ⟨S2x1024, .f32⟩
  | 109 => ⟨S2x1024x1, .f32⟩
  | 110 => ⟨S_, .f32⟩
  | 111 => ⟨S2x1024x1, .f32⟩
  | 112 => ⟨S2x1024x1, .f32⟩
  | 113 => ⟨S2x1024x768, .f32⟩
  | 114 => ⟨S2x1024x768, .f32⟩
  | 115 => ⟨S2x1024x768, .f32⟩
  | 116 => ⟨S_, .f32⟩
  | 117 => ⟨S2x1024, .f32⟩
  | 118 => ⟨S2x1024x1, .f32⟩
  | 119 => ⟨S_, .f32⟩
  | 120 => ⟨S2x1024x1, .f32⟩
  | 121 => ⟨S2x1024x1, .f32⟩
  | 122 => ⟨S2x1024x768, .f32⟩
  | 123 => ⟨S2x1024x768, .f32⟩
  | 124 => ⟨S_, .f32⟩
  | 125 => ⟨S2x1024x1, .f32⟩
  | 126 => ⟨S2x1024x1, .f32⟩
  | 127 => ⟨S2x1024x1, .f32⟩
  | _ => ⟨S2x1024x768, .f32⟩

abbrev hbmTy0_6 (i : Nat) : BufTy := match i % 128 with
  | 0 => ⟨S2x1024x768, .f32⟩
  | 1 => ⟨S2x1024x768, .f32⟩
  | 2 => ⟨S1x1x768, .f32⟩
  | 3 => ⟨S2x1024x768, .f32⟩
  | 4 => ⟨S2x1024x768, .f32⟩
  | 5 => ⟨S1x1x768, .f32⟩
  | 6 => ⟨S2x1024x768, .f32⟩
  | 7 => ⟨S2x1024x768, .f32⟩
  | _ => ⟨S2x1024x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x1024x768, .f32⟩

abbrev bufTy : (tb : Table) → Fin (tcTables nBuf tb) → BufTy
  | .hbm, ⟨i, _⟩ => hbmTy i
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_c : Ref sig .tc := ⟨.hbm, 37, rfl⟩
abbrev main_call0_call0_v0 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_cst : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_v15 : Ref sig .tc := ⟨.hbm, 52, rfl⟩
abbrev main_call0_v16 : Ref sig .tc := ⟨.hbm, 53, rfl⟩
abbrev main_call0_v17 : Ref sig .tc := ⟨.hbm, 54, rfl⟩
abbrev main_call0_v18 : Ref sig .tc := ⟨.hbm, 55, rfl⟩
abbrev main_call0_v19 : Ref sig .tc := ⟨.hbm, 56, rfl⟩
abbrev main_call0_v20 : Ref sig .tc := ⟨.hbm, 57, rfl⟩
abbrev main_call0_v21 : Ref sig .tc := ⟨.hbm, 58, rfl⟩
abbrev main_call0_v22 : Ref sig .tc := ⟨.hbm, 59, rfl⟩
abbrev main_call0_v23 : Ref sig .tc := ⟨.hbm, 60, rfl⟩
abbrev main_call0_v24 : Ref sig .tc := ⟨.hbm, 61, rfl⟩
abbrev main_call0_v25 : Ref sig .tc := ⟨.hbm, 62, rfl⟩
abbrev main_call0_v26 : Ref sig .tc := ⟨.hbm, 63, rfl⟩
abbrev main_call0_v27 : Ref sig .tc := ⟨.hbm, 64, rfl⟩
abbrev main_call0_v28 : Ref sig .tc := ⟨.hbm, 65, rfl⟩
abbrev main_call0_v29 : Ref sig .tc := ⟨.hbm, 66, rfl⟩
abbrev main_call0_v30 : Ref sig .tc := ⟨.hbm, 67, rfl⟩
abbrev main_call0_v31 : Ref sig .tc := ⟨.hbm, 68, rfl⟩
abbrev main_call0_v32 : Ref sig .tc := ⟨.hbm, 69, rfl⟩
abbrev main_call0_v33 : Ref sig .tc := ⟨.hbm, 70, rfl⟩
abbrev main_call0_v34 : Ref sig .tc := ⟨.hbm, 71, rfl⟩
abbrev main_call0_v35 : Ref sig .tc := ⟨.hbm, 72, rfl⟩
abbrev main_call0_call1_v0 : Ref sig .tc := ⟨.hbm, 73, rfl⟩
abbrev main_call0_call1_v1 : Ref sig .tc := ⟨.hbm, 74, rfl⟩
abbrev main_call0_call1_cst : Ref sig .tc := ⟨.hbm, 75, rfl⟩
abbrev main_call0_call1_v2 : Ref sig .tc := ⟨.hbm, 76, rfl⟩
abbrev main_call0_call1_v3 : Ref sig .tc := ⟨.hbm, 77, rfl⟩
abbrev main_call0_call1_cst_0 : Ref sig .tc := ⟨.hbm, 78, rfl⟩
abbrev main_call0_call1_v4 : Ref sig .tc := ⟨.hbm, 79, rfl⟩
abbrev main_call0_call1_v5 : Ref sig .tc := ⟨.hbm, 80, rfl⟩
abbrev main_call0_v36 : Ref sig .tc := ⟨.hbm, 81, rfl⟩
abbrev main_call0_v37 : Ref sig .tc := ⟨.hbm, 82, rfl⟩
abbrev main_call0_v38 : Ref sig .tc := ⟨.hbm, 83, rfl⟩
abbrev main_call0_v39 : Ref sig .tc := ⟨.hbm, 84, rfl⟩
abbrev main_call0_v40 : Ref sig .tc := ⟨.hbm, 85, rfl⟩
abbrev main_call0_v41 : Ref sig .tc := ⟨.hbm, 86, rfl⟩
abbrev main_call0_v42 : Ref sig .tc := ⟨.hbm, 87, rfl⟩
abbrev main_call0_v43 : Ref sig .tc := ⟨.hbm, 88, rfl⟩
abbrev main_call0_v44 : Ref sig .tc := ⟨.hbm, 89, rfl⟩
abbrev main_call0_call2_cst : Ref sig .tc := ⟨.hbm, 90, rfl⟩
abbrev main_call0_call2_v0 : Ref sig .tc := ⟨.hbm, 91, rfl⟩
abbrev main_call0_call2_v1 : Ref sig .tc := ⟨.hbm, 92, rfl⟩
abbrev main_call0_call2_v2 : Ref sig .tc := ⟨.hbm, 93, rfl⟩
abbrev main_call0_call2_v3 : Ref sig .tc := ⟨.hbm, 94, rfl⟩
abbrev main_call0_call2_v4 : Ref sig .tc := ⟨.hbm, 95, rfl⟩
abbrev main_call0_call2_v5 : Ref sig .tc := ⟨.hbm, 96, rfl⟩
abbrev main_call0_call2_v6 : Ref sig .tc := ⟨.hbm, 97, rfl⟩
abbrev main_call0_call2_v7 : Ref sig .tc := ⟨.hbm, 98, rfl⟩
abbrev main_call0_call2_v8 : Ref sig .tc := ⟨.hbm, 99, rfl⟩
abbrev main_call0_call2_v9 : Ref sig .tc := ⟨.hbm, 100, rfl⟩
abbrev main_call0_call2_v10 : Ref sig .tc := ⟨.hbm, 101, rfl⟩
abbrev main_call0_call2_v11 : Ref sig .tc := ⟨.hbm, 102, rfl⟩
abbrev main_call0_v45 : Ref sig .tc := ⟨.hbm, 103, rfl⟩
abbrev main_call0_v46 : Ref sig .tc := ⟨.hbm, 104, rfl⟩
abbrev main_call0_v47 : Ref sig .tc := ⟨.hbm, 105, rfl⟩
abbrev main_call0_v48 : Ref sig .tc := ⟨.hbm, 106, rfl⟩
abbrev main_call0_v49 : Ref sig .tc := ⟨.hbm, 107, rfl⟩
abbrev main_call0_v50 : Ref sig .tc := ⟨.hbm, 108, rfl⟩
abbrev main_call0_v51 : Ref sig .tc := ⟨.hbm, 109, rfl⟩
abbrev main_call0_v52 : Ref sig .tc := ⟨.hbm, 110, rfl⟩
abbrev main_call0_v53 : Ref sig .tc := ⟨.hbm, 111, rfl⟩
abbrev main_call0_v54 : Ref sig .tc := ⟨.hbm, 112, rfl⟩
abbrev main_call0_v55 : Ref sig .tc := ⟨.hbm, 113, rfl⟩
abbrev main_call0_v56 : Ref sig .tc := ⟨.hbm, 114, rfl⟩
abbrev main_call0_v57 : Ref sig .tc := ⟨.hbm, 115, rfl⟩
abbrev main_call0_v58 : Ref sig .tc := ⟨.hbm, 116, rfl⟩
abbrev main_call0_v59 : Ref sig .tc := ⟨.hbm, 117, rfl⟩
abbrev main_call0_cst_0 : Ref sig .tc := ⟨.hbm, 118, rfl⟩
abbrev main_call0_v60 : Ref sig .tc := ⟨.hbm, 119, rfl⟩
abbrev main_call0_v61 : Ref sig .tc := ⟨.hbm, 120, rfl⟩
abbrev main_call0_v62 : Ref sig .tc := ⟨.hbm, 121, rfl⟩
abbrev main_call0_v63 : Ref sig .tc := ⟨.hbm, 122, rfl⟩
abbrev main_call0_cst_1 : Ref sig .tc := ⟨.hbm, 123, rfl⟩
abbrev main_call0_v64 : Ref sig .tc := ⟨.hbm, 124, rfl⟩
abbrev main_call0_c_2 : Ref sig .tc := ⟨.hbm, 125, rfl⟩
abbrev main_call0_v65_0 : Ref sig .tc := ⟨.hbm, 126, rfl⟩
abbrev main_call0_v65_1 : Ref sig .tc := ⟨.hbm, 127, rfl⟩
abbrev main_call0_v65_2 : Ref sig .tc := ⟨.hbm, 128, rfl⟩
abbrev main_call0_v65_3 : Ref sig .tc := ⟨.hbm, 129, rfl⟩
abbrev main_call0_v65_4 : Ref sig .tc := ⟨.hbm, 130, rfl⟩
abbrev main_call0_v65_5 : Ref sig .tc := ⟨.hbm, 131, rfl⟩
abbrev main_call0_while0c_c_13 : Ref sig .tc := ⟨.hbm, 132, rfl⟩
abbrev main_call0_while0c_v99 : Ref sig .tc := ⟨.hbm, 133, rfl⟩
abbrev main_call0_while0b_call3_c : Ref sig .tc := ⟨.hbm, 134, rfl⟩
abbrev main_call0_while0b_call3_c_0 : Ref sig .tc := ⟨.hbm, 135, rfl⟩
abbrev main_call0_while0b_call3_c_1 : Ref sig .tc := ⟨.hbm, 136, rfl⟩
abbrev main_call0_while0b_call3_v0 : Ref sig .tc := ⟨.hbm, 137, rfl⟩
abbrev main_call0_while0b_v99 : Ref sig .tc := ⟨.hbm, 138, rfl⟩
abbrev main_call0_while0b_call4_c : Ref sig .tc := ⟨.hbm, 139, rfl⟩
abbrev main_call0_while0b_call4_c_0 : Ref sig .tc := ⟨.hbm, 140, rfl⟩
abbrev main_call0_while0b_call4_c_1 : Ref sig .tc := ⟨.hbm, 141, rfl⟩
abbrev main_call0_while0b_call4_v0 : Ref sig .tc := ⟨.hbm, 142, rfl⟩
abbrev main_call0_while0b_v100 : Ref sig .tc := ⟨.hbm, 143, rfl⟩
abbrev main_call0_while0b_call5_c : Ref sig .tc := ⟨.hbm, 144, rfl⟩
abbrev main_call0_while0b_call5_c_0 : Ref sig .tc := ⟨.hbm, 145, rfl⟩
abbrev main_call0_while0b_call5_v0 : Ref sig .tc := ⟨.hbm, 146, rfl⟩
abbrev main_call0_while0b_v101 : Ref sig .tc := ⟨.hbm, 147, rfl⟩
abbrev main_call0_while0b_v102 : Ref sig .tc := ⟨.hbm, 148, rfl⟩
abbrev main_call0_while0b_v103 : Ref sig .tc := ⟨.hbm, 149, rfl⟩
abbrev main_call0_while0b_v104 : Ref sig .tc := ⟨.hbm, 150, rfl⟩
abbrev main_call0_while0b_call6_v0 : Ref sig .tc := ⟨.hbm, 151, rfl⟩
abbrev main_call0_while0b_call6_c : Ref sig .tc := ⟨.hbm, 152, rfl⟩
abbrev main_call0_while0b_call6_c_0 : Ref sig .tc := ⟨.hbm, 153, rfl⟩
abbrev main_call0_while0b_v105 : Ref sig .tc := ⟨.hbm, 154, rfl⟩
abbrev main_call0_while0b_c_13 : Ref sig .tc := ⟨.hbm, 155, rfl⟩
abbrev main_call0_while0b_v106 : Ref sig .tc := ⟨.hbm, 156, rfl⟩
abbrev main_call0_v66 : Ref sig .tc := ⟨.hbm, 157, rfl⟩
abbrev main_call0_v67 : Ref sig .tc := ⟨.hbm, 158, rfl⟩
abbrev main_call0_v68 : Ref sig .tc := ⟨.hbm, 159, rfl⟩
abbrev main_call0_v69 : Ref sig .tc := ⟨.hbm, 160, rfl⟩
abbrev main_call0_v70 : Ref sig .tc := ⟨.hbm, 161, rfl⟩
abbrev main_call0_call7_v0 : Ref sig .tc := ⟨.hbm, 162, rfl⟩
abbrev main_call0_call7_v1 : Ref sig .tc := ⟨.hbm, 163, rfl⟩
abbrev main_call0_call7_cst : Ref sig .tc := ⟨.hbm, 164, rfl⟩
abbrev main_call0_call7_v2 : Ref sig .tc := ⟨.hbm, 165, rfl⟩
abbrev main_call0_call7_v3 : Ref sig .tc := ⟨.hbm, 166, rfl⟩
abbrev main_call0_call7_cst_0 : Ref sig .tc := ⟨.hbm, 167, rfl⟩
abbrev main_call0_call7_v4 : Ref sig .tc := ⟨.hbm, 168, rfl⟩
abbrev main_call0_call7_v5 : Ref sig .tc := ⟨.hbm, 169, rfl⟩
abbrev main_call0_v71 : Ref sig .tc := ⟨.hbm, 170, rfl⟩
abbrev main_call0_v72 : Ref sig .tc := ⟨.hbm, 171, rfl⟩
abbrev main_call0_v73 : Ref sig .tc := ⟨.hbm, 172, rfl⟩
abbrev main_call0_v74 : Ref sig .tc := ⟨.hbm, 173, rfl⟩
abbrev main_call0_cst_3 : Ref sig .tc := ⟨.hbm, 174, rfl⟩
abbrev main_call0_v75 : Ref sig .tc := ⟨.hbm, 175, rfl⟩
abbrev main_call0_v76 : Ref sig .tc := ⟨.hbm, 176, rfl⟩
abbrev main_call0_cst_4 : Ref sig .tc := ⟨.hbm, 177, rfl⟩
abbrev main_call0_v77 : Ref sig .tc := ⟨.hbm, 178, rfl⟩
abbrev main_call0_v78 : Ref sig .tc := ⟨.hbm, 179, rfl⟩
abbrev main_call0_v79 : Ref sig .tc := ⟨.hbm, 180, rfl⟩
abbrev main_call0_v80 : Ref sig .tc := ⟨.hbm, 181, rfl⟩
abbrev main_call0_v81 : Ref sig .tc := ⟨.hbm, 182, rfl⟩
abbrev main_call0_cst_5 : Ref sig .tc := ⟨.hbm, 183, rfl⟩
abbrev main_call0_v82 : Ref sig .tc := ⟨.hbm, 184, rfl⟩
abbrev main_call0_v83 : Ref sig .tc := ⟨.hbm, 185, rfl⟩
abbrev main_call0_cst_6 : Ref sig .tc := ⟨.hbm, 186, rfl⟩
abbrev main_call0_v84 : Ref sig .tc := ⟨.hbm, 187, rfl⟩
abbrev main_call0_v85 : Ref sig .tc := ⟨.hbm, 188, rfl⟩
abbrev main_call0_v86 : Ref sig .tc := ⟨.hbm, 189, rfl⟩
abbrev main_call0_v87 : Ref sig .tc := ⟨.hbm, 190, rfl⟩
abbrev main_call0_cst_7 : Ref sig .tc := ⟨.hbm, 191, rfl⟩
abbrev main_call0_v88 : Ref sig .tc := ⟨.hbm, 192, rfl⟩
abbrev main_call0_v89 : Ref sig .tc := ⟨.hbm, 193, rfl⟩
abbrev main_call0_v90 : Ref sig .tc := ⟨.hbm, 194, rfl⟩
abbrev main_call0_v91 : Ref sig .tc := ⟨.hbm, 195, rfl⟩
abbrev main_call0_v92 : Ref sig .tc := ⟨.hbm, 196, rfl⟩
abbrev main_call0_v93 : Ref sig .tc := ⟨.hbm, 197, rfl⟩
abbrev main_call0_v94 : Ref sig .tc := ⟨.hbm, 198, rfl⟩
abbrev main_call0_v95 : Ref sig .tc := ⟨.hbm, 199, rfl⟩
abbrev main_call0_v96 : Ref sig .tc := ⟨.hbm, 200, rfl⟩
abbrev main_call0_v97 : Ref sig .tc := ⟨.hbm, 201, rfl⟩
abbrev main_v22 : Ref sig .tc := ⟨.hbm, 202, rfl⟩
abbrev main_v23 : Ref sig .tc := ⟨.hbm, 203, rfl⟩
abbrev main_v24 : Ref sig .tc := ⟨.hbm, 204, rfl⟩
abbrev main_v25 : Ref sig .tc := ⟨.hbm, 205, rfl⟩
abbrev main_v26 : Ref sig .tc := ⟨.hbm, 206, rfl⟩
abbrev main_v27 : Ref sig .tc := ⟨.hbm, 207, rfl⟩
abbrev main_v28 : Ref sig .tc := ⟨.hbm, 208, rfl⟩
abbrev main_v29 : Ref sig .tc := ⟨.hbm, 209, rfl⟩
abbrev main_v30 : Ref sig .tc := ⟨.hbm, 210, rfl⟩
abbrev main_v31 : Ref sig .tc := ⟨.hbm, 211, rfl⟩
abbrev main_v32 : Ref sig .tc := ⟨.hbm, 212, rfl⟩
abbrev main_v33 : Ref sig .tc := ⟨.hbm, 213, rfl⟩
abbrev main_v34 : Ref sig .tc := ⟨.hbm, 214, rfl⟩
abbrev main_v35 : Ref sig .tc := ⟨.hbm, 215, rfl⟩
abbrev main_v36 : Ref sig .tc := ⟨.hbm, 216, rfl⟩
abbrev main_v37 : Ref sig .tc := ⟨.hbm, 217, rfl⟩
abbrev main_v38 : Ref sig .tc := ⟨.hbm, 218, rfl⟩
abbrev main_v39 : Ref sig .tc := ⟨.hbm, 219, rfl⟩
abbrev main_v40 : Ref sig .tc := ⟨.hbm, 220, rfl⟩
abbrev main_v41 : Ref sig .tc := ⟨.hbm, 221, rfl⟩
abbrev main_v42 : Ref sig .tc := ⟨.hbm, 222, rfl⟩
abbrev main_v43 : Ref sig .tc := ⟨.hbm, 223, rfl⟩
abbrev main_v44 : Ref sig .tc := ⟨.hbm, 224, rfl⟩
abbrev main_call1_v0 : Ref sig .tc := ⟨.hbm, 225, rfl⟩
abbrev main_call1_v1 : Ref sig .tc := ⟨.hbm, 226, rfl⟩
abbrev main_call1_v2 : Ref sig .tc := ⟨.hbm, 227, rfl⟩
abbrev main_call1_c : Ref sig .tc := ⟨.hbm, 228, rfl⟩
abbrev main_call1_call0_v0 : Ref sig .tc := ⟨.hbm, 229, rfl⟩
abbrev main_call1_v3 : Ref sig .tc := ⟨.hbm, 230, rfl⟩
abbrev main_call1_v4 : Ref sig .tc := ⟨.hbm, 231, rfl⟩
abbrev main_call1_v5 : Ref sig .tc := ⟨.hbm, 232, rfl⟩
abbrev main_call1_v6 : Ref sig .tc := ⟨.hbm, 233, rfl⟩
abbrev main_call1_v7 : Ref sig .tc := ⟨.hbm, 234, rfl⟩
abbrev main_call1_v8 : Ref sig .tc := ⟨.hbm, 235, rfl⟩
abbrev main_call1_v9 : Ref sig .tc := ⟨.hbm, 236, rfl⟩
abbrev main_call1_cst : Ref sig .tc := ⟨.hbm, 237, rfl⟩
abbrev main_call1_v10 : Ref sig .tc := ⟨.hbm, 238, rfl⟩
abbrev main_call1_v11 : Ref sig .tc := ⟨.hbm, 239, rfl⟩
abbrev main_call1_v12 : Ref sig .tc := ⟨.hbm, 240, rfl⟩
abbrev main_call1_v13 : Ref sig .tc := ⟨.hbm, 241, rfl⟩
abbrev main_call1_v14 : Ref sig .tc := ⟨.hbm, 242, rfl⟩
abbrev main_call1_v15 : Ref sig .tc := ⟨.hbm, 243, rfl⟩
abbrev main_call1_v16 : Ref sig .tc := ⟨.hbm, 244, rfl⟩
abbrev main_call1_v17 : Ref sig .tc := ⟨.hbm, 245, rfl⟩
abbrev main_call1_v18 : Ref sig .tc := ⟨.hbm, 246, rfl⟩
abbrev main_call1_v19 : Ref sig .tc := ⟨.hbm, 247, rfl⟩
abbrev main_call1_v20 : Ref sig .tc := ⟨.hbm, 248, rfl⟩
abbrev main_call1_v21 : Ref sig .tc := ⟨.hbm, 249, rfl⟩
abbrev main_call1_v22 : Ref sig .tc := ⟨.hbm, 250, rfl⟩
abbrev main_call1_v23 : Ref sig .tc := ⟨.hbm, 251, rfl⟩
abbrev main_call1_v24 : Ref sig .tc := ⟨.hbm, 252, rfl⟩
abbrev main_call1_v25 : Ref sig .tc := ⟨.hbm, 253, rfl⟩
abbrev main_call1_v26 : Ref sig .tc := ⟨.hbm, 254, rfl⟩
abbrev main_call1_v27 : Ref sig .tc := ⟨.hbm, 255, rfl⟩
abbrev main_call1_v28 : Ref sig .tc := ⟨.hbm, 256, rfl⟩
abbrev main_call1_v29 : Ref sig .tc := ⟨.hbm, 257, rfl⟩
abbrev main_call1_v30 : Ref sig .tc := ⟨.hbm, 258, rfl⟩
abbrev main_call1_v31 : Ref sig .tc := ⟨.hbm, 259, rfl⟩
abbrev main_call1_v32 : Ref sig .tc := ⟨.hbm, 260, rfl⟩
abbrev main_call1_v33 : Ref sig .tc := ⟨.hbm, 261, rfl⟩
abbrev main_call1_v34 : Ref sig .tc := ⟨.hbm, 262, rfl⟩
abbrev main_call1_v35 : Ref sig .tc := ⟨.hbm, 263, rfl⟩
abbrev main_call1_call1_v0 : Ref sig .tc := ⟨.hbm, 264, rfl⟩
abbrev main_call1_call1_v1 : Ref sig .tc := ⟨.hbm, 265, rfl⟩
abbrev main_call1_call1_cst : Ref sig .tc := ⟨.hbm, 266, rfl⟩
abbrev main_call1_call1_v2 : Ref sig .tc := ⟨.hbm, 267, rfl⟩
abbrev main_call1_call1_v3 : Ref sig .tc := ⟨.hbm, 268, rfl⟩
abbrev main_call1_call1_cst_0 : Ref sig .tc := ⟨.hbm, 269, rfl⟩
abbrev main_call1_call1_v4 : Ref sig .tc := ⟨.hbm, 270, rfl⟩
abbrev main_call1_call1_v5 : Ref sig .tc := ⟨.hbm, 271, rfl⟩
abbrev main_call1_v36 : Ref sig .tc := ⟨.hbm, 272, rfl⟩
abbrev main_call1_v37 : Ref sig .tc := ⟨.hbm, 273, rfl⟩
abbrev main_call1_v38 : Ref sig .tc := ⟨.hbm, 274, rfl⟩
abbrev main_call1_v39 : Ref sig .tc := ⟨.hbm, 275, rfl⟩
abbrev main_call1_v40 : Ref sig .tc := ⟨.hbm, 276, rfl⟩
abbrev main_call1_v41 : Ref sig .tc := ⟨.hbm, 277, rfl⟩
abbrev main_call1_v42 : Ref sig .tc := ⟨.hbm, 278, rfl⟩
abbrev main_call1_v43 : Ref sig .tc := ⟨.hbm, 279, rfl⟩
abbrev main_call1_v44 : Ref sig .tc := ⟨.hbm, 280, rfl⟩
abbrev main_call1_call2_cst : Ref sig .tc := ⟨.hbm, 281, rfl⟩
abbrev main_call1_call2_v0 : Ref sig .tc := ⟨.hbm, 282, rfl⟩
abbrev main_call1_call2_v1 : Ref sig .tc := ⟨.hbm, 283, rfl⟩
abbrev main_call1_call2_v2 : Ref sig .tc := ⟨.hbm, 284, rfl⟩
abbrev main_call1_call2_v3 : Ref sig .tc := ⟨.hbm, 285, rfl⟩
abbrev main_call1_call2_v4 : Ref sig .tc := ⟨.hbm, 286, rfl⟩
abbrev main_call1_call2_v5 : Ref sig .tc := ⟨.hbm, 287, rfl⟩
abbrev main_call1_call2_v6 : Ref sig .tc := ⟨.hbm, 288, rfl⟩
abbrev main_call1_call2_v7 : Ref sig .tc := ⟨.hbm, 289, rfl⟩
abbrev main_call1_call2_v8 : Ref sig .tc := ⟨.hbm, 290, rfl⟩
abbrev main_call1_call2_v9 : Ref sig .tc := ⟨.hbm, 291, rfl⟩
abbrev main_call1_call2_v10 : Ref sig .tc := ⟨.hbm, 292, rfl⟩
abbrev main_call1_call2_v11 : Ref sig .tc := ⟨.hbm, 293, rfl⟩
abbrev main_call1_v45 : Ref sig .tc := ⟨.hbm, 294, rfl⟩
abbrev main_call1_v46 : Ref sig .tc := ⟨.hbm, 295, rfl⟩
abbrev main_call1_v47 : Ref sig .tc := ⟨.hbm, 296, rfl⟩
abbrev main_call1_v48 : Ref sig .tc := ⟨.hbm, 297, rfl⟩
abbrev main_call1_v49 : Ref sig .tc := ⟨.hbm, 298, rfl⟩
abbrev main_call1_v50 : Ref sig .tc := ⟨.hbm, 299, rfl⟩
abbrev main_call1_v51 : Ref sig .tc := ⟨.hbm, 300, rfl⟩
abbrev main_call1_v52 : Ref sig .tc := ⟨.hbm, 301, rfl⟩
abbrev main_call1_v53 : Ref sig .tc := ⟨.hbm, 302, rfl⟩
abbrev main_call1_v54 : Ref sig .tc := ⟨.hbm, 303, rfl⟩
abbrev main_call1_v55 : Ref sig .tc := ⟨.hbm, 304, rfl⟩
abbrev main_call1_v56 : Ref sig .tc := ⟨.hbm, 305, rfl⟩
abbrev main_call1_v57 : Ref sig .tc := ⟨.hbm, 306, rfl⟩
abbrev main_call1_v58 : Ref sig .tc := ⟨.hbm, 307, rfl⟩
abbrev main_call1_v59 : Ref sig .tc := ⟨.hbm, 308, rfl⟩
abbrev main_call1_cst_0 : Ref sig .tc := ⟨.hbm, 309, rfl⟩
abbrev main_call1_v60 : Ref sig .tc := ⟨.hbm, 310, rfl⟩
abbrev main_call1_v61 : Ref sig .tc := ⟨.hbm, 311, rfl⟩
abbrev main_call1_v62 : Ref sig .tc := ⟨.hbm, 312, rfl⟩
abbrev main_call1_v63 : Ref sig .tc := ⟨.hbm, 313, rfl⟩
abbrev main_call1_cst_1 : Ref sig .tc := ⟨.hbm, 314, rfl⟩
abbrev main_call1_v64 : Ref sig .tc := ⟨.hbm, 315, rfl⟩
abbrev main_call1_c_2 : Ref sig .tc := ⟨.hbm, 316, rfl⟩
abbrev main_call1_v65_0 : Ref sig .tc := ⟨.hbm, 317, rfl⟩
abbrev main_call1_v65_1 : Ref sig .tc := ⟨.hbm, 318, rfl⟩
abbrev main_call1_v65_2 : Ref sig .tc := ⟨.hbm, 319, rfl⟩
abbrev main_call1_v65_3 : Ref sig .tc := ⟨.hbm, 320, rfl⟩
abbrev main_call1_v65_4 : Ref sig .tc := ⟨.hbm, 321, rfl⟩
abbrev main_call1_v65_5 : Ref sig .tc := ⟨.hbm, 322, rfl⟩
abbrev main_call1_while0c_c_13 : Ref sig .tc := ⟨.hbm, 323, rfl⟩
abbrev main_call1_while0c_v99 : Ref sig .tc := ⟨.hbm, 324, rfl⟩
abbrev main_call1_while0b_call3_c : Ref sig .tc := ⟨.hbm, 325, rfl⟩
abbrev main_call1_while0b_call3_c_0 : Ref sig .tc := ⟨.hbm, 326, rfl⟩
abbrev main_call1_while0b_call3_c_1 : Ref sig .tc := ⟨.hbm, 327, rfl⟩
abbrev main_call1_while0b_call3_v0 : Ref sig .tc := ⟨.hbm, 328, rfl⟩
abbrev main_call1_while0b_v99 : Ref sig .tc := ⟨.hbm, 329, rfl⟩
abbrev main_call1_while0b_call4_c : Ref sig .tc := ⟨.hbm, 330, rfl⟩
abbrev main_call1_while0b_call4_c_0 : Ref sig .tc := ⟨.hbm, 331, rfl⟩
abbrev main_call1_while0b_call4_c_1 : Ref sig .tc := ⟨.hbm, 332, rfl⟩
abbrev main_call1_while0b_call4_v0 : Ref sig .tc := ⟨.hbm, 333, rfl⟩
abbrev main_call1_while0b_v100 : Ref sig .tc := ⟨.hbm, 334, rfl⟩
abbrev main_call1_while0b_call5_c : Ref sig .tc := ⟨.hbm, 335, rfl⟩
abbrev main_call1_while0b_call5_c_0 : Ref sig .tc := ⟨.hbm, 336, rfl⟩
abbrev main_call1_while0b_call5_v0 : Ref sig .tc := ⟨.hbm, 337, rfl⟩
abbrev main_call1_while0b_v101 : Ref sig .tc := ⟨.hbm, 338, rfl⟩
abbrev main_call1_while0b_v102 : Ref sig .tc := ⟨.hbm, 339, rfl⟩
abbrev main_call1_while0b_v103 : Ref sig .tc := ⟨.hbm, 340, rfl⟩
abbrev main_call1_while0b_v104 : Ref sig .tc := ⟨.hbm, 341, rfl⟩
abbrev main_call1_while0b_call6_v0 : Ref sig .tc := ⟨.hbm, 342, rfl⟩
abbrev main_call1_while0b_call6_c : Ref sig .tc := ⟨.hbm, 343, rfl⟩
abbrev main_call1_while0b_call6_c_0 : Ref sig .tc := ⟨.hbm, 344, rfl⟩
abbrev main_call1_while0b_v105 : Ref sig .tc := ⟨.hbm, 345, rfl⟩
abbrev main_call1_while0b_c_13 : Ref sig .tc := ⟨.hbm, 346, rfl⟩
abbrev main_call1_while0b_v106 : Ref sig .tc := ⟨.hbm, 347, rfl⟩
abbrev main_call1_v66 : Ref sig .tc := ⟨.hbm, 348, rfl⟩
abbrev main_call1_v67 : Ref sig .tc := ⟨.hbm, 349, rfl⟩
abbrev main_call1_v68 : Ref sig .tc := ⟨.hbm, 350, rfl⟩
abbrev main_call1_v69 : Ref sig .tc := ⟨.hbm, 351, rfl⟩
abbrev main_call1_v70 : Ref sig .tc := ⟨.hbm, 352, rfl⟩
abbrev main_call1_call7_v0 : Ref sig .tc := ⟨.hbm, 353, rfl⟩
abbrev main_call1_call7_v1 : Ref sig .tc := ⟨.hbm, 354, rfl⟩
abbrev main_call1_call7_cst : Ref sig .tc := ⟨.hbm, 355, rfl⟩
abbrev main_call1_call7_v2 : Ref sig .tc := ⟨.hbm, 356, rfl⟩
abbrev main_call1_call7_v3 : Ref sig .tc := ⟨.hbm, 357, rfl⟩
abbrev main_call1_call7_cst_0 : Ref sig .tc := ⟨.hbm, 358, rfl⟩
abbrev main_call1_call7_v4 : Ref sig .tc := ⟨.hbm, 359, rfl⟩
abbrev main_call1_call7_v5 : Ref sig .tc := ⟨.hbm, 360, rfl⟩
abbrev main_call1_v71 : Ref sig .tc := ⟨.hbm, 361, rfl⟩
abbrev main_call1_v72 : Ref sig .tc := ⟨.hbm, 362, rfl⟩
abbrev main_call1_v73 : Ref sig .tc := ⟨.hbm, 363, rfl⟩
abbrev main_call1_v74 : Ref sig .tc := ⟨.hbm, 364, rfl⟩
abbrev main_call1_cst_3 : Ref sig .tc := ⟨.hbm, 365, rfl⟩
abbrev main_call1_v75 : Ref sig .tc := ⟨.hbm, 366, rfl⟩
abbrev main_call1_v76 : Ref sig .tc := ⟨.hbm, 367, rfl⟩
abbrev main_call1_cst_4 : Ref sig .tc := ⟨.hbm, 368, rfl⟩
abbrev main_call1_v77 : Ref sig .tc := ⟨.hbm, 369, rfl⟩
abbrev main_call1_v78 : Ref sig .tc := ⟨.hbm, 370, rfl⟩
abbrev main_call1_v79 : Ref sig .tc := ⟨.hbm, 371, rfl⟩
abbrev main_call1_v80 : Ref sig .tc := ⟨.hbm, 372, rfl⟩
abbrev main_call1_v81 : Ref sig .tc := ⟨.hbm, 373, rfl⟩
abbrev main_call1_cst_5 : Ref sig .tc := ⟨.hbm, 374, rfl⟩
abbrev main_call1_v82 : Ref sig .tc := ⟨.hbm, 375, rfl⟩
abbrev main_call1_v83 : Ref sig .tc := ⟨.hbm, 376, rfl⟩
abbrev main_call1_cst_6 : Ref sig .tc := ⟨.hbm, 377, rfl⟩
abbrev main_call1_v84 : Ref sig .tc := ⟨.hbm, 378, rfl⟩
abbrev main_call1_v85 : Ref sig .tc := ⟨.hbm, 379, rfl⟩
abbrev main_call1_v86 : Ref sig .tc := ⟨.hbm, 380, rfl⟩
abbrev main_call1_v87 : Ref sig .tc := ⟨.hbm, 381, rfl⟩
abbrev main_call1_cst_7 : Ref sig .tc := ⟨.hbm, 382, rfl⟩
abbrev main_call1_v88 : Ref sig .tc := ⟨.hbm, 383, rfl⟩
abbrev main_call1_v89 : Ref sig .tc := ⟨.hbm, 384, rfl⟩
abbrev main_call1_v90 : Ref sig .tc := ⟨.hbm, 385, rfl⟩
abbrev main_call1_v91 : Ref sig .tc := ⟨.hbm, 386, rfl⟩
abbrev main_call1_v92 : Ref sig .tc := ⟨.hbm, 387, rfl⟩
abbrev main_call1_v93 : Ref sig .tc := ⟨.hbm, 388, rfl⟩
abbrev main_call1_v94 : Ref sig .tc := ⟨.hbm, 389, rfl⟩
abbrev main_call1_v95 : Ref sig .tc := ⟨.hbm, 390, rfl⟩
abbrev main_call1_v96 : Ref sig .tc := ⟨.hbm, 391, rfl⟩
abbrev main_call1_v97 : Ref sig .tc := ⟨.hbm, 392, rfl⟩
abbrev main_v45 : Ref sig .tc := ⟨.hbm, 393, rfl⟩
abbrev main_v46 : Ref sig .tc := ⟨.hbm, 394, rfl⟩
abbrev main_v47 : Ref sig .tc := ⟨.hbm, 395, rfl⟩
abbrev main_v48 : Ref sig .tc := ⟨.hbm, 396, rfl⟩
abbrev main_v49 : Ref sig .tc := ⟨.hbm, 397, rfl⟩
abbrev main_v50 : Ref sig .tc := ⟨.hbm, 398, rfl⟩
abbrev main_v51 : Ref sig .tc := ⟨.hbm, 399, rfl⟩
abbrev main_v52 : Ref sig .tc := ⟨.hbm, 400, rfl⟩
abbrev main_v53 : Ref sig .tc := ⟨.hbm, 401, rfl⟩
abbrev main_v54 : Ref sig .tc := ⟨.hbm, 402, rfl⟩
abbrev main_v55 : Ref sig .tc := ⟨.hbm, 403, rfl⟩
abbrev main_v56 : Ref sig .tc := ⟨.hbm, 404, rfl⟩
abbrev main_v57 : Ref sig .tc := ⟨.hbm, 405, rfl⟩
abbrev main_v58 : Ref sig .tc := ⟨.hbm, 406, rfl⟩
abbrev main_v59 : Ref sig .tc := ⟨.hbm, 407, rfl⟩
abbrev main_v60 : Ref sig .tc := ⟨.hbm, 408, rfl⟩
abbrev main_v61 : Ref sig .tc := ⟨.hbm, 409, rfl⟩
abbrev main_v62 : Ref sig .tc := ⟨.hbm, 410, rfl⟩
abbrev main_v63 : Ref sig .tc := ⟨.hbm, 411, rfl⟩
abbrev main_v64 : Ref sig .tc := ⟨.hbm, 412, rfl⟩
abbrev main_v65 : Ref sig .tc := ⟨.hbm, 413, rfl⟩
abbrev main_v66 : Ref sig .tc := ⟨.hbm, 414, rfl⟩
abbrev main_v67 : Ref sig .tc := ⟨.hbm, 415, rfl⟩
abbrev main_call2_v0 : Ref sig .tc := ⟨.hbm, 416, rfl⟩
abbrev main_call2_v1 : Ref sig .tc := ⟨.hbm, 417, rfl⟩
abbrev main_call2_v2 : Ref sig .tc := ⟨.hbm, 418, rfl⟩
abbrev main_call2_c : Ref sig .tc := ⟨.hbm, 419, rfl⟩
abbrev main_call2_call0_v0 : Ref sig .tc := ⟨.hbm, 420, rfl⟩
abbrev main_call2_v3 : Ref sig .tc := ⟨.hbm, 421, rfl⟩
abbrev main_call2_v4 : Ref sig .tc := ⟨.hbm, 422, rfl⟩
abbrev main_call2_v5 : Ref sig .tc := ⟨.hbm, 423, rfl⟩
abbrev main_call2_v6 : Ref sig .tc := ⟨.hbm, 424, rfl⟩
abbrev main_call2_v7 : Ref sig .tc := ⟨.hbm, 425, rfl⟩
abbrev main_call2_v8 : Ref sig .tc := ⟨.hbm, 426, rfl⟩
abbrev main_call2_v9 : Ref sig .tc := ⟨.hbm, 427, rfl⟩
abbrev main_call2_cst : Ref sig .tc := ⟨.hbm, 428, rfl⟩
abbrev main_call2_v10 : Ref sig .tc := ⟨.hbm, 429, rfl⟩
abbrev main_call2_v11 : Ref sig .tc := ⟨.hbm, 430, rfl⟩
abbrev main_call2_v12 : Ref sig .tc := ⟨.hbm, 431, rfl⟩
abbrev main_call2_v13 : Ref sig .tc := ⟨.hbm, 432, rfl⟩
abbrev main_call2_v14 : Ref sig .tc := ⟨.hbm, 433, rfl⟩
abbrev main_call2_v15 : Ref sig .tc := ⟨.hbm, 434, rfl⟩
abbrev main_call2_v16 : Ref sig .tc := ⟨.hbm, 435, rfl⟩
abbrev main_call2_v17 : Ref sig .tc := ⟨.hbm, 436, rfl⟩
abbrev main_call2_v18 : Ref sig .tc := ⟨.hbm, 437, rfl⟩
abbrev main_call2_v19 : Ref sig .tc := ⟨.hbm, 438, rfl⟩
abbrev main_call2_v20 : Ref sig .tc := ⟨.hbm, 439, rfl⟩
abbrev main_call2_v21 : Ref sig .tc := ⟨.hbm, 440, rfl⟩
abbrev main_call2_v22 : Ref sig .tc := ⟨.hbm, 441, rfl⟩
abbrev main_call2_v23 : Ref sig .tc := ⟨.hbm, 442, rfl⟩
abbrev main_call2_v24 : Ref sig .tc := ⟨.hbm, 443, rfl⟩
abbrev main_call2_v25 : Ref sig .tc := ⟨.hbm, 444, rfl⟩
abbrev main_call2_v26 : Ref sig .tc := ⟨.hbm, 445, rfl⟩
abbrev main_call2_v27 : Ref sig .tc := ⟨.hbm, 446, rfl⟩
abbrev main_call2_v28 : Ref sig .tc := ⟨.hbm, 447, rfl⟩
abbrev main_call2_v29 : Ref sig .tc := ⟨.hbm, 448, rfl⟩
abbrev main_call2_v30 : Ref sig .tc := ⟨.hbm, 449, rfl⟩
abbrev main_call2_v31 : Ref sig .tc := ⟨.hbm, 450, rfl⟩
abbrev main_call2_v32 : Ref sig .tc := ⟨.hbm, 451, rfl⟩
abbrev main_call2_v33 : Ref sig .tc := ⟨.hbm, 452, rfl⟩
abbrev main_call2_v34 : Ref sig .tc := ⟨.hbm, 453, rfl⟩
abbrev main_call2_v35 : Ref sig .tc := ⟨.hbm, 454, rfl⟩
abbrev main_call2_call1_v0 : Ref sig .tc := ⟨.hbm, 455, rfl⟩
abbrev main_call2_call1_v1 : Ref sig .tc := ⟨.hbm, 456, rfl⟩
abbrev main_call2_call1_cst : Ref sig .tc := ⟨.hbm, 457, rfl⟩
abbrev main_call2_call1_v2 : Ref sig .tc := ⟨.hbm, 458, rfl⟩
abbrev main_call2_call1_v3 : Ref sig .tc := ⟨.hbm, 459, rfl⟩
abbrev main_call2_call1_cst_0 : Ref sig .tc := ⟨.hbm, 460, rfl⟩
abbrev main_call2_call1_v4 : Ref sig .tc := ⟨.hbm, 461, rfl⟩
abbrev main_call2_call1_v5 : Ref sig .tc := ⟨.hbm, 462, rfl⟩
abbrev main_call2_v36 : Ref sig .tc := ⟨.hbm, 463, rfl⟩
abbrev main_call2_v37 : Ref sig .tc := ⟨.hbm, 464, rfl⟩
abbrev main_call2_v38 : Ref sig .tc := ⟨.hbm, 465, rfl⟩
abbrev main_call2_v39 : Ref sig .tc := ⟨.hbm, 466, rfl⟩
abbrev main_call2_v40 : Ref sig .tc := ⟨.hbm, 467, rfl⟩
abbrev main_call2_v41 : Ref sig .tc := ⟨.hbm, 468, rfl⟩
abbrev main_call2_v42 : Ref sig .tc := ⟨.hbm, 469, rfl⟩
abbrev main_call2_v43 : Ref sig .tc := ⟨.hbm, 470, rfl⟩
abbrev main_call2_v44 : Ref sig .tc := ⟨.hbm, 471, rfl⟩
abbrev main_call2_call2_cst : Ref sig .tc := ⟨.hbm, 472, rfl⟩
abbrev main_call2_call2_v0 : Ref sig .tc := ⟨.hbm, 473, rfl⟩
abbrev main_call2_call2_v1 : Ref sig .tc := ⟨.hbm, 474, rfl⟩
abbrev main_call2_call2_v2 : Ref sig .tc := ⟨.hbm, 475, rfl⟩
abbrev main_call2_call2_v3 : Ref sig .tc := ⟨.hbm, 476, rfl⟩
abbrev main_call2_call2_v4 : Ref sig .tc := ⟨.hbm, 477, rfl⟩
abbrev main_call2_call2_v5 : Ref sig .tc := ⟨.hbm, 478, rfl⟩
abbrev main_call2_call2_v6 : Ref sig .tc := ⟨.hbm, 479, rfl⟩
abbrev main_call2_call2_v7 : Ref sig .tc := ⟨.hbm, 480, rfl⟩
abbrev main_call2_call2_v8 : Ref sig .tc := ⟨.hbm, 481, rfl⟩
abbrev main_call2_call2_v9 : Ref sig .tc := ⟨.hbm, 482, rfl⟩
abbrev main_call2_call2_v10 : Ref sig .tc := ⟨.hbm, 483, rfl⟩
abbrev main_call2_call2_v11 : Ref sig .tc := ⟨.hbm, 484, rfl⟩
abbrev main_call2_v45 : Ref sig .tc := ⟨.hbm, 485, rfl⟩
abbrev main_call2_v46 : Ref sig .tc := ⟨.hbm, 486, rfl⟩
abbrev main_call2_v47 : Ref sig .tc := ⟨.hbm, 487, rfl⟩
abbrev main_call2_v48 : Ref sig .tc := ⟨.hbm, 488, rfl⟩
abbrev main_call2_v49 : Ref sig .tc := ⟨.hbm, 489, rfl⟩
abbrev main_call2_v50 : Ref sig .tc := ⟨.hbm, 490, rfl⟩
abbrev main_call2_v51 : Ref sig .tc := ⟨.hbm, 491, rfl⟩
abbrev main_call2_v52 : Ref sig .tc := ⟨.hbm, 492, rfl⟩
abbrev main_call2_v53 : Ref sig .tc := ⟨.hbm, 493, rfl⟩
abbrev main_call2_v54 : Ref sig .tc := ⟨.hbm, 494, rfl⟩
abbrev main_call2_v55 : Ref sig .tc := ⟨.hbm, 495, rfl⟩
abbrev main_call2_v56 : Ref sig .tc := ⟨.hbm, 496, rfl⟩
abbrev main_call2_v57 : Ref sig .tc := ⟨.hbm, 497, rfl⟩
abbrev main_call2_v58 : Ref sig .tc := ⟨.hbm, 498, rfl⟩
abbrev main_call2_v59 : Ref sig .tc := ⟨.hbm, 499, rfl⟩
abbrev main_call2_cst_0 : Ref sig .tc := ⟨.hbm, 500, rfl⟩
abbrev main_call2_v60 : Ref sig .tc := ⟨.hbm, 501, rfl⟩
abbrev main_call2_v61 : Ref sig .tc := ⟨.hbm, 502, rfl⟩
abbrev main_call2_v62 : Ref sig .tc := ⟨.hbm, 503, rfl⟩
abbrev main_call2_v63 : Ref sig .tc := ⟨.hbm, 504, rfl⟩
abbrev main_call2_cst_1 : Ref sig .tc := ⟨.hbm, 505, rfl⟩
abbrev main_call2_v64 : Ref sig .tc := ⟨.hbm, 506, rfl⟩
abbrev main_call2_c_2 : Ref sig .tc := ⟨.hbm, 507, rfl⟩
abbrev main_call2_v65_0 : Ref sig .tc := ⟨.hbm, 508, rfl⟩
abbrev main_call2_v65_1 : Ref sig .tc := ⟨.hbm, 509, rfl⟩
abbrev main_call2_v65_2 : Ref sig .tc := ⟨.hbm, 510, rfl⟩
abbrev main_call2_v65_3 : Ref sig .tc := ⟨.hbm, 511, rfl⟩
abbrev main_call2_v65_4 : Ref sig .tc := ⟨.hbm, 512, rfl⟩
abbrev main_call2_v65_5 : Ref sig .tc := ⟨.hbm, 513, rfl⟩
abbrev main_call2_while0c_c_13 : Ref sig .tc := ⟨.hbm, 514, rfl⟩
abbrev main_call2_while0c_v99 : Ref sig .tc := ⟨.hbm, 515, rfl⟩
abbrev main_call2_while0b_call3_c : Ref sig .tc := ⟨.hbm, 516, rfl⟩
abbrev main_call2_while0b_call3_c_0 : Ref sig .tc := ⟨.hbm, 517, rfl⟩
abbrev main_call2_while0b_call3_c_1 : Ref sig .tc := ⟨.hbm, 518, rfl⟩
abbrev main_call2_while0b_call3_v0 : Ref sig .tc := ⟨.hbm, 519, rfl⟩
abbrev main_call2_while0b_v99 : Ref sig .tc := ⟨.hbm, 520, rfl⟩
abbrev main_call2_while0b_call4_c : Ref sig .tc := ⟨.hbm, 521, rfl⟩
abbrev main_call2_while0b_call4_c_0 : Ref sig .tc := ⟨.hbm, 522, rfl⟩
abbrev main_call2_while0b_call4_c_1 : Ref sig .tc := ⟨.hbm, 523, rfl⟩
abbrev main_call2_while0b_call4_v0 : Ref sig .tc := ⟨.hbm, 524, rfl⟩
abbrev main_call2_while0b_v100 : Ref sig .tc := ⟨.hbm, 525, rfl⟩
abbrev main_call2_while0b_call5_c : Ref sig .tc := ⟨.hbm, 526, rfl⟩
abbrev main_call2_while0b_call5_c_0 : Ref sig .tc := ⟨.hbm, 527, rfl⟩
abbrev main_call2_while0b_call5_v0 : Ref sig .tc := ⟨.hbm, 528, rfl⟩
abbrev main_call2_while0b_v101 : Ref sig .tc := ⟨.hbm, 529, rfl⟩
abbrev main_call2_while0b_v102 : Ref sig .tc := ⟨.hbm, 530, rfl⟩
abbrev main_call2_while0b_v103 : Ref sig .tc := ⟨.hbm, 531, rfl⟩
abbrev main_call2_while0b_v104 : Ref sig .tc := ⟨.hbm, 532, rfl⟩
abbrev main_call2_while0b_call6_v0 : Ref sig .tc := ⟨.hbm, 533, rfl⟩
abbrev main_call2_while0b_call6_c : Ref sig .tc := ⟨.hbm, 534, rfl⟩
abbrev main_call2_while0b_call6_c_0 : Ref sig .tc := ⟨.hbm, 535, rfl⟩
abbrev main_call2_while0b_v105 : Ref sig .tc := ⟨.hbm, 536, rfl⟩
abbrev main_call2_while0b_c_13 : Ref sig .tc := ⟨.hbm, 537, rfl⟩
abbrev main_call2_while0b_v106 : Ref sig .tc := ⟨.hbm, 538, rfl⟩
abbrev main_call2_v66 : Ref sig .tc := ⟨.hbm, 539, rfl⟩
abbrev main_call2_v67 : Ref sig .tc := ⟨.hbm, 540, rfl⟩
abbrev main_call2_v68 : Ref sig .tc := ⟨.hbm, 541, rfl⟩
abbrev main_call2_v69 : Ref sig .tc := ⟨.hbm, 542, rfl⟩
abbrev main_call2_v70 : Ref sig .tc := ⟨.hbm, 543, rfl⟩
abbrev main_call2_call7_v0 : Ref sig .tc := ⟨.hbm, 544, rfl⟩
abbrev main_call2_call7_v1 : Ref sig .tc := ⟨.hbm, 545, rfl⟩
abbrev main_call2_call7_cst : Ref sig .tc := ⟨.hbm, 546, rfl⟩
abbrev main_call2_call7_v2 : Ref sig .tc := ⟨.hbm, 547, rfl⟩
abbrev main_call2_call7_v3 : Ref sig .tc := ⟨.hbm, 548, rfl⟩
abbrev main_call2_call7_cst_0 : Ref sig .tc := ⟨.hbm, 549, rfl⟩
abbrev main_call2_call7_v4 : Ref sig .tc := ⟨.hbm, 550, rfl⟩
abbrev main_call2_call7_v5 : Ref sig .tc := ⟨.hbm, 551, rfl⟩
abbrev main_call2_v71 : Ref sig .tc := ⟨.hbm, 552, rfl⟩
abbrev main_call2_v72 : Ref sig .tc := ⟨.hbm, 553, rfl⟩
abbrev main_call2_v73 : Ref sig .tc := ⟨.hbm, 554, rfl⟩
abbrev main_call2_v74 : Ref sig .tc := ⟨.hbm, 555, rfl⟩
abbrev main_call2_cst_3 : Ref sig .tc := ⟨.hbm, 556, rfl⟩
abbrev main_call2_v75 : Ref sig .tc := ⟨.hbm, 557, rfl⟩
abbrev main_call2_v76 : Ref sig .tc := ⟨.hbm, 558, rfl⟩
abbrev main_call2_cst_4 : Ref sig .tc := ⟨.hbm, 559, rfl⟩
abbrev main_call2_v77 : Ref sig .tc := ⟨.hbm, 560, rfl⟩
abbrev main_call2_v78 : Ref sig .tc := ⟨.hbm, 561, rfl⟩
abbrev main_call2_v79 : Ref sig .tc := ⟨.hbm, 562, rfl⟩
abbrev main_call2_v80 : Ref sig .tc := ⟨.hbm, 563, rfl⟩
abbrev main_call2_v81 : Ref sig .tc := ⟨.hbm, 564, rfl⟩
abbrev main_call2_cst_5 : Ref sig .tc := ⟨.hbm, 565, rfl⟩
abbrev main_call2_v82 : Ref sig .tc := ⟨.hbm, 566, rfl⟩
abbrev main_call2_v83 : Ref sig .tc := ⟨.hbm, 567, rfl⟩
abbrev main_call2_cst_6 : Ref sig .tc := ⟨.hbm, 568, rfl⟩
abbrev main_call2_v84 : Ref sig .tc := ⟨.hbm, 569, rfl⟩
abbrev main_call2_v85 : Ref sig .tc := ⟨.hbm, 570, rfl⟩
abbrev main_call2_v86 : Ref sig .tc := ⟨.hbm, 571, rfl⟩
abbrev main_call2_v87 : Ref sig .tc := ⟨.hbm, 572, rfl⟩
abbrev main_call2_cst_7 : Ref sig .tc := ⟨.hbm, 573, rfl⟩
abbrev main_call2_v88 : Ref sig .tc := ⟨.hbm, 574, rfl⟩
abbrev main_call2_v89 : Ref sig .tc := ⟨.hbm, 575, rfl⟩
abbrev main_call2_v90 : Ref sig .tc := ⟨.hbm, 576, rfl⟩
abbrev main_call2_v91 : Ref sig .tc := ⟨.hbm, 577, rfl⟩
abbrev main_call2_v92 : Ref sig .tc := ⟨.hbm, 578, rfl⟩
abbrev main_call2_v93 : Ref sig .tc := ⟨.hbm, 579, rfl⟩
abbrev main_call2_v94 : Ref sig .tc := ⟨.hbm, 580, rfl⟩
abbrev main_call2_v95 : Ref sig .tc := ⟨.hbm, 581, rfl⟩
abbrev main_call2_v96 : Ref sig .tc := ⟨.hbm, 582, rfl⟩
abbrev main_call2_v97 : Ref sig .tc := ⟨.hbm, 583, rfl⟩
abbrev main_v68 : Ref sig .tc := ⟨.hbm, 584, rfl⟩
abbrev main_v69 : Ref sig .tc := ⟨.hbm, 585, rfl⟩
abbrev main_v70 : Ref sig .tc := ⟨.hbm, 586, rfl⟩
abbrev main_v71 : Ref sig .tc := ⟨.hbm, 587, rfl⟩
abbrev main_v72 : Ref sig .tc := ⟨.hbm, 588, rfl⟩
abbrev main_v73 : Ref sig .tc := ⟨.hbm, 589, rfl⟩
abbrev main_v74 : Ref sig .tc := ⟨.hbm, 590, rfl⟩
abbrev main_v75 : Ref sig .tc := ⟨.hbm, 591, rfl⟩
abbrev main_v76 : Ref sig .tc := ⟨.hbm, 592, rfl⟩
abbrev main_v77 : Ref sig .tc := ⟨.hbm, 593, rfl⟩
abbrev main_v78 : Ref sig .tc := ⟨.hbm, 594, rfl⟩
abbrev main_v79 : Ref sig .tc := ⟨.hbm, 595, rfl⟩
abbrev main_v80 : Ref sig .tc := ⟨.hbm, 596, rfl⟩
abbrev main_v81 : Ref sig .tc := ⟨.hbm, 597, rfl⟩
abbrev main_v82 : Ref sig .tc := ⟨.hbm, 598, rfl⟩
abbrev main_v83 : Ref sig .tc := ⟨.hbm, 599, rfl⟩
abbrev main_v84 : Ref sig .tc := ⟨.hbm, 600, rfl⟩
abbrev main_v85 : Ref sig .tc := ⟨.hbm, 601, rfl⟩
abbrev main_v86 : Ref sig .tc := ⟨.hbm, 602, rfl⟩
abbrev main_v87 : Ref sig .tc := ⟨.hbm, 603, rfl⟩
abbrev main_v88 : Ref sig .tc := ⟨.hbm, 604, rfl⟩
abbrev main_v89 : Ref sig .tc := ⟨.hbm, 605, rfl⟩
abbrev main_v90 : Ref sig .tc := ⟨.hbm, 606, rfl⟩
abbrev main_call3_v0 : Ref sig .tc := ⟨.hbm, 607, rfl⟩
abbrev main_call3_v1 : Ref sig .tc := ⟨.hbm, 608, rfl⟩
abbrev main_call3_v2 : Ref sig .tc := ⟨.hbm, 609, rfl⟩
abbrev main_call3_c : Ref sig .tc := ⟨.hbm, 610, rfl⟩
abbrev main_call3_call0_v0 : Ref sig .tc := ⟨.hbm, 611, rfl⟩
abbrev main_call3_v3 : Ref sig .tc := ⟨.hbm, 612, rfl⟩
abbrev main_call3_v4 : Ref sig .tc := ⟨.hbm, 613, rfl⟩
abbrev main_call3_v5 : Ref sig .tc := ⟨.hbm, 614, rfl⟩
abbrev main_call3_v6 : Ref sig .tc := ⟨.hbm, 615, rfl⟩
abbrev main_call3_v7 : Ref sig .tc := ⟨.hbm, 616, rfl⟩
abbrev main_call3_v8 : Ref sig .tc := ⟨.hbm, 617, rfl⟩
abbrev main_call3_v9 : Ref sig .tc := ⟨.hbm, 618, rfl⟩
abbrev main_call3_cst : Ref sig .tc := ⟨.hbm, 619, rfl⟩
abbrev main_call3_v10 : Ref sig .tc := ⟨.hbm, 620, rfl⟩
abbrev main_call3_v11 : Ref sig .tc := ⟨.hbm, 621, rfl⟩
abbrev main_call3_v12 : Ref sig .tc := ⟨.hbm, 622, rfl⟩
abbrev main_call3_v13 : Ref sig .tc := ⟨.hbm, 623, rfl⟩
abbrev main_call3_v14 : Ref sig .tc := ⟨.hbm, 624, rfl⟩
abbrev main_call3_v15 : Ref sig .tc := ⟨.hbm, 625, rfl⟩
abbrev main_call3_v16 : Ref sig .tc := ⟨.hbm, 626, rfl⟩
abbrev main_call3_v17 : Ref sig .tc := ⟨.hbm, 627, rfl⟩
abbrev main_call3_v18 : Ref sig .tc := ⟨.hbm, 628, rfl⟩
abbrev main_call3_v19 : Ref sig .tc := ⟨.hbm, 629, rfl⟩
abbrev main_call3_v20 : Ref sig .tc := ⟨.hbm, 630, rfl⟩
abbrev main_call3_v21 : Ref sig .tc := ⟨.hbm, 631, rfl⟩
abbrev main_call3_v22 : Ref sig .tc := ⟨.hbm, 632, rfl⟩
abbrev main_call3_v23 : Ref sig .tc := ⟨.hbm, 633, rfl⟩
abbrev main_call3_v24 : Ref sig .tc := ⟨.hbm, 634, rfl⟩
abbrev main_call3_v25 : Ref sig .tc := ⟨.hbm, 635, rfl⟩
abbrev main_call3_v26 : Ref sig .tc := ⟨.hbm, 636, rfl⟩
abbrev main_call3_v27 : Ref sig .tc := ⟨.hbm, 637, rfl⟩
abbrev main_call3_v28 : Ref sig .tc := ⟨.hbm, 638, rfl⟩
abbrev main_call3_v29 : Ref sig .tc := ⟨.hbm, 639, rfl⟩
abbrev main_call3_v30 : Ref sig .tc := ⟨.hbm, 640, rfl⟩
abbrev main_call3_v31 : Ref sig .tc := ⟨.hbm, 641, rfl⟩
abbrev main_call3_v32 : Ref sig .tc := ⟨.hbm, 642, rfl⟩
abbrev main_call3_v33 : Ref sig .tc := ⟨.hbm, 643, rfl⟩
abbrev main_call3_v34 : Ref sig .tc := ⟨.hbm, 644, rfl⟩
abbrev main_call3_v35 : Ref sig .tc := ⟨.hbm, 645, rfl⟩
abbrev main_call3_call1_v0 : Ref sig .tc := ⟨.hbm, 646, rfl⟩
abbrev main_call3_call1_v1 : Ref sig .tc := ⟨.hbm, 647, rfl⟩
abbrev main_call3_call1_cst : Ref sig .tc := ⟨.hbm, 648, rfl⟩
abbrev main_call3_call1_v2 : Ref sig .tc := ⟨.hbm, 649, rfl⟩
abbrev main_call3_call1_v3 : Ref sig .tc := ⟨.hbm, 650, rfl⟩
abbrev main_call3_call1_cst_0 : Ref sig .tc := ⟨.hbm, 651, rfl⟩
abbrev main_call3_call1_v4 : Ref sig .tc := ⟨.hbm, 652, rfl⟩
abbrev main_call3_call1_v5 : Ref sig .tc := ⟨.hbm, 653, rfl⟩
abbrev main_call3_v36 : Ref sig .tc := ⟨.hbm, 654, rfl⟩
abbrev main_call3_v37 : Ref sig .tc := ⟨.hbm, 655, rfl⟩
abbrev main_call3_v38 : Ref sig .tc := ⟨.hbm, 656, rfl⟩
abbrev main_call3_v39 : Ref sig .tc := ⟨.hbm, 657, rfl⟩
abbrev main_call3_v40 : Ref sig .tc := ⟨.hbm, 658, rfl⟩
abbrev main_call3_v41 : Ref sig .tc := ⟨.hbm, 659, rfl⟩
abbrev main_call3_v42 : Ref sig .tc := ⟨.hbm, 660, rfl⟩
abbrev main_call3_v43 : Ref sig .tc := ⟨.hbm, 661, rfl⟩
abbrev main_call3_v44 : Ref sig .tc := ⟨.hbm, 662, rfl⟩
abbrev main_call3_call2_cst : Ref sig .tc := ⟨.hbm, 663, rfl⟩
abbrev main_call3_call2_v0 : Ref sig .tc := ⟨.hbm, 664, rfl⟩
abbrev main_call3_call2_v1 : Ref sig .tc := ⟨.hbm, 665, rfl⟩
abbrev main_call3_call2_v2 : Ref sig .tc := ⟨.hbm, 666, rfl⟩
abbrev main_call3_call2_v3 : Ref sig .tc := ⟨.hbm, 667, rfl⟩
abbrev main_call3_call2_v4 : Ref sig .tc := ⟨.hbm, 668, rfl⟩
abbrev main_call3_call2_v5 : Ref sig .tc := ⟨.hbm, 669, rfl⟩
abbrev main_call3_call2_v6 : Ref sig .tc := ⟨.hbm, 670, rfl⟩
abbrev main_call3_call2_v7 : Ref sig .tc := ⟨.hbm, 671, rfl⟩
abbrev main_call3_call2_v8 : Ref sig .tc := ⟨.hbm, 672, rfl⟩
abbrev main_call3_call2_v9 : Ref sig .tc := ⟨.hbm, 673, rfl⟩
abbrev main_call3_call2_v10 : Ref sig .tc := ⟨.hbm, 674, rfl⟩
abbrev main_call3_call2_v11 : Ref sig .tc := ⟨.hbm, 675, rfl⟩
abbrev main_call3_v45 : Ref sig .tc := ⟨.hbm, 676, rfl⟩
abbrev main_call3_v46 : Ref sig .tc := ⟨.hbm, 677, rfl⟩
abbrev main_call3_v47 : Ref sig .tc := ⟨.hbm, 678, rfl⟩
abbrev main_call3_v48 : Ref sig .tc := ⟨.hbm, 679, rfl⟩
abbrev main_call3_v49 : Ref sig .tc := ⟨.hbm, 680, rfl⟩
abbrev main_call3_v50 : Ref sig .tc := ⟨.hbm, 681, rfl⟩
abbrev main_call3_v51 : Ref sig .tc := ⟨.hbm, 682, rfl⟩
abbrev main_call3_v52 : Ref sig .tc := ⟨.hbm, 683, rfl⟩
abbrev main_call3_v53 : Ref sig .tc := ⟨.hbm, 684, rfl⟩
abbrev main_call3_v54 : Ref sig .tc := ⟨.hbm, 685, rfl⟩
abbrev main_call3_v55 : Ref sig .tc := ⟨.hbm, 686, rfl⟩
abbrev main_call3_v56 : Ref sig .tc := ⟨.hbm, 687, rfl⟩
abbrev main_call3_v57 : Ref sig .tc := ⟨.hbm, 688, rfl⟩
abbrev main_call3_v58 : Ref sig .tc := ⟨.hbm, 689, rfl⟩
abbrev main_call3_v59 : Ref sig .tc := ⟨.hbm, 690, rfl⟩
abbrev main_call3_cst_0 : Ref sig .tc := ⟨.hbm, 691, rfl⟩
abbrev main_call3_v60 : Ref sig .tc := ⟨.hbm, 692, rfl⟩
abbrev main_call3_v61 : Ref sig .tc := ⟨.hbm, 693, rfl⟩
abbrev main_call3_v62 : Ref sig .tc := ⟨.hbm, 694, rfl⟩
abbrev main_call3_v63 : Ref sig .tc := ⟨.hbm, 695, rfl⟩
abbrev main_call3_cst_1 : Ref sig .tc := ⟨.hbm, 696, rfl⟩
abbrev main_call3_v64 : Ref sig .tc := ⟨.hbm, 697, rfl⟩
abbrev main_call3_c_2 : Ref sig .tc := ⟨.hbm, 698, rfl⟩
abbrev main_call3_v65_0 : Ref sig .tc := ⟨.hbm, 699, rfl⟩
abbrev main_call3_v65_1 : Ref sig .tc := ⟨.hbm, 700, rfl⟩
abbrev main_call3_v65_2 : Ref sig .tc := ⟨.hbm, 701, rfl⟩
abbrev main_call3_v65_3 : Ref sig .tc := ⟨.hbm, 702, rfl⟩
abbrev main_call3_v65_4 : Ref sig .tc := ⟨.hbm, 703, rfl⟩
abbrev main_call3_v65_5 : Ref sig .tc := ⟨.hbm, 704, rfl⟩
abbrev main_call3_while0c_c_13 : Ref sig .tc := ⟨.hbm, 705, rfl⟩
abbrev main_call3_while0c_v99 : Ref sig .tc := ⟨.hbm, 706, rfl⟩
abbrev main_call3_while0b_call3_c : Ref sig .tc := ⟨.hbm, 707, rfl⟩
abbrev main_call3_while0b_call3_c_0 : Ref sig .tc := ⟨.hbm, 708, rfl⟩
abbrev main_call3_while0b_call3_c_1 : Ref sig .tc := ⟨.hbm, 709, rfl⟩
abbrev main_call3_while0b_call3_v0 : Ref sig .tc := ⟨.hbm, 710, rfl⟩
abbrev main_call3_while0b_v99 : Ref sig .tc := ⟨.hbm, 711, rfl⟩
abbrev main_call3_while0b_call4_c : Ref sig .tc := ⟨.hbm, 712, rfl⟩
abbrev main_call3_while0b_call4_c_0 : Ref sig .tc := ⟨.hbm, 713, rfl⟩
abbrev main_call3_while0b_call4_c_1 : Ref sig .tc := ⟨.hbm, 714, rfl⟩
abbrev main_call3_while0b_call4_v0 : Ref sig .tc := ⟨.hbm, 715, rfl⟩
abbrev main_call3_while0b_v100 : Ref sig .tc := ⟨.hbm, 716, rfl⟩
abbrev main_call3_while0b_call5_c : Ref sig .tc := ⟨.hbm, 717, rfl⟩
abbrev main_call3_while0b_call5_c_0 : Ref sig .tc := ⟨.hbm, 718, rfl⟩
abbrev main_call3_while0b_call5_v0 : Ref sig .tc := ⟨.hbm, 719, rfl⟩
abbrev main_call3_while0b_v101 : Ref sig .tc := ⟨.hbm, 720, rfl⟩
abbrev main_call3_while0b_v102 : Ref sig .tc := ⟨.hbm, 721, rfl⟩
abbrev main_call3_while0b_v103 : Ref sig .tc := ⟨.hbm, 722, rfl⟩
abbrev main_call3_while0b_v104 : Ref sig .tc := ⟨.hbm, 723, rfl⟩
abbrev main_call3_while0b_call6_v0 : Ref sig .tc := ⟨.hbm, 724, rfl⟩
abbrev main_call3_while0b_call6_c : Ref sig .tc := ⟨.hbm, 725, rfl⟩
abbrev main_call3_while0b_call6_c_0 : Ref sig .tc := ⟨.hbm, 726, rfl⟩
abbrev main_call3_while0b_v105 : Ref sig .tc := ⟨.hbm, 727, rfl⟩
abbrev main_call3_while0b_c_13 : Ref sig .tc := ⟨.hbm, 728, rfl⟩
abbrev main_call3_while0b_v106 : Ref sig .tc := ⟨.hbm, 729, rfl⟩
abbrev main_call3_v66 : Ref sig .tc := ⟨.hbm, 730, rfl⟩
abbrev main_call3_v67 : Ref sig .tc := ⟨.hbm, 731, rfl⟩
abbrev main_call3_v68 : Ref sig .tc := ⟨.hbm, 732, rfl⟩
abbrev main_call3_v69 : Ref sig .tc := ⟨.hbm, 733, rfl⟩
abbrev main_call3_v70 : Ref sig .tc := ⟨.hbm, 734, rfl⟩
abbrev main_call3_call7_v0 : Ref sig .tc := ⟨.hbm, 735, rfl⟩
abbrev main_call3_call7_v1 : Ref sig .tc := ⟨.hbm, 736, rfl⟩
abbrev main_call3_call7_cst : Ref sig .tc := ⟨.hbm, 737, rfl⟩
abbrev main_call3_call7_v2 : Ref sig .tc := ⟨.hbm, 738, rfl⟩
abbrev main_call3_call7_v3 : Ref sig .tc := ⟨.hbm, 739, rfl⟩
abbrev main_call3_call7_cst_0 : Ref sig .tc := ⟨.hbm, 740, rfl⟩
abbrev main_call3_call7_v4 : Ref sig .tc := ⟨.hbm, 741, rfl⟩
abbrev main_call3_call7_v5 : Ref sig .tc := ⟨.hbm, 742, rfl⟩
abbrev main_call3_v71 : Ref sig .tc := ⟨.hbm, 743, rfl⟩
abbrev main_call3_v72 : Ref sig .tc := ⟨.hbm, 744, rfl⟩
abbrev main_call3_v73 : Ref sig .tc := ⟨.hbm, 745, rfl⟩
abbrev main_call3_v74 : Ref sig .tc := ⟨.hbm, 746, rfl⟩
abbrev main_call3_cst_3 : Ref sig .tc := ⟨.hbm, 747, rfl⟩
abbrev main_call3_v75 : Ref sig .tc := ⟨.hbm, 748, rfl⟩
abbrev main_call3_v76 : Ref sig .tc := ⟨.hbm, 749, rfl⟩
abbrev main_call3_cst_4 : Ref sig .tc := ⟨.hbm, 750, rfl⟩
abbrev main_call3_v77 : Ref sig .tc := ⟨.hbm, 751, rfl⟩
abbrev main_call3_v78 : Ref sig .tc := ⟨.hbm, 752, rfl⟩
abbrev main_call3_v79 : Ref sig .tc := ⟨.hbm, 753, rfl⟩
abbrev main_call3_v80 : Ref sig .tc := ⟨.hbm, 754, rfl⟩
abbrev main_call3_v81 : Ref sig .tc := ⟨.hbm, 755, rfl⟩
abbrev main_call3_cst_5 : Ref sig .tc := ⟨.hbm, 756, rfl⟩
abbrev main_call3_v82 : Ref sig .tc := ⟨.hbm, 757, rfl⟩
abbrev main_call3_v83 : Ref sig .tc := ⟨.hbm, 758, rfl⟩
abbrev main_call3_cst_6 : Ref sig .tc := ⟨.hbm, 759, rfl⟩
abbrev main_call3_v84 : Ref sig .tc := ⟨.hbm, 760, rfl⟩
abbrev main_call3_v85 : Ref sig .tc := ⟨.hbm, 761, rfl⟩
abbrev main_call3_v86 : Ref sig .tc := ⟨.hbm, 762, rfl⟩
abbrev main_call3_v87 : Ref sig .tc := ⟨.hbm, 763, rfl⟩
abbrev main_call3_cst_7 : Ref sig .tc := ⟨.hbm, 764, rfl⟩
abbrev main_call3_v88 : Ref sig .tc := ⟨.hbm, 765, rfl⟩
abbrev main_call3_v89 : Ref sig .tc := ⟨.hbm, 766, rfl⟩
abbrev main_call3_v90 : Ref sig .tc := ⟨.hbm, 767, rfl⟩
abbrev main_call3_v91 : Ref sig .tc := ⟨.hbm, 768, rfl⟩
abbrev main_call3_v92 : Ref sig .tc := ⟨.hbm, 769, rfl⟩
abbrev main_call3_v93 : Ref sig .tc := ⟨.hbm, 770, rfl⟩
abbrev main_call3_v94 : Ref sig .tc := ⟨.hbm, 771, rfl⟩
abbrev main_call3_v95 : Ref sig .tc := ⟨.hbm, 772, rfl⟩
abbrev main_call3_v96 : Ref sig .tc := ⟨.hbm, 773, rfl⟩
abbrev main_call3_v97 : Ref sig .tc := ⟨.hbm, 774, rfl⟩
abbrev main_v91 : Ref sig .tc := ⟨.hbm, 775, rfl⟩

abbrev nD : Nat := 1
abbrev τ : Topo := Topo.v7x

variable {F : FTy → Type} [FloatOps F]

abbrev main_while0_count : Scf.Loop 32 := ⟨0#32, 1024#32, 1#32⟩

abbrev main_while1_count : Scf.Loop 32 := ⟨0#32, 1024#32, 1#32⟩

abbrev main_while2_count : Scf.Loop 32 := ⟨0#32, 1024#32, 1#32⟩

abbrev main_while3_count : Scf.Loop 32 := ⟨0#32, 1024#32, 1#32⟩
-- ==== Proof.Ideal.State.lean ====
/- What the kernel's buffers hold, as pure functions of what its windows hold: the recurrence within one chunk of the
   scan, the walk over the chunks, and one whole layer. -/
module

public import proofs.«01_k».proof.Proof.Gen.KernelIdeal.Skeleton
public import Idealize.ShloMosaic.Lib.VecWindow

@[expose] public section

noncomputable section

namespace Cert.KernelIdeal.Hand

open Idealize.ShloMosaic Cert.KernelIdeal Cert.KernelIdeal.Gen

variable {F : FTy → Type} [FloatOps F]

/-- A row of a cube of thirty-two lies in the cube. -/
theorem row_inb (k : ℕ) (hk : k < 32) : ∀ a, (![k, 0, 0] : Fin 3 → ℕ) a + S1x16x1536.size a ≤ S32x16x1536.size a := by
  intro a
  match a with
  | ⟨0, _⟩ => show k + 1 ≤ 32; omega
  | ⟨1, _⟩ => show 0 + 16 ≤ 16; omega
  | ⟨2, _⟩ => show 0 + 1536 ≤ 1536; omega

/-- Chunk `k`, thirty-two rows, lies in the sequence. -/
theorem chunk_inb (k : ℕ) (hk : k < 32) : ∀ a, (![32 * k, 0] : Fin 2 → ℕ) a + S32x1536.size a ≤ S1024x1536.size a := by
  intro a
  match a with
  | ⟨0, _⟩ => show 32 * k + 32 ≤ 1024; omega
  | ⟨1, _⟩ => show 0 + 1536 ≤ 1536; omega

/-- Chunk `k` of the sixteen columns from `o` lies in the projected sequence. -/
theorem cols_inb (k : ℕ) (hk : k < 32) (o : ℕ) (ho : o + 16 ≤ 128) :
    ∀ a, (![32 * k, 0, o] : Fin 3 → ℕ) a + S32x1x16.size a ≤ S1024x1x128.size a := by
  intro a
  match a with
  | ⟨0, _⟩ => show 32 * k + 32 ≤ 1024; omega
  | ⟨1, _⟩ => show 0 + 1 ≤ 1; omega
  | ⟨2, _⟩ => show o + 16 ≤ 128; omega

/-- The recurrence inside a chunk after `k` steps: the carried state, and the cube whose first `k` rows are the states. -/
def inner (dA dB : Vec F S32x16x1536 .f32) (h0 : FVec F S16x1536 .f32) : ℕ → FVec F S16x1536 .f32 × Vec F S32x16x1536 .f32
  | 0 => (h0, dB)
  | k + 1 =>
    if hk : k < 32 then
      (k0_pay5 (inner dA dB h0 k).1 (VecWindow.window dA ![k, 0, 0] S1x16x1536.size (row_inb k hk))
          (VecWindow.window (inner dA dB h0 k).2 ![k, 0, 0] S1x16x1536.size (row_inb k hk)),
        VecWindow.put (inner dA dB h0 k).2 ![k, 0, 0] S1x16x1536.size
          (k0_pay6 (inner dA dB h0 k).1 (VecWindow.window dA ![k, 0, 0] S1x16x1536.size (row_inb k hk))
            (VecWindow.window (inner dA dB h0 k).2 ![k, 0, 0] S1x16x1536.size (row_inb k hk))))
    else inner dA dB h0 k

theorem inner_succ (dA dB : Vec F S32x16x1536 .f32) (h0 : FVec F S16x1536 .f32) (k : ℕ) (hk : k < 32) :
    inner dA dB h0 (k + 1)
      = (k0_pay5 (inner dA dB h0 k).1 (VecWindow.window dA ![k, 0, 0] S1x16x1536.size (row_inb k hk))
          (VecWindow.window (inner dA dB h0 k).2 ![k, 0, 0] S1x16x1536.size (row_inb k hk)),
        VecWindow.put (inner dA dB h0 k).2 ![k, 0, 0] S1x16x1536.size
          (k0_pay6 (inner dA dB h0 k).1 (VecWindow.window dA ![k, 0, 0] S1x16x1536.size (row_inb k hk))
            (VecWindow.window (inner dA dB h0 k).2 ![k, 0, 0] S1x16x1536.size (row_inb k hk)))) := by
  rw [inner, dif_pos hk]

/-- One chunk's decay factors. -/
def chunkA (v83 : Vec F S1x16x1536 .f32) (U : Vec F S1024x1536 .f32) (k : ℕ) (hk : k < 32) : Vec F S32x16x1536 .f32 :=
  k0_pay2 (k0_pay21 v83) (VecWindow.window U ![32 * k, 0] S32x1536.size (chunk_inb k hk))

/-- One chunk's inputs to the recurrence. -/
def chunkB (U U2 : Vec F S1024x1536 .f32) (X : Vec F S1024x1x128 .f32) (k : ℕ) (hk : k < 32) : Vec F S32x16x1536 .f32 :=
  k0_pay4 (VecWindow.window U ![32 * k, 0] S32x1536.size (chunk_inb k hk)) (VecWindow.window U2 ![32 * k, 0] S32x1536.size (chunk_inb k hk))
    (VecWindow.window X ![32 * k, 0, 48] S32x1x16.size (cols_inb k hk 48 (by omega)))

/-- One chunk's output rows, from the state carried into it. -/
def chunkY (v83 : Vec F S1x16x1536 .f32) (U U2 : Vec F S1024x1536 .f32) (X : Vec F S1024x1x128 .f32) (h : FVec F S16x1536 .f32) (k : ℕ) (hk : k < 32) :
    FVec F S32x1536 .f32 :=
  k0_pay23 (inner (chunkA v83 U k hk) (chunkB U U2 X k hk) h 32).2
    (k0_pay3 (VecWindow.window X ![32 * k, 0, 64] S32x1x16.size (cols_inb k hk 64 (by omega))))

/-- The walk over the chunks after `k` of them: the carried state, and the buffer whose first `32 k` rows are outputs and whose other
    rows are still the step sizes. -/
def outer (v83 : Vec F S1x16x1536 .f32) (U U2 : Vec F S1024x1536 .f32) (X : Vec F S1024x1x128 .f32) : ℕ → FVec F S16x1536 .f32 × Vec F S1024x1536 .f32
  | 0 => (k0_pay22, U)
  | k + 1 =>
    if hk : k < 32 then
      ((inner (chunkA v83 (outer v83 U U2 X k).2 k hk) (chunkB (outer v83 U U2 X k).2 U2 X k hk) (outer v83 U U2 X k).1 32).1,
        VecWindow.put (outer v83 U U2 X k).2 ![32 * k, 0] S32x1536.size (chunkY v83 (outer v83 U U2 X k).2 U2 X (outer v83 U U2 X k).1 k hk))
    else outer v83 U U2 X k

theorem outer_succ (v83 : Vec F S1x16x1536 .f32) (U U2 : Vec F S1024x1536 .f32) (X : Vec F S1024x1x128 .f32) (k : ℕ) (hk : k < 32) :
    outer v83 U U2 X (k + 1)
      = ((inner (chunkA v83 (outer v83 U U2 X k).2 k hk) (chunkB (outer v83 U U2 X k).2 U2 X k hk) (outer v83 U U2 X k).1 32).1,
        VecWindow.put (outer v83 U U2 X k).2 ![32 * k, 0] S32x1536.size (chunkY v83 (outer v83 U U2 X k).2 U2 X (outer v83 U U2 X k).1 k hk)) := by
  rw [outer, dif_pos hk]

section Layer

variable (x1 x2 : Vec F S1x768x1536 .bf16) (x3 : Vec F S1x8x1536 .f32) (x4 : Vec F S1x1x1536 .f32) (x5 : Vec F S1x1536x128 .bf16)
  (x6 : Vec F S1x128x1536 .bf16) (x7 : Vec F S1x1x1536 .f32) (x8 : Vec F S1x16x1536 .f32) (x9 : Vec F S1x1x1536 .f32) (x10 : Vec F S1x1536x768 .bf16)
  (x11 x12 : Vec F S1x1x768 .f32) (hin : Vec F S1x1024x768 .f32)

/-- The convolution's partial sums and taps, then the activated sequence. -/
def actV : FVec F S1024x1536 .f32 :=
  k0_pay15 (k0_pay11 x3) (k0_pay10 hin x1) (k0_pay12 x3 (k0_pay10 hin x1) x4) (k0_pay13 x3 (k0_pay10 hin x1))

/-- The projected sequence (step-size features, inputs, outputs of the state space). -/
def projV : FVec F S1024x1x128 .f32 :=
  k0_pay17 (k0_pay11 x3) (k0_pay10 hin x1) (k0_pay12 x3 (k0_pay10 hin x1) x4) (k0_pay13 x3 (k0_pay10 hin x1)) x5

/-- The step sizes. -/
def deltaV : FVec F S1024x1536 .f32 :=
  k0_pay20
    (k0_pay18 (k0_pay11 x3) (k0_pay10 hin x1) (k0_pay12 x3 (k0_pay10 hin x1) x4) (k0_pay13 x3 (k0_pay10 hin x1)) x5 x6 x7)
    (k0_pay19 (k0_pay11 x3) (k0_pay10 hin x1) (k0_pay12 x3 (k0_pay10 hin x1) x4) (k0_pay13 x3 (k0_pay10 hin x1)) x5 x6 x7)

/-- The scan's output. -/
def scanV : Vec F S1024x1536 .f32 :=
  (outer x8 (deltaV x1 x3 x4 x5 x6 x7 hin) (actV x1 x3 x4 hin) (projV x1 x3 x4 x5 hin) 32).2

/-- One whole layer: what the body leaves in the output block, from the block the layer before left. -/
def layerV : FVec F S1x1024x768 .f32 :=
  k0_pay28 (k0_pay8 hin) (k0_pay24 (scanV x1 x3 x4 x5 x6 x7 x8 hin) (actV x1 x3 x4 hin) x9)
    (k0_pay25 (k0_pay9 hin) x2) (k0_pay26 (k0_pay9 hin) x2) k0_pay27 x10 x11 x12

end Layer

end Cert.KernelIdeal.Hand

end
-- ==== Proof.Ideal.Loop2.lean ====
/- The loop inside one chunk: thirty-two steps of the recurrence, by its invariant. -/
module

public import proofs.«01_k».proof.Proof.Ideal.State
public import Idealize.ShloMosaic.Lib.Exec
public import Idealize.ShloMosaic.Lib.Tactic
public import Idealize.ShloMosaic.Lib.Pipeline.Kit
public import Idealize.ShloMosaic.Lib.Pipeline.Frame

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the inner loop's buffers hold before its step `k`: the decay factors as they are, the other cube as the recurrence has left it. -/
abbrev inv2 (c : Dev nD) (arg19 : Memref sig .tc .vmem S32x16x1536 .f32) (arg20 : Memref sig .tc .vmem S32x16x1536 .f32)
    (X : Buf (Elt F) (arg19.view.loc (c : Thread nD τ))) (G : Vec F S32x16x1536 .f32)
    (init : FVec F S16x1536 .f32) (k : ℕ) (acc : FVec F S16x1536 .f32) : sProp 𝕄 :=
  iprop((arg19.view.loc (c : Thread nD τ) ↦[arg19.view.set]{fullShare} X)
    ∗ (∃ f, (arg20.view.loc (c : Thread nD τ) ↦[arg20.view.set]{fullShare} f)
      ∗ ⌜arg20.view.read (Elt F) f = (inner (arg19.view.read (Elt F) X) G init k).2⌝)
    ∗ ⌜acc = (inner (arg19.view.read (Elt F) X) G init k).1⌝)

set_option warn.classDefReducibility false in
/-- The inner loop, by its invariant. -/
@[sl_loop] def loop2 (c : Dev nD) (E : Set ℕ) (i : grid0.Coords) (arg2 : Memref sig .tc .vmem S1x1024x768 .f32) (harg2 : arg2.IsWhole) (arg3 : Memref sig .tc .vmem S1x768x1536 .bf16) (harg3 : arg3.IsWhole) (arg4 : Memref sig .tc .vmem S1x768x1536 .bf16) (harg4 : arg4.IsWhole) (arg5 : Memref sig .tc .vmem S1x8x1536 .f32) (harg5 : arg5.IsWhole) (arg6 : Memref sig .tc .vmem S1x1x1536 .f32) (harg6 : arg6.IsWhole) (arg7 : Memref sig .tc .vmem S1x1536x128 .bf16) (harg7 : arg7.IsWhole) (arg8 : Memref sig .tc .vmem S1x128x1536 .bf16) (harg8 : arg8.IsWhole) (arg9 : Memref sig .tc .vmem S1x1x1536 .f32) (harg9 : arg9.IsWhole) (arg10 : Memref sig .tc .vmem S1x16x1536 .f32) (harg10 : arg10.IsWhole) (arg11 : Memref sig .tc .vmem S1x1x1536 .f32) (harg11 : arg11.IsWhole) (arg12 : Memref sig .tc .vmem S1x1536x768 .bf16) (harg12 : arg12.IsWhole) (arg13 : Memref sig .tc .vmem S1x1x768 .f32) (harg13 : arg13.IsWhole) (arg14 : Memref sig .tc .vmem S1x1x768 .f32) (harg14 : arg14.IsWhole) (arg15 : Memref sig .tc .vmem S1x1024x768 .f32) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x1x128 .f32) (harg18 : arg18.IsWhole) (arg19 : Memref sig .tc .vmem S32x16x1536 .f32) (harg19 : arg19.IsWhole) (arg20 : Memref sig .tc .vmem S32x16x1536 .f32) (harg20 : arg20.IsWhole) (arg21 : Memref sig .tc .vmem S32x16x1 .f32) (harg21 : arg21.IsWhole) (v87 : FVec F S16x1536 .f32) (c0 : BitVec 32) (c1 : BitVec 32) (k1 : Fin k0_t1_loop.trips) (arg23 : FVec F S16x1536 .f32)
    (X : Buf (Elt F) (arg19.view.loc (c : Thread nD τ))) (G : Vec F S32x16x1536 .f32) (init : FVec F S16x1536 .f32) :
    Idealize.ShloMosaic.LoopInv (M := MT nD τ sig Unit (Elt F) ℕ (UR sig nD τ) ℕ) Idealize.ShloMosaic.frame (wpE (defs₀ (F := F)) Variants.none (c : Thread nD τ) none) E
      k0_t2_loop.lb k0_t2_loop.ub k0_t2_loop.st k0_t2_ok init (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v87 c0 c1 k1 arg23) where
  inv := inv2 c arg19 arg20 X G init
  step k acc := by
    have hk : k.val < 32 := Nat.lt_of_lt_of_le k.isLt k0_t2_abs.2.1
    iintro ⟨HR, ⟨%f, HW, %hf⟩, %hacc⟩
    subst hacc
    unfold k0_t2_body
    sl_exec
    sl_step
    isplitl [HR]; · iexact HR
    isplitl [HW]
    · iexists _; isplitl [HW]; · iexact HW
      ipureintro
      rw [inner_succ _ _ _ _ hk, View.read_writes_cons_put _ _ _ _ _ (k0_off4_eq k), View.writes_nil, hf,
        View.readAt_unit _ _ _ (k0_off4_eq k) (row_inb k.val hk), View.readAt_unit _ _ _ (k0_off4_eq k) (row_inb k.val hk), hf]
    ipureintro
    rw [inner_succ _ _ _ _ hk,
        View.readAt_unit _ _ _ (k0_off4_eq k) (row_inb k.val hk), View.readAt_unit _ _ _ (k0_off4_eq k) (row_inb k.val hk), hf]

end Cert.KernelIdeal.Hand

end
-- ==== Proof.Ideal.Loop1.lean ====
/- The walk over the chunks: one chunk per trip, by its invariant over the loop inside. -/
module

public import proofs.«01_k».proof.Proof.Ideal.Loop2

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the outer loop's buffers hold before chunk `k`: the step sizes with the first chunks' rows replaced by outputs, the activated and the
    projected sequence as they are, the three buffers of a chunk at anything. -/
abbrev inv1 (c : Dev nD) (arg16 arg17 : Memref sig .tc .vmem S1024x1536 .f32) (arg18 : Memref sig .tc .vmem S1024x1x128 .f32)
    (arg19 arg20 : Memref sig .tc .vmem S32x16x1536 .f32) (arg21 : Memref sig .tc .vmem S32x16x1 .f32) (v83 : Vec F S1x16x1536 .f32)
    (G : Vec F S1024x1536 .f32) (X : Buf (Elt F) (arg17.view.loc (c : Thread nD τ))) (Y : Buf (Elt F) (arg18.view.loc (c : Thread nD τ)))
    (k : ℕ) (acc : FVec F S16x1536 .f32) : sProp 𝕄 :=
  iprop((∃ f, (arg16.view.loc (c : Thread nD τ) ↦[arg16.view.set]{fullShare} f)
      ∗ ⌜arg16.view.read (Elt F) f = (outer v83 G (arg17.view.read (Elt F) X) (arg18.view.read (Elt F) Y) k).2⌝)
    ∗ (arg17.view.loc (c : Thread nD τ) ↦[arg17.view.set]{fullShare} X)
    ∗ (arg18.view.loc (c : Thread nD τ) ↦[arg18.view.set]{fullShare} Y)
    ∗ (∃ f, (arg19.view.loc (c : Thread nD τ) ↦[arg19.view.set]{fullShare} f))
    ∗ (∃ f, (arg20.view.loc (c : Thread nD τ) ↦[arg20.view.set]{fullShare} f))
    ∗ (∃ f, (arg21.view.loc (c : Thread nD τ) ↦[arg21.view.set]{fullShare} f))
    ∗ ⌜acc = (outer v83 G (arg17.view.read (Elt F) X) (arg18.view.read (Elt F) Y) k).1⌝)

/-- The inner loop runs thirty-two trips. -/
theorem trips2 : Scf.trips k0_t2_loop.lb k0_t2_loop.ub k0_t2_loop.st = 32 := by decide +kernel

/-- The recurrence is a function of its two cubes. -/
theorem inner_congr {A A' B B' : Vec F S32x16x1536 .f32} {h : FVec F S16x1536 .f32} {n n' : ℕ} (hA : A = A') (hB : B = B') (hn : n = n') :
    inner A B h n = inner A' B' h n' := by
  subst hA; subst hB; subst hn; rfl

set_option warn.classDefReducibility false in
/-- The outer loop, by its invariant. -/
@[sl_loop] def loop1 (c : Dev nD) (E : Set ℕ) (i : grid0.Coords) (arg2 : Memref sig .tc .vmem S1x1024x768 .f32) (harg2 : arg2.IsWhole) (arg3 : Memref sig .tc .vmem S1x768x1536 .bf16) (harg3 : arg3.IsWhole) (arg4 : Memref sig .tc .vmem S1x768x1536 .bf16) (harg4 : arg4.IsWhole) (arg5 : Memref sig .tc .vmem S1x8x1536 .f32) (harg5 : arg5.IsWhole) (arg6 : Memref sig .tc .vmem S1x1x1536 .f32) (harg6 : arg6.IsWhole) (arg7 : Memref sig .tc .vmem S1x1536x128 .bf16) (harg7 : arg7.IsWhole) (arg8 : Memref sig .tc .vmem S1x128x1536 .bf16) (harg8 : arg8.IsWhole) (arg9 : Memref sig .tc .vmem S1x1x1536 .f32) (harg9 : arg9.IsWhole) (arg10 : Memref sig .tc .vmem S1x16x1536 .f32) (harg10 : arg10.IsWhole) (arg11 : Memref sig .tc .vmem S1x1x1536 .f32) (harg11 : arg11.IsWhole) (arg12 : Memref sig .tc .vmem S1x1536x768 .bf16) (harg12 : arg12.IsWhole) (arg13 : Memref sig .tc .vmem S1x1x768 .f32) (harg13 : arg13.IsWhole) (arg14 : Memref sig .tc .vmem S1x1x768 .f32) (harg14 : arg14.IsWhole) (arg15 : Memref sig .tc .vmem S1x1024x768 .f32) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x1x128 .f32) (harg18 : arg18.IsWhole) (arg19 : Memref sig .tc .vmem S32x16x1536 .f32) (harg19 : arg19.IsWhole) (arg20 : Memref sig .tc .vmem S32x16x1536 .f32) (harg20 : arg20.IsWhole) (arg21 : Memref sig .tc .vmem S32x16x1 .f32) (harg21 : arg21.IsWhole) (v5 : FVec F S1024x768 .bf16) (v69 v71 : FVec F S1024x1536 .f32) (v83 : Vec F S1x16x1536 .f32)
    (G : Vec F S1024x1536 .f32) (X : Buf (Elt F) (arg17.view.loc (c : Thread nD τ))) (Y : Buf (Elt F) (arg18.view.loc (c : Thread nD τ))) :
    Idealize.ShloMosaic.LoopInv (M := MT nD τ sig Unit (Elt F) ℕ (UR sig nD τ) ℕ) Idealize.ShloMosaic.frame (wpE (defs₀ (F := F)) Variants.none (c : Thread nD τ) none) E
      k0_t1_loop.lb k0_t1_loop.ub k0_t1_loop.st k0_t1_ok (k0_pay22 (F := F)) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v69 v71 v83) where
  inv := inv1 c arg16 arg17 arg18 arg19 arg20 arg21 v83 G X Y
  step k acc := by
    have hk : k.val < 32 := Nat.lt_of_lt_of_le k.isLt k0_t1_abs.2.1
    iintro ⟨⟨%f, H16, %hf⟩, H17, H18, ⟨%f19, H19⟩, ⟨%f20, H20⟩, ⟨%f21, H21⟩, %hacc⟩
    subst hacc
    unfold k0_t1_body
    simp only [k0_part1_eq_skeleton]
    sl_exec
    sl_step
    have hA : View.read (Elt F) arg19.view (arg19.view.writes (Elt F) arg19.view.junk
        [⟨Rect.unit (s := S32x16x1536) ![0, 0, 0] S32x16x1536.size inb_S32x16x1536_S32x16x1536_0_0_0,
          k0_pay2 (k0_pay21 v83) (View.readAt (Elt F) arg16.view (Rect.unit (s := S1024x1536) (k0_off1 k) S32x1536.size (k0_off1_inb k)).toLoadRect f)⟩])
        = chunkA v83 (outer v83 G (arg17.view.read (Elt F) X) (arg18.view.read (Elt F) Y) k.val).2 k.val hk := by
      rw [View.read_writes_full, View.readAt_unit _ _ _ (k0_off1_eq k) (chunk_inb k.val hk), hf]; rfl
    have hB : View.read (Elt F) arg20.view (arg20.view.writes (Elt F) arg20.view.junk
        [⟨Rect.unit (s := S32x16x1536) ![0, 0, 0] S32x16x1536.size inb_S32x16x1536_S32x16x1536_0_0_0,
          k0_pay4 (View.readAt (Elt F) arg16.view (Rect.unit (s := S1024x1536) (k0_off1 k) S32x1536.size (k0_off1_inb k)).toLoadRect f)
            (View.readAt (Elt F) arg17.view (Rect.unit (s := S1024x1536) (k0_off1 k) S32x1536.size (k0_off1_inb k)).toLoadRect X)
            (View.readAt (Elt F) arg18.view (Rect.unit (s := S1024x1x128) (k0_off2 k) S32x1x16.size (k0_off2_inb k)).toLoadRect Y)⟩])
        = chunkB (outer v83 G (arg17.view.read (Elt F) X) (arg18.view.read (Elt F) Y) k.val).2 (arg17.view.read (Elt F) X) (arg18.view.read (Elt F) Y) k.val hk := by
      rw [View.read_writes_full, View.readAt_unit _ _ _ (k0_off1_eq k) (chunk_inb k.val hk), View.readAt_unit _ _ _ (k0_off1_eq k) (chunk_inb k.val hk),
        View.readAt_unit _ _ _ (k0_off2_eq k) (cols_inb k.val hk 48 (by omega)), hf]; rfl
    have eB := hL2.trans (congrArg Prod.snd (inner_congr hA hB trips2))
    have e21 : View.readAt (Elt F) arg21.view (Rect.unit (s := S32x16x1) ![0, 0, 0] S32x16x1.size inb_S32x16x1_S32x16x1_0_0_0).toLoadRect
        (arg21.view.writes (Elt F) arg21.view.junk [⟨Rect.unit (s := S32x16x1) ![0, 0, 0] S32x16x1.size inb_S32x16x1_S32x16x1_0_0_0,
          k0_pay3 (View.readAt (Elt F) arg18.view (Rect.unit (s := S1024x1x128) (k0_off3 k) S32x1x16.size (k0_off3_inb k)).toLoadRect Y)⟩])
        = k0_pay3 (VecWindow.window (arg18.view.read (Elt F) Y) ![32 * k.val, 0, 64] S32x1x16.size (cols_inb k.val hk 64 (by omega))) := by
      rw [View.readAt_full, View.read_writes_full, View.readAt_unit _ _ _ (k0_off3_eq k) (cols_inb k.val hk 64 (by omega))]
    isplitl [H16]
    · iexists _; isplitl [H16]; · iexact H16
      ipureintro
      rw [outer_succ _ _ _ _ _ hk, View.read_writes_cons_put _ _ _ _ _ (k0_off1_eq k), View.writes_nil, hf]
      refine congrArg (VecWindow.put _ _ _) (congrArg₂ k0_pay23 ?_ e21)
      exact (View.readAt_full _ _ _).trans eB
    isplitl [H17]; · iexact H17
    isplitl [H18]; · iexact H18
    isplitl [H19]; · iexists _; iexact H19
    isplitl [H20]; · iexists _; iexact H20
    isplitl [H21]; · iexists _; iexact H21
    ipureintro
    rw [outer_succ _ _ _ _ _ hk]
    exact congrArg Prod.fst (inner_congr hA hB trips2)

end Cert.KernelIdeal.Hand

end
-- ==== Proof.Ideal.Body.lean ====
/- One run of the kernel's body, on any staging memrefs: what it leaves in the output block. -/
module

public import proofs.«01_k».proof.Proof.Ideal.Loop1
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The loop over the chunks runs thirty-two trips. -/
theorem trips1 : Scf.trips k0_t1_loop.lb k0_t1_loop.ub k0_t1_loop.st = 32 := by decide +kernel

/-- The condition under which the body first copies the input block into the output block: the layer is the first. -/
abbrev first (i : grid0.Coords) : Prop := (Scalar.cmpi .ne (Scalar.extui (Scalar.cmpi .eq (BitVec.ofNat 32 (i 1).val) 0#32)) 0#32) = 1#1

/-- The walk over the chunks is a function of what it is given. -/
theorem outer_congr {v v' : Vec F S1x16x1536 .f32} {U U' U2 U2' : Vec F S1024x1536 .f32} {X X' : Vec F S1024x1x128 .f32} {n n' : ℕ}
    (hv : v = v') (hU : U = U') (h2 : U2 = U2') (hX : X = X') (hn : n = n') : outer v U U2 X n = outer v' U' U2' X' n' := by
  subst hv; subst hU; subst h2; subst hX; subst hn; rfl

set_option maxHeartbeats 4000000 in
/-- THE BODY AT A LATER LAYER: the output block is read, and the layer's result takes its place. -/
theorem run_later (c : Dev nD) (i : grid0.Coords) (arg2 : Memref sig .tc .vmem S1x1024x768 .f32) (harg2 : arg2.IsWhole) (arg3 : Memref sig .tc .vmem S1x768x1536 .bf16) (harg3 : arg3.IsWhole) (arg4 : Memref sig .tc .vmem S1x768x1536 .bf16) (harg4 : arg4.IsWhole) (arg5 : Memref sig .tc .vmem S1x8x1536 .f32) (harg5 : arg5.IsWhole) (arg6 : Memref sig .tc .vmem S1x1x1536 .f32) (harg6 : arg6.IsWhole) (arg7 : Memref sig .tc .vmem S1x1536x128 .bf16) (harg7 : arg7.IsWhole) (arg8 : Memref sig .tc .vmem S1x128x1536 .bf16) (harg8 : arg8.IsWhole) (arg9 : Memref sig .tc .vmem S1x1x1536 .f32) (harg9 : arg9.IsWhole) (arg10 : Memref sig .tc .vmem S1x16x1536 .f32) (harg10 : arg10.IsWhole) (arg11 : Memref sig .tc .vmem S1x1x1536 .f32) (harg11 : arg11.IsWhole) (arg12 : Memref sig .tc .vmem S1x1536x768 .bf16) (harg12 : arg12.IsWhole) (arg13 : Memref sig .tc .vmem S1x1x768 .f32) (harg13 : arg13.IsWhole) (arg14 : Memref sig .tc .vmem S1x1x768 .f32) (harg14 : arg14.IsWhole) (arg15 : Memref sig .tc .vmem S1x1024x768 .f32) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x1x128 .f32) (harg18 : arg18.IsWhole) (arg19 : Memref sig .tc .vmem S32x16x1536 .f32) (harg19 : arg19.IsWhole) (arg20 : Memref sig .tc .vmem S32x16x1536 .f32) (harg20 : arg20.IsWhole) (arg21 : Memref sig .tc .vmem S32x16x1 .f32) (harg21 : arg21.IsWhole) (hc : ¬ first i)
    (x0 : Vec F S1x1024x768 .f32) (x1 : Vec F S1x768x1536 .bf16) (x2 : Vec F S1x768x1536 .bf16) (x3 : Vec F S1x8x1536 .f32) (x4 : Vec F S1x1x1536 .f32) (x5 : Vec F S1x1536x128 .bf16) (x6 : Vec F S1x128x1536 .bf16) (x7 : Vec F S1x1x1536 .f32) (x8 : Vec F S1x16x1536 .f32) (x9 : Vec F S1x1x1536 .f32) (x10 : Vec F S1x1536x768 .bf16) (x11 : Vec F S1x1x768 .f32) (x12 : Vec F S1x1x768 .f32)
    (xo : Vec F S1x1024x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
      ∗ owns (c : Thread nD τ) arg15 fullShare xo ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
          ∗ owns (c : Thread nD τ) arg15 fullShare (layerV x1 x2 x3 x4 x5 x6 x7 x8 x9 x10 x11 x12 xo) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0__mamba_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    simp only [cc0__mamba_body_eq_skeleton]; unfold cc0__mamba_body_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    sl_exec (disch := first | sl_exact hc)
    sl_step
    have r3 : View.readAt (Elt F) arg3.view (Rect.unit (s := S1x768x1536) ![0, 0, 0] S1x768x1536.size inb_S1x768x1536_S1x768x1536_0_0_0).toLoadRect f1 = x1 := (View.readAt_full _ _ _).trans hf1
    have r4 : View.readAt (Elt F) arg4.view (Rect.unit (s := S1x768x1536) ![0, 0, 0] S1x768x1536.size inb_S1x768x1536_S1x768x1536_0_0_0).toLoadRect f2 = x2 := (View.readAt_full _ _ _).trans hf2
    have r5 : View.readAt (Elt F) arg5.view (Rect.unit (s := S1x8x1536) ![0, 0, 0] S1x8x1536.size inb_S1x8x1536_S1x8x1536_0_0_0).toLoadRect f3 = x3 := (View.readAt_full _ _ _).trans hf3
    have r6 : View.readAt (Elt F) arg6.view (Rect.unit (s := S1x1x1536) ![0, 0, 0] S1x1x1536.size inb_S1x1x1536_S1x1x1536_0_0_0).toLoadRect f4 = x4 := (View.readAt_full _ _ _).trans hf4
    have r7 : View.readAt (Elt F) arg7.view (Rect.unit (s := S1x1536x128) ![0, 0, 0] S1x1536x128.size inb_S1x1536x128_S1x1536x128_0_0_0).toLoadRect f5 = x5 := (View.readAt_full _ _ _).trans hf5
    have r8 : View.readAt (Elt F) arg8.view (Rect.unit (s := S1x128x1536) ![0, 0, 0] S1x128x1536.size inb_S1x128x1536_S1x128x1536_0_0_0).toLoadRect f6 = x6 := (View.readAt_full _ _ _).trans hf6
    have r9 : View.readAt (Elt F) arg9.view (Rect.unit (s := S1x1x1536) ![0, 0, 0] S1x1x1536.size inb_S1x1x1536_S1x1x1536_0_0_0).toLoadRect f7 = x7 := (View.readAt_full _ _ _).trans hf7
    have r10 : View.readAt (Elt F) arg10.view (Rect.unit (s := S1x16x1536) ![0, 0, 0] S1x16x1536.size inb_S1x16x1536_S1x16x1536_0_0_0).toLoadRect f8 = x8 := (View.readAt_full _ _ _).trans hf8
    have r11 : View.readAt (Elt F) arg11.view (Rect.unit (s := S1x1x1536) ![0, 0, 0] S1x1x1536.size inb_S1x1x1536_S1x1x1536_0_0_0).toLoadRect f9 = x9 := (View.readAt_full _ _ _).trans hf9
    have r12 : View.readAt (Elt F) arg12.view (Rect.unit (s := S1x1536x768) ![0, 0, 0] S1x1536x768.size inb_S1x1536x768_S1x1536x768_0_0_0).toLoadRect f10 = x10 := (View.readAt_full _ _ _).trans hf10
    have r13 : View.readAt (Elt F) arg13.view (Rect.unit (s := S1x1x768) ![0, 0, 0] S1x1x768.size inb_S1x1x768_S1x1x768_0_0_0).toLoadRect f11 = x11 := (View.readAt_full _ _ _).trans hf11
    have r14 : View.readAt (Elt F) arg14.view (Rect.unit (s := S1x1x768) ![0, 0, 0] S1x1x768.size inb_S1x1x768_S1x1x768_0_0_0).toLoadRect f12 = x12 := (View.readAt_full _ _ _).trans hf12
    have r15 : View.readAt (Elt F) arg15.view (Rect.unit (s := S1x1024x768) ![0, 0, 0] S1x1024x768.size inb_S1x1024x768_S1x1024x768_0_0_0).toLoadRect f13 = xo := (View.readAt_full _ _ _).trans hf13
    have r16 : arg16.view.readCov ([⟨(Rect.unit (s := S1024x1536) ![0, 0] S1024x1536.size inb_S1024x1536_S1024x1536_0_0), k0_pay10 xo x1⟩] : List (View.Piece (Elt F) S1024x1536 .f32)) (Rect.unit (s := S1024x1536) ![0, 0] S1024x1536.size inb_S1024x1536_S1024x1536_0_0).toLoadRect = k0_pay10 xo x1 := View.readCov_full _ _ _ _ _
    have r17 : arg17.view.readCov ([⟨(Rect.unit (s := S1024x1536) ![0, 0] S1024x1536.size inb_S1024x1536_S1024x1536_0_0), actV x1 x3 x4 xo⟩] : List (View.Piece (Elt F) S1024x1536 .f32)) (Rect.unit (s := S1024x1536) ![0, 0] S1024x1536.size inb_S1024x1536_S1024x1536_0_0).toLoadRect = actV x1 x3 x4 xo := View.readCov_full _ _ _ _ _
    have eU : View.read (Elt F) arg16.view fL0 = scanV x1 x3 x4 x5 x6 x7 x8 xo := by
      refine hL1.trans (congrArg Prod.snd (outer_congr r10 ((View.read_writes_full arg16.view _ _ _ _).trans ?_)
        ((View.read_writes_full arg17.view _ _ _ _).trans ?_) ((View.read_writes_full arg18.view _ _ _ _).trans ?_) trips1))
      · show k0_pay20 _ _ = _
        try delta run_later.sl.r_7
        try delta run_later.sl.r_8
        try delta run_later.sl.r_9
        try delta run_later.sl.v92
        try delta run_later.sl.HS1_1
        try delta run_later.sl.HS0_2
        try delta run_later.sl.HS2_1
        try delta run_later.sl.r_5
        try delta run_later.sl.r_6
        try delta run_later.sl.r_3
        try delta run_later.sl.r_4
        try delta run_later.sl.r_2
        try delta run_later.sl.r_1
        try delta run_later.sl.r
        try delta run_later.sl.v14
        try delta run_later.sl.HS0_1
        try delta run_later.sl.v3
        try delta run_later.sl.HS
        try delta run_later.sl.H13_1
        simp only [r15, r3, r4, r5, r6, r7, r8, r9, r10, r11, r12, r13, r14, r16]
        rfl
      · show k0_pay15 _ _ _ _ = _
        try delta run_later.sl.r_7
        try delta run_later.sl.r_8
        try delta run_later.sl.r_9
        try delta run_later.sl.v92
        try delta run_later.sl.HS1_1
        try delta run_later.sl.HS0_2
        try delta run_later.sl.HS2_1
        try delta run_later.sl.r_5
        try delta run_later.sl.r_6
        try delta run_later.sl.r_3
        try delta run_later.sl.r_4
        try delta run_later.sl.r_2
        try delta run_later.sl.r_1
        try delta run_later.sl.r
        try delta run_later.sl.v14
        try delta run_later.sl.HS0_1
        try delta run_later.sl.v3
        try delta run_later.sl.HS
        try delta run_later.sl.H13_1
        simp only [r15, r3, r4, r5, r6, r7, r8, r9, r10, r11, r12, r13, r14, r16]
        rfl
      · show k0_pay17 _ _ _ _ _ = _
        try delta run_later.sl.r_7
        try delta run_later.sl.r_8
        try delta run_later.sl.r_9
        try delta run_later.sl.v92
        try delta run_later.sl.HS1_1
        try delta run_later.sl.HS0_2
        try delta run_later.sl.HS2_1
        try delta run_later.sl.r_5
        try delta run_later.sl.r_6
        try delta run_later.sl.r_3
        try delta run_later.sl.r_4
        try delta run_later.sl.r_2
        try delta run_later.sl.r_1
        try delta run_later.sl.r
        try delta run_later.sl.v14
        try delta run_later.sl.HS0_1
        try delta run_later.sl.v3
        try delta run_later.sl.HS
        try delta run_later.sl.H13_1
        simp only [r15, r3, r4, r5, r6, r7, r8, r9, r10, r11, r12, r13, r14, r16]
        rfl
    have eR : View.readAt (Elt F) arg16.view (Rect.unit (s := S1024x1536) ![0, 0] S1024x1536.size inb_S1024x1536_S1024x1536_0_0).toLoadRect fL0 = scanV x1 x3 x4 x5 x6 x7 x8 xo := (View.readAt_full _ _ _).trans eU
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]; · iexists _; isplitr; · ipureintro; exact hf10
                     iexact H10
    isplitl [H11]; · iexists _; isplitr; · ipureintro; exact hf11
                     iexact H11
    isplitl [H12]; · iexists _; isplitr; · ipureintro; exact hf12
                     iexact H12
    isplitl [H13]
    · iexists _; isplitr
      swap; · iexact H13
      ipureintro
      refine (View.read_writes_full arg15.view _ _ _ _).trans ?_
      try delta run_later.sl.r_7
      try delta run_later.sl.r_8
      try delta run_later.sl.r_9
      try delta run_later.sl.v92
      try delta run_later.sl.HS1_1
      try delta run_later.sl.HS0_2
      try delta run_later.sl.HS2_1
      try delta run_later.sl.r_5
      try delta run_later.sl.r_6
      try delta run_later.sl.r_3
      try delta run_later.sl.r_4
      try delta run_later.sl.r_2
      try delta run_later.sl.r_1
      try delta run_later.sl.r
      try delta run_later.sl.v14
      try delta run_later.sl.HS0_1
      try delta run_later.sl.v3
      try delta run_later.sl.HS
      try delta run_later.sl.H13_1
      simp only [r15, r3, r4, r5, r6, r7, r8, r9, r10, r11, r12, r13, r14, r16, eR]
      have e17 : k0_pay15 (k0_pay11 x3) (k0_pay10 xo x1) (k0_pay12 x3 (k0_pay10 xo x1) x4) (k0_pay13 x3 (k0_pay10 xo x1)) = actV x1 x3 x4 xo := rfl
      rw [e17, r17]
      rfl
    isplitl [HS0]
    · iexists _; iexists _; isplitr
      swap; · iexact HS0
      ipureintro; rfl
    isplitl [HS1]
    · iexists _; iexists _; isplitr
      swap; · iexact HS1
      ipureintro; rfl
    isplitl [HS2]
    · iexists _; iexists _; isplitr
      swap; · iexact HS2
      ipureintro; rfl
    isplitl [HS3]
    · iexists _; iexists _; isplitr
      swap; · iexact HS3
      ipureintro; rfl
    isplitl [HS4]
    · iexists _; iexists _; isplitr
      swap; · iexact HS4
      ipureintro; rfl
    iexists _; iexists _; isplitr
    swap; · iexact HS5
    ipureintro; rfl

set_option maxHeartbeats 4000000 in
/-- THE BODY AT THE FIRST LAYER: the input block is copied into the output block, and the layer's result takes its place. -/
theorem run_first (c : Dev nD) (i : grid0.Coords) (arg2 : Memref sig .tc .vmem S1x1024x768 .f32) (harg2 : arg2.IsWhole) (arg3 : Memref sig .tc .vmem S1x768x1536 .bf16) (harg3 : arg3.IsWhole) (arg4 : Memref sig .tc .vmem S1x768x1536 .bf16) (harg4 : arg4.IsWhole) (arg5 : Memref sig .tc .vmem S1x8x1536 .f32) (harg5 : arg5.IsWhole) (arg6 : Memref sig .tc .vmem S1x1x1536 .f32) (harg6 : arg6.IsWhole) (arg7 : Memref sig .tc .vmem S1x1536x128 .bf16) (harg7 : arg7.IsWhole) (arg8 : Memref sig .tc .vmem S1x128x1536 .bf16) (harg8 : arg8.IsWhole) (arg9 : Memref sig .tc .vmem S1x1x1536 .f32) (harg9 : arg9.IsWhole) (arg10 : Memref sig .tc .vmem S1x16x1536 .f32) (harg10 : arg10.IsWhole) (arg11 : Memref sig .tc .vmem S1x1x1536 .f32) (harg11 : arg11.IsWhole) (arg12 : Memref sig .tc .vmem S1x1536x768 .bf16) (harg12 : arg12.IsWhole) (arg13 : Memref sig .tc .vmem S1x1x768 .f32) (harg13 : arg13.IsWhole) (arg14 : Memref sig .tc .vmem S1x1x768 .f32) (harg14 : arg14.IsWhole) (arg15 : Memref sig .tc .vmem S1x1024x768 .f32) (harg15 : arg15.IsWhole) (arg16 : Memref sig .tc .vmem S1024x1536 .f32) (harg16 : arg16.IsWhole) (arg17 : Memref sig .tc .vmem S1024x1536 .f32) (harg17 : arg17.IsWhole) (arg18 : Memref sig .tc .vmem S1024x1x128 .f32) (harg18 : arg18.IsWhole) (arg19 : Memref sig .tc .vmem S32x16x1536 .f32) (harg19 : arg19.IsWhole) (arg20 : Memref sig .tc .vmem S32x16x1536 .f32) (harg20 : arg20.IsWhole) (arg21 : Memref sig .tc .vmem S32x16x1 .f32) (harg21 : arg21.IsWhole) (hc : first i)
    (x0 : Vec F S1x1024x768 .f32) (x1 : Vec F S1x768x1536 .bf16) (x2 : Vec F S1x768x1536 .bf16) (x3 : Vec F S1x8x1536 .f32) (x4 : Vec F S1x1x1536 .f32) (x5 : Vec F S1x1536x128 .bf16) (x6 : Vec F S1x128x1536 .bf16) (x7 : Vec F S1x1x1536 .f32) (x8 : Vec F S1x16x1536 .f32) (x9 : Vec F S1x1x1536 .f32) (x10 : Vec F S1x1536x768 .bf16) (x11 : Vec F S1x1x768 .f32) (x12 : Vec F S1x1x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
      ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
          ∗ owns (c : Thread nD τ) arg15 fullShare (layerV x1 x2 x3 x4 x5 x6 x7 x8 x9 x10 x11 x12 (k0_pay7 x0)) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0__mamba_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    simp only [cc0__mamba_body_eq_skeleton]; unfold cc0__mamba_body_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    sl_exec (disch := first | sl_exact hc)
    sl_step
    have r3 : View.readAt (Elt F) arg3.view (Rect.unit (s := S1x768x1536) ![0, 0, 0] S1x768x1536.size inb_S1x768x1536_S1x768x1536_0_0_0).toLoadRect f1 = x1 := (View.readAt_full _ _ _).trans hf1
    have r4 : View.readAt (Elt F) arg4.view (Rect.unit (s := S1x768x1536) ![0, 0, 0] S1x768x1536.size inb_S1x768x1536_S1x768x1536_0_0_0).toLoadRect f2 = x2 := (View.readAt_full _ _ _).trans hf2
    have r5 : View.readAt (Elt F) arg5.view (Rect.unit (s := S1x8x1536) ![0, 0, 0] S1x8x1536.size inb_S1x8x1536_S1x8x1536_0_0_0).toLoadRect f3 = x3 := (View.readAt_full _ _ _).trans hf3
    have r6 : View.readAt (Elt F) arg6.view (Rect.unit (s := S1x1x1536) ![0, 0, 0] S1x1x1536.size inb_S1x1x1536_S1x1x1536_0_0_0).toLoadRect f4 = x4 := (View.readAt_full _ _ _).trans hf4
    have r7 : View.readAt (Elt F) arg7.view (Rect.unit (s := S1x1536x128) ![0, 0, 0] S1x1536x128.size inb_S1x1536x128_S1x1536x128_0_0_0).toLoadRect f5 = x5 := (View.readAt_full _ _ _).trans hf5
    have r8 : View.readAt (Elt F) arg8.view (Rect.unit (s := S1x128x1536) ![0, 0, 0] S1x128x1536.size inb_S1x128x1536_S1x128x1536_0_0_0).toLoadRect f6 = x6 := (View.readAt_full _ _ _).trans hf6
    have r9 : View.readAt (Elt F) arg9.view (Rect.unit (s := S1x1x1536) ![0, 0, 0] S1x1x1536.size inb_S1x1x1536_S1x1x1536_0_0_0).toLoadRect f7 = x7 := (View.readAt_full _ _ _).trans hf7
    have r10 : View.readAt (Elt F) arg10.view (Rect.unit (s := S1x16x1536) ![0, 0, 0] S1x16x1536.size inb_S1x16x1536_S1x16x1536_0_0_0).toLoadRect f8 = x8 := (View.readAt_full _ _ _).trans hf8
    have r11 : View.readAt (Elt F) arg11.view (Rect.unit (s := S1x1x1536) ![0, 0, 0] S1x1x1536.size inb_S1x1x1536_S1x1x1536_0_0_0).toLoadRect f9 = x9 := (View.readAt_full _ _ _).trans hf9
    have r12 : View.readAt (Elt F) arg12.view (Rect.unit (s := S1x1536x768) ![0, 0, 0] S1x1536x768.size inb_S1x1536x768_S1x1536x768_0_0_0).toLoadRect f10 = x10 := (View.readAt_full _ _ _).trans hf10
    have r13 : View.readAt (Elt F) arg13.view (Rect.unit (s := S1x1x768) ![0, 0, 0] S1x1x768.size inb_S1x1x768_S1x1x768_0_0_0).toLoadRect f11 = x11 := (View.readAt_full _ _ _).trans hf11
    have r14 : View.readAt (Elt F) arg14.view (Rect.unit (s := S1x1x768) ![0, 0, 0] S1x1x768.size inb_S1x1x768_S1x1x768_0_0_0).toLoadRect f12 = x12 := (View.readAt_full _ _ _).trans hf12
    have r2 : View.readAt (Elt F) arg2.view (Rect.unit (s := S1x1024x768) ![0, 0, 0] S1x1024x768.size inb_S1x1024x768_S1x1024x768_0_0_0).toLoadRect f0 = x0 := (View.readAt_full _ _ _).trans hf0
    have r15 : (arg15.view.readCov ([⟨(Rect.unit (s := S1x1024x768) ![0, 0, 0] S1x1024x768.size inb_S1x1024x768_S1x1024x768_0_0_0), k0_pay7 (View.readAt (Elt F) arg2.view (Rect.unit (s := S1x1024x768) ![0, 0, 0] S1x1024x768.size inb_S1x1024x768_S1x1024x768_0_0_0).toLoadRect f0)⟩] : List (View.Piece (Elt F) S1x1024x768 .f32)) (Rect.unit (s := S1x1024x768) ![0, 0, 0] S1x1024x768.size inb_S1x1024x768_S1x1024x768_0_0_0).toLoadRect) = k0_pay7 x0 := (View.readCov_full _ _ _ _ _).trans (congrArg k0_pay7 r2)
    have r16 : arg16.view.readCov ([⟨(Rect.unit (s := S1024x1536) ![0, 0] S1024x1536.size inb_S1024x1536_S1024x1536_0_0), k0_pay10 (k0_pay7 x0) x1⟩] : List (View.Piece (Elt F) S1024x1536 .f32)) (Rect.unit (s := S1024x1536) ![0, 0] S1024x1536.size inb_S1024x1536_S1024x1536_0_0).toLoadRect = k0_pay10 (k0_pay7 x0) x1 := View.readCov_full _ _ _ _ _
    have r17 : arg17.view.readCov ([⟨(Rect.unit (s := S1024x1536) ![0, 0] S1024x1536.size inb_S1024x1536_S1024x1536_0_0), actV x1 x3 x4 (k0_pay7 x0)⟩] : List (View.Piece (Elt F) S1024x1536 .f32)) (Rect.unit (s := S1024x1536) ![0, 0] S1024x1536.size inb_S1024x1536_S1024x1536_0_0).toLoadRect = actV x1 x3 x4 (k0_pay7 x0) := View.readCov_full _ _ _ _ _
    have eU : View.read (Elt F) arg16.view fL0 = scanV x1 x3 x4 x5 x6 x7 x8 (k0_pay7 x0) := by
      refine hL1.trans (congrArg Prod.snd (outer_congr r10 ((View.read_writes_full arg16.view _ _ _ _).trans ?_)
        ((View.read_writes_full arg17.view _ _ _ _).trans ?_) ((View.read_writes_full arg18.view _ _ _ _).trans ?_) trips1))
      · show k0_pay20 _ _ = _
        try delta run_first.sl.r_7
        try delta run_first.sl.r_8
        try delta run_first.sl.r_9
        try delta run_first.sl.v92
        try delta run_first.sl.HS1_1
        try delta run_first.sl.HS0_2
        try delta run_first.sl.HS2_1
        try delta run_first.sl.r_5
        try delta run_first.sl.r_6
        try delta run_first.sl.r_3
        try delta run_first.sl.r_4
        try delta run_first.sl.r_2
        try delta run_first.sl.r_1
        try delta run_first.sl.r
        try delta run_first.sl.v14
        try delta run_first.sl.HS0_1
        try delta run_first.sl.v3
        try delta run_first.sl.HS
        try delta run_first.sl.H13_1
        simp only [r15, r3, r4, r5, r6, r7, r8, r9, r10, r11, r12, r13, r14, r16]
        rfl
      · show k0_pay15 _ _ _ _ = _
        try delta run_first.sl.r_7
        try delta run_first.sl.r_8
        try delta run_first.sl.r_9
        try delta run_first.sl.v92
        try delta run_first.sl.HS1_1
        try delta run_first.sl.HS0_2
        try delta run_first.sl.HS2_1
        try delta run_first.sl.r_5
        try delta run_first.sl.r_6
        try delta run_first.sl.r_3
        try delta run_first.sl.r_4
        try delta run_first.sl.r_2
        try delta run_first.sl.r_1
        try delta run_first.sl.r
        try delta run_first.sl.v14
        try delta run_first.sl.HS0_1
        try delta run_first.sl.v3
        try delta run_first.sl.HS
        try delta run_first.sl.H13_1
        simp only [r15, r3, r4, r5, r6, r7, r8, r9, r10, r11, r12, r13, r14, r16]
        rfl
      · show k0_pay17 _ _ _ _ _ = _
        try delta run_first.sl.r_7
        try delta run_first.sl.r_8
        try delta run_first.sl.r_9
        try delta run_first.sl.v92
        try delta run_first.sl.HS1_1
        try delta run_first.sl.HS0_2
        try delta run_first.sl.HS2_1
        try delta run_first.sl.r_5
        try delta run_first.sl.r_6
        try delta run_first.sl.r_3
        try delta run_first.sl.r_4
        try delta run_first.sl.r_2
        try delta run_first.sl.r_1
        try delta run_first.sl.r
        try delta run_first.sl.v14
        try delta run_first.sl.HS0_1
        try delta run_first.sl.v3
        try delta run_first.sl.HS
        try delta run_first.sl.H13_1
        simp only [r15, r3, r4, r5, r6, r7, r8, r9, r10, r11, r12, r13, r14, r16]
        rfl
    have eR : View.readAt (Elt F) arg16.view (Rect.unit (s := S1024x1536) ![0, 0] S1024x1536.size inb_S1024x1536_S1024x1536_0_0).toLoadRect fL0 = scanV x1 x3 x4 x5 x6 x7 x8 (k0_pay7 x0) := (View.readAt_full _ _ _).trans eU
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]; · iexists _; isplitr; · ipureintro; exact hf10
                     iexact H10
    isplitl [H11]; · iexists _; isplitr; · ipureintro; exact hf11
                     iexact H11
    isplitl [H12]; · iexists _; isplitr; · ipureintro; exact hf12
                     iexact H12
    isplitl [H13]
    · iexists _; isplitr
      swap; · iexact H13
      ipureintro
      refine (View.read_writes_full arg15.view _ _ _ _).trans ?_
      try delta run_first.sl.r_7
      try delta run_first.sl.r_8
      try delta run_first.sl.r_9
      try delta run_first.sl.v92
      try delta run_first.sl.HS1_1
      try delta run_first.sl.HS0_2
      try delta run_first.sl.HS2_1
      try delta run_first.sl.r_5
      try delta run_first.sl.r_6
      try delta run_first.sl.r_3
      try delta run_first.sl.r_4
      try delta run_first.sl.r_2
      try delta run_first.sl.r_1
      try delta run_first.sl.r
      try delta run_first.sl.v14
      try delta run_first.sl.HS0_1
      try delta run_first.sl.v3
      try delta run_first.sl.HS
      try delta run_first.sl.H13_1
      simp only [r15, r3, r4, r5, r6, r7, r8, r9, r10, r11, r12, r13, r14, r16, eR]
      have e17 : k0_pay15 (k0_pay11 x3) (k0_pay10 (k0_pay7 x0) x1) (k0_pay12 x3 (k0_pay10 (k0_pay7 x0) x1) x4) (k0_pay13 x3 (k0_pay10 (k0_pay7 x0) x1)) = actV x1 x3 x4 (k0_pay7 x0) := rfl
      rw [e17, r17]
      rfl
    isplitl [HS0]
    · iexists _; iexists _; isplitr
      swap; · iexact HS0
      ipureintro; rfl
    isplitl [HS1]
    · iexists _; iexists _; isplitr
      swap; · iexact HS1
      ipureintro; rfl
    isplitl [HS2]
    · iexists _; iexists _; isplitr
      swap; · iexact HS2
      ipureintro; rfl
    isplitl [HS3]
    · iexists _; iexists _; isplitr
      swap; · iexact HS3
      ipureintro; rfl
    isplitl [HS4]
    · iexists _; iexists _; isplitr
      swap; · iexact HS4
      ipureintro; rfl
    iexists _; iexists _; isplitr
    swap; · iexact HS5
    ipureintro; rfl

end Cert.KernelIdeal.Hand

end
-- ==== Proof.Ideal.Run.lean ====
module

public import proofs.«01_k».proof.Proof.Gen.KernelIdeal.Frame
public import proofs.«01_k».proof.Proof.Ideal.Body
public import Idealize.ShloMosaic.Lib.Claim

/-! # The run of the whole kernel

The eight points run the body one after the other. At the first point of each group of four the output block is the
layer's function of the input block; at the others it is the layer's function of what the point before left there. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The layer is the first exactly at the points that four divides. -/
theorem first_iff : ∀ t : Fin cfg0.N, first (grid0.coords t) ↔ t.val % 4 = 0 :=
  (fun t => by
    have ht : t.val < 8 := Nat.lt_of_lt_of_eq t.isLt N_0
    have e1 : (grid0.coords t 1).val = t.val / 1 % 4 := Pipeline.Grid.coords_val t 1 (by decide) rfl
    simp only [first, e1]
    word_cmp
   : ∀ t : Fin grid0.N, first (grid0.coords t) ↔ t.val % 4 = 0)

/-- The memref window 0 is staged in at a point, and its wholeness. -/
abbrev st0 (t : Fin cfg0.N) : Memref sig .tc .vmem S1x1024x768 .f32 := win0_0.stage (cfg0.slots t 0)
theorem wst0 (t : Fin cfg0.N) : (st0 t).IsWhole := hstage0_0 ((cfg0.slots t 0).cast nbuf0_0)
/-- The memref window 1 is staged in at a point, and its wholeness. -/
abbrev st1 (t : Fin cfg0.N) : Memref sig .tc .vmem S1x768x1536 .bf16 := win0_1.stage (cfg0.slots t 1)
theorem wst1 (t : Fin cfg0.N) : (st1 t).IsWhole := hstage0_1 ((cfg0.slots t 1).cast nbuf0_1)
/-- The memref window 2 is staged in at a point, and its wholeness. -/
abbrev st2 (t : Fin cfg0.N) : Memref sig .tc .vmem S1x768x1536 .bf16 := win0_2.stage (cfg0.slots t 2)
theorem wst2 (t : Fin cfg0.N) : (st2 t).IsWhole := hstage0_2 ((cfg0.slots t 2).cast nbuf0_2)
/-- The memref window 3 is staged in at a point, and its wholeness. -/
abbrev st3 (t : Fin cfg0.N) : Memref sig .tc .vmem S1x8x1536 .f32 := win0_3.stage (cfg0.slots t 3)
theorem wst3 (t : Fin cfg0.N) : (st3 t).IsWhole := hstage0_3 ((cfg0.slots t 3).cast nbuf0_3)
/-- The memref window 4 is staged in at a point, and its wholeness. -/
abbrev st4 (t : Fin cfg0.N) : Memref sig .tc .vmem S1x1x1536 .f32 := win0_4.stage (cfg0.slots t 4)
theorem wst4 (t : Fin cfg0.N) : (st4 t).IsWhole := hstage0_4 ((cfg0.slots t 4).cast nbuf0_4)
/-- The memref window 5 is staged in at a point, and its wholeness. -/
abbrev st5 (t : Fin cfg0.N) : Memref sig .tc .vmem S1x1536x128 .bf16 := win0_5.stage (cfg0.slots t 5)
theorem wst5 (t : Fin cfg0.N) : (st5 t).IsWhole := hstage0_5 ((cfg0.slots t 5).cast nbuf0_5)
/-- The memref window 6 is staged in at a point, and its wholeness. -/
abbrev st6 (t : Fin cfg0.N) : Memref sig .tc .vmem S1x128x1536 .bf16 := win0_6.stage (cfg0.slots t 6)
theorem wst6 (t : Fin cfg0.N) : (st6 t).IsWhole := hstage0_6 ((cfg0.slots t 6).cast nbuf0_6)
/-- The memref window 7 is staged in at a point, and its wholeness. -/
abbrev st7 (t : Fin cfg0.N) : Memref sig .tc .vmem S1x1x1536 .f32 := win0_7.stage (cfg0.slots t 7)
theorem wst7 (t : Fin cfg0.N) : (st7 t).IsWhole := hstage0_7 ((cfg0.slots t 7).cast nbuf0_7)
/-- The memref window 8 is staged in at a point, and its wholeness. -/
abbrev st8 (t : Fin cfg0.N) : Memref sig .tc .vmem S1x16x1536 .f32 := win0_8.stage (cfg0.slots t 8)
theorem wst8 (t : Fin cfg0.N) : (st8 t).IsWhole := hstage0_8 ((cfg0.slots t 8).cast nbuf0_8)
/-- The memref window 9 is staged in at a point, and its wholeness. -/
abbrev st9 (t : Fin cfg0.N) : Memref sig .tc .vmem S1x1x1536 .f32 := win0_9.stage (cfg0.slots t 9)
theorem wst9 (t : Fin cfg0.N) : (st9 t).IsWhole := hstage0_9 ((cfg0.slots t 9).cast nbuf0_9)
/-- The memref window 10 is staged in at a point, and its wholeness. -/
abbrev st10 (t : Fin cfg0.N) : Memref sig .tc .vmem S1x1536x768 .bf16 := win0_10.stage (cfg0.slots t 10)
theorem wst10 (t : Fin cfg0.N) : (st10 t).IsWhole := hstage0_10 ((cfg0.slots t 10).cast nbuf0_10)
/-- The memref window 11 is staged in at a point, and its wholeness. -/
abbrev st11 (t : Fin cfg0.N) : Memref sig .tc .vmem S1x1x768 .f32 := win0_11.stage (cfg0.slots t 11)
theorem wst11 (t : Fin cfg0.N) : (st11 t).IsWhole := hstage0_11 ((cfg0.slots t 11).cast nbuf0_11)
/-- The memref window 12 is staged in at a point, and its wholeness. -/
abbrev st12 (t : Fin cfg0.N) : Memref sig .tc .vmem S1x1x768 .f32 := win0_12.stage (cfg0.slots t 12)
theorem wst12 (t : Fin cfg0.N) : (st12 t).IsWhole := hstage0_12 ((cfg0.slots t 12).cast nbuf0_12)
/-- The memref window 13 is staged in at a point, and its wholeness. -/
abbrev st13 (t : Fin cfg0.N) : Memref sig .tc .vmem S1x1024x768 .f32 := win0_13.stage (cfg0.slots t 13)
theorem wst13 (t : Fin cfg0.N) : (st13 t).IsWhole := hstage0_13 ((cfg0.slots t 13).cast nbuf0_13)
/-- Scratch buffer 0, whole. -/
abbrev sc0 : Memref sig .tc .vmem S1024x1536 .f32 := Memref.whole cc0_scratch0
/-- Scratch buffer 1, whole. -/
abbrev sc1 : Memref sig .tc .vmem S1024x1536 .f32 := Memref.whole cc0_scratch1
/-- Scratch buffer 2, whole. -/
abbrev sc2 : Memref sig .tc .vmem S1024x1x128 .f32 := Memref.whole cc0_scratch2
/-- Scratch buffer 3, whole. -/
abbrev sc3 : Memref sig .tc .vmem S32x16x1536 .f32 := Memref.whole cc0_scratch3
/-- Scratch buffer 4, whole. -/
abbrev sc4 : Memref sig .tc .vmem S32x16x1536 .f32 := Memref.whole cc0_scratch4
/-- Scratch buffer 5, whole. -/
abbrev sc5 : Memref sig .tc .vmem S32x16x1 .f32 := Memref.whole cc0_scratch5

/-- The pipeline's invariant is the six scratch buffers at some contents and the generator's register. -/
theorem rest_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The layer's function with the weights of point `t`. -/
def stepAt (c : Dev nD) (t : Fin cfg0.N) (hin : Vec F S1x1024x768 .f32) : Vec F S1x1024x768 .f32 :=
  layerV (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) hin

/-- What the output block holds after point `n`. -/
def held (c : Dev nD) : (n : ℕ) → n < cfg0.N → Vec F S1x1024x768 .f32
  | 0, hn => stepAt m c ⟨0, hn⟩ (k0_pay7 (iblk m c 0 ⟨0, hn⟩))
  | n + 1, hn =>
    if (n + 1) % 4 = 0 then stepAt m c ⟨n + 1, hn⟩ (k0_pay7 (iblk m c 0 ⟨n + 1, hn⟩))
    else stepAt m c ⟨n + 1, hn⟩ (held c n (Nat.lt_of_succ_lt hn))

theorem held_first (c : Dev nD) (t : Fin cfg0.N) (h : t.val % 4 = 0) :
    held m c t.val t.isLt = stepAt m c t (k0_pay7 (iblk m c 0 t)) := by
  obtain ⟨n, hn⟩ := t
  cases n with
  | zero => rfl
  | succ n => exact if_pos h

theorem held_later (c : Dev nD) (t : Fin cfg0.N) (h : ¬t.val % 4 = 0) :
    held m c t.val t.isLt = stepAt m c t (held m c (t.val - 1) (Nat.lt_of_le_of_lt (Nat.sub_le _ _) t.isLt)) := by
  obtain ⟨n, hn⟩ := t
  cases n with
  | zero => exact absurd (Nat.zero_mod _) h
  | succ n => exact if_neg h

/-- The proof data: each input's buffer stays at its block, the output's is at `held`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => held m c t.val t.isLt
  Φ _ := Pipeline.ΦA spec0 c
  q _ := fullShare
  owed _ := 0

theorem data_A (c : Dev nD) (w : Fin cfg0.W) : (data m 0 c).A w = V m c (Pipeline.arrRef spec0 w) := by dsimp only [data]

/-! What each window's buffer holds after the body and before it. -/

theorem aft0 (c : Dev nD) (t : Fin cfg0.N) : (data m 0 c).after 0 t = iblk m c 0 t := by dsimp only [data]
theorem bef0 (c : Dev nD) (t : Fin cfg0.N) (d) : (data m 0 c).before 0 t d = iblk m c 0 t :=
  before0_0_of m (data m 0 c) (data_A m c 0) (aft0 m c) t d
theorem aft1 (c : Dev nD) (t : Fin cfg0.N) : (data m 0 c).after 1 t = iblk m c 1 t := by dsimp only [data]
theorem bef1 (c : Dev nD) (t : Fin cfg0.N) (d) : (data m 0 c).before 1 t d = iblk m c 1 t :=
  before0_1_of m (data m 0 c) (data_A m c 1) (aft1 m c) t d
theorem aft2 (c : Dev nD) (t : Fin cfg0.N) : (data m 0 c).after 2 t = iblk m c 2 t := by dsimp only [data]
theorem bef2 (c : Dev nD) (t : Fin cfg0.N) (d) : (data m 0 c).before 2 t d = iblk m c 2 t :=
  before0_2_of m (data m 0 c) (data_A m c 2) (aft2 m c) t d
theorem aft3 (c : Dev nD) (t : Fin cfg0.N) : (data m 0 c).after 3 t = iblk m c 3 t := by dsimp only [data]
theorem bef3 (c : Dev nD) (t : Fin cfg0.N) (d) : (data m 0 c).before 3 t d = iblk m c 3 t :=
  before0_3_of m (data m 0 c) (data_A m c 3) (aft3 m c) t d
theorem aft4 (c : Dev nD) (t : Fin cfg0.N) : (data m 0 c).after 4 t = iblk m c 4 t := by dsimp only [data]
theorem bef4 (c : Dev nD) (t : Fin cfg0.N) (d) : (data m 0 c).before 4 t d = iblk m c 4 t :=
  before0_4_of m (data m 0 c) (data_A m c 4) (aft4 m c) t d
theorem aft5 (c : Dev nD) (t : Fin cfg0.N) : (data m 0 c).after 5 t = iblk m c 5 t := by dsimp only [data]
theorem bef5 (c : Dev nD) (t : Fin cfg0.N) (d) : (data m 0 c).before 5 t d = iblk m c 5 t :=
  before0_5_of m (data m 0 c) (data_A m c 5) (aft5 m c) t d
theorem aft6 (c : Dev nD) (t : Fin cfg0.N) : (data m 0 c).after 6 t = iblk m c 6 t := by dsimp only [data]
theorem bef6 (c : Dev nD) (t : Fin cfg0.N) (d) : (data m 0 c).before 6 t d = iblk m c 6 t :=
  before0_6_of m (data m 0 c) (data_A m c 6) (aft6 m c) t d
theorem aft7 (c : Dev nD) (t : Fin cfg0.N) : (data m 0 c).after 7 t = iblk m c 7 t := by dsimp only [data]
theorem bef7 (c : Dev nD) (t : Fin cfg0.N) (d) : (data m 0 c).before 7 t d = iblk m c 7 t :=
  before0_7_of m (data m 0 c) (data_A m c 7) (aft7 m c) t d
theorem aft8 (c : Dev nD) (t : Fin cfg0.N) : (data m 0 c).after 8 t = iblk m c 8 t := by dsimp only [data]
theorem bef8 (c : Dev nD) (t : Fin cfg0.N) (d) : (data m 0 c).before 8 t d = iblk m c 8 t :=
  before0_8_of m (data m 0 c) (data_A m c 8) (aft8 m c) t d
theorem aft9 (c : Dev nD) (t : Fin cfg0.N) : (data m 0 c).after 9 t = iblk m c 9 t := by dsimp only [data]
theorem bef9 (c : Dev nD) (t : Fin cfg0.N) (d) : (data m 0 c).before 9 t d = iblk m c 9 t :=
  before0_9_of m (data m 0 c) (data_A m c 9) (aft9 m c) t d
theorem aft10 (c : Dev nD) (t : Fin cfg0.N) : (data m 0 c).after 10 t = iblk m c 10 t := by dsimp only [data]
theorem bef10 (c : Dev nD) (t : Fin cfg0.N) (d) : (data m 0 c).before 10 t d = iblk m c 10 t :=
  before0_10_of m (data m 0 c) (data_A m c 10) (aft10 m c) t d
theorem aft11 (c : Dev nD) (t : Fin cfg0.N) : (data m 0 c).after 11 t = iblk m c 11 t := by dsimp only [data]
theorem bef11 (c : Dev nD) (t : Fin cfg0.N) (d) : (data m 0 c).before 11 t d = iblk m c 11 t :=
  before0_11_of m (data m 0 c) (data_A m c 11) (aft11 m c) t d
theorem aft12 (c : Dev nD) (t : Fin cfg0.N) : (data m 0 c).after 12 t = iblk m c 12 t := by dsimp only [data]
theorem bef12 (c : Dev nD) (t : Fin cfg0.N) (d) : (data m 0 c).before 12 t d = iblk m c 12 t :=
  before0_12_of m (data m 0 c) (data_A m c 12) (aft12 m c) t d
theorem aft13 (c : Dev nD) (t : Fin cfg0.N) : (data m 0 c).after 13 t = held m c t.val t.isLt := by dsimp only [data]

/-- Within a group of four the output's buffer is kept from point to point. -/
theorem bef13 (c : Dev nD) (t : Fin cfg0.N) (h : ¬t.val % 4 = 0) (d) :
    (data m 0 c).before 13 t d = held m c (t.val - 1) (Nat.lt_of_le_of_lt (Nat.sub_le _ _) t.isLt) := by
  have hN : t.val < 8 := lt_of_lt_of_eq t.isLt (show cfg0.N = 8 from N_0)
  rw [Dat.before_out_kept _ 13 rfl t (by omega) (Bool.eq_false_iff.mpr fun h => by have := (flush0_13 _).mp h; dsimp only at this; omega)
    (fun _ => rfl) (fun _ _ => rfl)]
  dsimp only [data]

/-- What the body is called with at a point. -/
def pre (c : Dev nD) (t : Fin cfg0.N) : sProp 𝕄 :=
  iprop((data m 0 c).Φ t.castSucc ∗ (data m 0 c).owesAt () t.castSucc
    ∗ (∃ d, owns (c : Thread nD τ) (st0 t) fullShare ((data m 0 c).before 0 t d))
    ∗ (∃ d, owns (c : Thread nD τ) (st1 t) fullShare ((data m 0 c).before 1 t d))
    ∗ (∃ d, owns (c : Thread nD τ) (st2 t) fullShare ((data m 0 c).before 2 t d))
    ∗ (∃ d, owns (c : Thread nD τ) (st3 t) fullShare ((data m 0 c).before 3 t d))
    ∗ (∃ d, owns (c : Thread nD τ) (st4 t) fullShare ((data m 0 c).before 4 t d))
    ∗ (∃ d, owns (c : Thread nD τ) (st5 t) fullShare ((data m 0 c).before 5 t d))
    ∗ (∃ d, owns (c : Thread nD τ) (st6 t) fullShare ((data m 0 c).before 6 t d))
    ∗ (∃ d, owns (c : Thread nD τ) (st7 t) fullShare ((data m 0 c).before 7 t d))
    ∗ (∃ d, owns (c : Thread nD τ) (st8 t) fullShare ((data m 0 c).before 8 t d))
    ∗ (∃ d, owns (c : Thread nD τ) (st9 t) fullShare ((data m 0 c).before 9 t d))
    ∗ (∃ d, owns (c : Thread nD τ) (st10 t) fullShare ((data m 0 c).before 10 t d))
    ∗ (∃ d, owns (c : Thread nD τ) (st11 t) fullShare ((data m 0 c).before 11 t d))
    ∗ (∃ d, owns (c : Thread nD τ) (st12 t) fullShare ((data m 0 c).before 12 t d))
    ∗ (∃ d, owns (c : Thread nD τ) (st13 t) fullShare ((data m 0 c).before 13 t d)))

/-- What the body gives back at a point. -/
def post (c : Dev nD) (t : Fin cfg0.N) : sProp 𝕄 :=
  iprop((data m 0 c).Φ t.succ ∗ (data m 0 c).owesAt () t.succ
    ∗ owns (c : Thread nD τ) (st0 t) fullShare ((data m 0 c).after 0 t)
    ∗ owns (c : Thread nD τ) (st1 t) fullShare ((data m 0 c).after 1 t)
    ∗ owns (c : Thread nD τ) (st2 t) fullShare ((data m 0 c).after 2 t)
    ∗ owns (c : Thread nD τ) (st3 t) fullShare ((data m 0 c).after 3 t)
    ∗ owns (c : Thread nD τ) (st4 t) fullShare ((data m 0 c).after 4 t)
    ∗ owns (c : Thread nD τ) (st5 t) fullShare ((data m 0 c).after 5 t)
    ∗ owns (c : Thread nD τ) (st6 t) fullShare ((data m 0 c).after 6 t)
    ∗ owns (c : Thread nD τ) (st7 t) fullShare ((data m 0 c).after 7 t)
    ∗ owns (c : Thread nD τ) (st8 t) fullShare ((data m 0 c).after 8 t)
    ∗ owns (c : Thread nD τ) (st9 t) fullShare ((data m 0 c).after 9 t)
    ∗ owns (c : Thread nD τ) (st10 t) fullShare ((data m 0 c).after 10 t)
    ∗ owns (c : Thread nD τ) (st11 t) fullShare ((data m 0 c).after 11 t)
    ∗ owns (c : Thread nD τ) (st12 t) fullShare ((data m 0 c).after 12 t)
    ∗ owns (c : Thread nD τ) (st13 t) fullShare ((data m 0 c).after 13 t))

set_option maxHeartbeats 4000000 in
/-- The body at any point: the body's run at a first layer or at a later one. -/
theorem body_run (c : Dev nD) (t : Fin cfg0.N) :
    pre m c t ⊢ wp frame (wpE (defs₀ (F := F)) Variants.none c none) Set.univ (bodyAt0 t) (fun _ => post m c t) := by
  unfold pre post bodyAt0
  simp only [bef0, bef1, bef2, bef3, bef4, bef5, bef6, bef7, bef8, bef9, bef10, bef11, bef12]
  rw [show (data m 0 c).Φ t.succ = (data m 0 c).Φ t.castSucc from rfl,
    show (data m 0 c).owesAt () t.succ = (data m 0 c).owesAt () t.castSucc from rfl,
    aft0, aft1, aft2, aft3, aft4, aft5, aft6, aft7, aft8, aft9, aft10, aft11, aft12, aft13]
  rw [show (data m 0 c).Φ t.castSucc = Pipeline.ΦA spec0 c from rfl, rest_eq]
  by_cases h : t.val % 4 = 0
  · rw [held_first m c t h]; unfold stepAt
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first c (grid0.coords t) (st0 t) (wst0 t) (st1 t) (wst1 t) (st2 t) (wst2 t) (st3 t) (wst3 t) (st4 t) (wst4 t) (st5 t) (wst5 t) (st6 t) (wst6 t) (st7 t) (wst7 t) (st8 t) (wst8 t) (st9 t) (wst9 t) (st10 t) (wst10 t) (st11 t) (wst11 t) (st12 t) (wst12 t) (st13 t) (wst13 t) sc0 (Memref.isWhole_whole _) sc1 (Memref.isWhole_whole _) sc2 (Memref.isWhole_whole _) sc3 (Memref.isWhole_whole _) sc4 (Memref.isWhole_whole _) sc5 (Memref.isWhole_whole _) ((first_iff t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [held_later m c t h]; unfold stepAt
    simp only [bef13 m c t h]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_later c (grid0.coords t) (st0 t) (wst0 t) (st1 t) (wst1 t) (st2 t) (wst2 t) (st3 t) (wst3 t) (st4 t) (wst4 t) (st5 t) (wst5 t) (st6 t) (wst6 t) (st7 t) (wst7 t) (st8 t) (wst8 t) (st9 t) (wst9 t) (st10 t) (wst10 t) (st11 t) (wst11 t) (st12 t) (wst12 t) (st13 t) (wst13 t) sc0 (Memref.isWhole_whole _) sc1 (Memref.isWhole_whole _) sc2 (Memref.isWhole_whole _) sc3 (Memref.isWhole_whole _) sc4 (Memref.isWhole_whole _) sc5 (Memref.isWhole_whole _) (fun hf => h ((first_iff t).mp hf)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem row (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (data (F := F) m 0 c) (defs₀ (F := F)) Variants.none () Set.univ := fun t => by
  rw [bigSep_W0, bigSep_W0, row]
  exact triple_restated (body_run m c t) rfl .rfl fun _ => .rfl

set_option backward.isDefEq.respectTransparency.types false in
/-- THE RUN: the program ends with every array at what the proof data gives and every semaphore counter at zero. -/
theorem run : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- THE FRAME: the program ends with the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (data m) (data_A m) ((θ_run defs _ _).mono (fun _ h => h.1) (run m ρ)))
    ((θ_run defs _ _).mono (fun _ h => h.2) (run m ρ))

end Cert.KernelIdeal.Hand

end
-- ==== Proof.Ref.Stmt.lean ====
/-
  Host statements with what they leave behind. A `Stmt` is one host operation together with the buffer it writes, the
  buffers it reads and the equation that holds between them once it has run. When a line of statements writes each
  buffer once and after its readers, ALL the equations hold together at the end of the line (`after_holds`), whatever
  the contents before; and a buffer that the line does not write keeps its contents (`after_keep`).
-/
module

public import Idealize.ShloMosaic.Lib.StableHlo.RunLoop

@[expose] public section

noncomputable section

namespace Cert.Host

open Idealize.ShloMosaic Idealize.ShloMosaic.StableHlo

variable {τ : Topo} {sig : RefSig} {F : FTy → Type}

/-- The contents of a typed reference, at its type. -/
def rd {T : BufTy} (V : Valuation τ sig (Elt F)) (x : TRef sig T) : T.Contents (Elt F) :=
  x.ofBuf (V (Proc.devRef .tc x.ref))

/-- A number that tells a reference's buffer within its memory space. -/
def key (r : Ref sig .tc) : Nat := r.idx.val

theorem ne_of_key {r s : Ref sig .tc} (h : (key r == key s) = false) : r ≠ s := by
  rintro rfl; simp at h

/-- One host operation: the reference it writes, those it reads, and what it leaves true. -/
structure Stmt (τ : Topo) (sig : RefSig) (F : FTy → Type) where
  op : HloOp τ sig (Elt F)
  out : Ref sig .tc
  ins : List (Ref sig .tc)
  holds : Valuation τ sig (Elt F) → Prop
  bufs : op.bufs ⊆ tcRefs τ sig
  fresh : op.fresh = ∅
  keep : ∀ V r, r ≠ out → op.result V (Proc.devRef .tc r) = V (Proc.devRef .tc r)
  sets : (∀ r ∈ ins, r ≠ out) → ∀ V, holds (op.result V)
  local_ : ∀ V V', (∀ r, r = out ∨ r ∈ ins → V' (Proc.devRef .tc r) = V (Proc.devRef .tc r)) → holds V → holds V'

namespace Stmt

variable {Tx Ta Tb Tc Ty T : BufTy}

/-- A constant. -/
def nul (y : TRef sig Ty) (v : Ty.Contents (Elt F)) : Stmt τ sig F where
  op := TRef.nullary y v
  out := y.ref
  ins := []
  holds V := rd V y = v
  bufs := nullary_bufs_sub ..
  fresh := rfl
  keep V r h := by apply nullary_result_ne; exact h
  sets _ V := by
    obtain ⟨y, rfl, _, _⟩ := y
    exact nullary_result ..
  local_ V V' h e := by
    have h0 := h y.ref (.inl rfl)
    unfold rd at *; rw [h0]; exact e

/-- An operation of one operand. -/
def un (x : TRef sig Tx) (y : TRef sig Ty) (f : Tx.Contents (Elt F) → Ty.Contents (Elt F)) : Stmt τ sig F where
  op := TRef.unary x y f
  out := y.ref
  ins := [x.ref]
  holds V := rd V y = f (rd V x)
  bufs := unary_bufs_sub ..
  fresh := rfl
  keep V r h := by apply unary_result_ne; exact h
  sets h V := by
    have h1 := h x.ref (by simp)
    obtain ⟨y, rfl, _, _⟩ := y
    obtain ⟨x, rfl, _, _⟩ := x
    refine (unary_result ..).trans (congrArg f ?_)
    exact (unary_result_ne _ _ _ _ _ _ h1).symm
  local_ V V' h e := by
    have h0 := h y.ref (.inl rfl)
    have h1 := h x.ref (.inr (by simp))
    unfold rd at *; rw [h0, h1]; exact e

/-- An operation of two operands. -/
def bin (a : TRef sig Ta) (b : TRef sig Tb) (y : TRef sig Ty)
    (f : Ta.Contents (Elt F) → Tb.Contents (Elt F) → Ty.Contents (Elt F)) : Stmt τ sig F where
  op := TRef.binary a b y f
  out := y.ref
  ins := [a.ref, b.ref]
  holds V := rd V y = f (rd V a) (rd V b)
  bufs := binary_bufs_sub ..
  fresh := rfl
  keep V r h := by apply binary_result_ne; exact h
  sets h V := by
    have h1 := h a.ref (by simp)
    have h2 := h b.ref (by simp)
    obtain ⟨y, rfl, _, _⟩ := y
    obtain ⟨a, rfl, _, _⟩ := a
    obtain ⟨b, rfl, _, _⟩ := b
    refine (binary_result ..).trans (congrArg₂ f ?_ ?_)
    · exact (binary_result_ne _ _ _ _ _ _ _ _ h1).symm
    · exact (binary_result_ne _ _ _ _ _ _ _ _ h2).symm
  local_ V V' h e := by
    have h0 := h y.ref (.inl rfl)
    have h1 := h a.ref (.inr (by simp))
    have h2 := h b.ref (.inr (by simp))
    unfold rd at *; rw [h0, h1, h2]; exact e

/-- An operation of three operands. -/
def ter (c : TRef sig Tc) (a : TRef sig Ta) (b : TRef sig Tb) (y : TRef sig Ty)
    (f : Tc.Contents (Elt F) → Ta.Contents (Elt F) → Tb.Contents (Elt F) → Ty.Contents (Elt F)) : Stmt τ sig F where
  op := TRef.ternary c a b y f
  out := y.ref
  ins := [c.ref, a.ref, b.ref]
  holds V := rd V y = f (rd V c) (rd V a) (rd V b)
  bufs := ternary_bufs_sub ..
  fresh := rfl
  keep V r h := by apply ternary_result_ne; exact h
  sets h V := by
    have h1 := h c.ref (by simp)
    have h2 := h a.ref (by simp)
    have h3 := h b.ref (by simp)
    obtain ⟨y, rfl, _, _⟩ := y
    obtain ⟨c, rfl, _, _⟩ := c
    obtain ⟨a, rfl, _, _⟩ := a
    obtain ⟨b, rfl, _, _⟩ := b
    refine (ternary_result ..).trans ?_
    show f _ _ _ = f _ _ _
    congr 1
    · exact (ternary_result_ne _ _ _ _ _ _ _ _ _ _ h1).symm
    · exact (ternary_result_ne _ _ _ _ _ _ _ _ _ _ h2).symm
    · exact (ternary_result_ne _ _ _ _ _ _ _ _ _ _ h3).symm
  local_ V V' h e := by
    have h0 := h y.ref (.inl rfl)
    have h1 := h c.ref (.inr (by simp))
    have h2 := h a.ref (.inr (by simp))
    have h3 := h b.ref (.inr (by simp))
    unfold rd at *; rw [h0, h1, h2, h3]; exact e

/-- A reshape. -/
def res (x : TRef sig Tx) (y : TRef sig Ty) (he : Tx.elt = Ty.elt) (hn : Tx.shape.ShapeCasts Ty.shape) : Stmt τ sig F where
  op := TRef.reshape x y he hn
  out := y.ref
  ins := [x.ref]
  holds V := rd V y = fun i => he ▸ shapeCast Ty.shape (rd V x) hn i
  bufs := reshape_bufs_sub ..
  fresh := rfl
  keep V r h := by apply reshape_result_ne; exact h
  sets h V := by
    have h1 := h x.ref (by simp)
    obtain ⟨y, rfl, _, _⟩ := y
    obtain ⟨x, rfl, _, _⟩ := x
    refine (reshape_result ..).trans ?_
    have h2 := (reshape_result_ne x y he hn ⟨‹_›, ‹_›⟩ ⟨‹_›, ‹_›⟩ V h1)
    funext i
    show _ = he ▸ shapeCast _ (HloOp.result _ V (Proc.devRef .tc x)) hn i
    rw [h2]
  local_ V V' h e := by
    have h0 := h y.ref (.inl rfl)
    have h1 := h x.ref (.inr (by simp))
    unfold rd at *; rw [h0, h1]; exact e

/-- An operation of one operand at run-time indices. -/
def unIx (a : TRef sig Ta) {n : Nat} (ix : Fin n → TRef sig T) (y : TRef sig Ty)
    (f : Ta.Contents (Elt F) → (Fin n → T.Contents (Elt F)) → Ty.Contents (Elt F)) : Stmt τ sig F where
  op := TRef.unaryIndexed a ix y f
  out := y.ref
  ins := a.ref :: List.ofFn fun k => (ix k).ref
  holds V := rd V y = f (rd V a) fun k => rd V (ix k)
  bufs := unaryIndexed_bufs_sub ..
  fresh := rfl
  keep V r h := by apply unaryIndexed_result_ne; exact h
  sets h V := by
    have h1 := h a.ref (by simp)
    have h2 : ∀ k, (ix k).ref ≠ y.ref := fun k => h _ (List.mem_cons_of_mem _ (List.mem_ofFn.2 ⟨k, rfl⟩))
    obtain ⟨y, rfl, _, _⟩ := y
    obtain ⟨a, rfl, _, _⟩ := a
    refine (unaryIndexed_result ..).trans (congrArg₂ f ?_ (funext fun k => ?_))
    · exact (unaryIndexed_result_ne _ _ _ _ _ _ _ _ _ _ h1).symm
    · unfold rd
      exact congrArg (TRef.ofBuf (ix k)) (unaryIndexed_result_ne _ _ _ _ _ _ _ _ _ _ (h2 k)).symm
  local_ V V' h e := by
    have h0 := h y.ref (.inl rfl)
    have h1 := h a.ref (.inr (by simp))
    have h2 : ∀ k, V' (Proc.devRef .tc (ix k).ref) = V (Proc.devRef .tc (ix k).ref) := fun k =>
      h _ (.inr (List.mem_cons_of_mem _ (List.mem_ofFn.2 ⟨k, rfl⟩)))
    unfold rd at *; simp only [h0, h1, h2]; exact e

/-- An operation of two operands at run-time indices. -/
def binIx (a : TRef sig Ta) (b : TRef sig Tb) {n : Nat} (ix : Fin n → TRef sig T) (y : TRef sig Ty)
    (f : Ta.Contents (Elt F) → Tb.Contents (Elt F) → (Fin n → T.Contents (Elt F)) → Ty.Contents (Elt F)) : Stmt τ sig F where
  op := TRef.binaryIndexed a b ix y f
  out := y.ref
  ins := a.ref :: b.ref :: List.ofFn fun k => (ix k).ref
  holds V := rd V y = f (rd V a) (rd V b) fun k => rd V (ix k)
  bufs := binaryIndexed_bufs_sub ..
  fresh := rfl
  keep V r h := by apply binaryIndexed_result_ne; exact h
  sets h V := by
    have h1 := h a.ref (by simp)
    have h3 := h b.ref (by simp)
    have h2 : ∀ k, (ix k).ref ≠ y.ref := fun k => h _ (by simp)
    obtain ⟨y, rfl, _, _⟩ := y
    obtain ⟨a, rfl, _, _⟩ := a
    obtain ⟨b, rfl, _, _⟩ := b
    refine (binaryIndexed_result ..).trans ?_
    show f _ _ _ = f _ _ _
    congr 1
    · exact (binaryIndexed_result_ne _ _ _ _ _ _ _ _ _ _ _ _ h1).symm
    · exact (binaryIndexed_result_ne _ _ _ _ _ _ _ _ _ _ _ _ h3).symm
    · funext k
      unfold rd
      exact congrArg (TRef.ofBuf (ix k)) (binaryIndexed_result_ne _ _ _ _ _ _ _ _ _ _ _ _ (h2 k)).symm
  local_ V V' h e := by
    have h0 := h y.ref (.inl rfl)
    have h1 := h a.ref (.inr (by simp))
    have h3 := h b.ref (.inr (by simp))
    have h2 : ∀ k, V' (Proc.devRef .tc (ix k).ref) = V (Proc.devRef .tc (ix k).ref) := fun k =>
      h _ (.inr (by simp))
    unfold rd at *; simp only [h0, h1, h2, h3]; exact e

end Stmt

/-- The operations of a line of statements. -/
def ops (l : List (Stmt τ sig F)) : List (HloOp τ sig (Elt F)) := l.map Stmt.op

/-- All the equations of a line, at one valuation. -/
def holdsAll : List (Stmt τ sig F) → Valuation τ sig (Elt F) → Prop
  | [], _ => True
  | s :: l, V => s.holds V ∧ holdsAll l V

/-- No statement of the line writes the reference `r`. -/
def spares (l : List (Stmt τ sig F)) (r : Ref sig .tc) : Bool := l.all fun s => !(key r == key s.out)

/-- Every reference is written at most once, and after it has been read for the last time before being written. -/
def once : List (Stmt τ sig F) → Bool
  | [] => true
  | s :: l => (s.ins.all fun r => !(key r == key s.out) && spares l r) && spares l s.out && once l

theorem after_keep : ∀ (l : List (Stmt τ sig F)) (r : Ref sig .tc), spares l r = true → ∀ V : Valuation τ sig (Elt F),
    after (ops l) V (Proc.devRef .tc r) = V (Proc.devRef .tc r)
  | [], _, _, _ => rfl
  | s :: l, r, h, V => by
    simp only [spares, List.all_cons, Bool.and_eq_true, Bool.not_eq_true'] at h
    show after (ops l) (s.op.result V) _ = _
    rw [after_keep l r (by simpa [spares] using h.2), s.keep V r (ne_of_key h.1)]

/-- A reference the line does not write reads as before. -/
theorem rd_keep {T : BufTy} (l : List (Stmt τ sig F)) (x : TRef sig T) (h : spares l x.ref = true) (V : Valuation τ sig (Elt F)) :
    rd (after (ops l) V) x = rd V x := by
  unfold rd; rw [after_keep l x.ref h V]

/-- At the end of a line of single assignments all its equations hold. -/
theorem after_holds : ∀ (l : List (Stmt τ sig F)), once l = true → ∀ V : Valuation τ sig (Elt F), holdsAll l (after (ops l) V)
  | [], _, _ => trivial
  | s :: l, h, V => by
    simp only [once, Bool.and_eq_true, List.all_eq_true, Bool.not_eq_true'] at h
    refine ⟨?_, after_holds l h.2 _⟩
    refine s.local_ (s.op.result V) _ (fun r hr => after_keep l r ?_ _) (s.sets (fun r hr => ne_of_key (h.1.1 r hr).1) V)
    rcases hr with rfl | hr
    · exact h.1.2
    · exact (h.1.1 r hr).2

/-- A line of statements is plain. -/
theorem plain_cons (l : List (Stmt τ sig F)) {rest : List (List (HloOp τ sig (Elt F)))} (h : Plain rest) : Plain (ops l :: rest) :=
  Plain.cons (List.forall_iff_forall_mem.2 fun o ho => by
      obtain ⟨s, -, rfl⟩ := List.mem_map.1 ho; exact s.bufs) h
    fun o ho => by obtain ⟨s, -, rfl⟩ := List.mem_map.1 ho; exact s.fresh

/-! What each statement leaves true, as rewriting rules. -/

section Holds

variable {Tx Ta Tb Tc Ty T : BufTy} (V : Valuation τ sig (Elt F))

theorem nul_holds (y : TRef sig Ty) (v : Ty.Contents (Elt F)) : (Stmt.nul (τ := τ) y v).holds V = (rd V y = v) := rfl
theorem un_holds (x : TRef sig Tx) (y : TRef sig Ty) (f : Tx.Contents (Elt F) → Ty.Contents (Elt F)) :
    (Stmt.un (τ := τ) x y f).holds V = (rd V y = f (rd V x)) := rfl
theorem bin_holds (a : TRef sig Ta) (b : TRef sig Tb) (y : TRef sig Ty) (f : Ta.Contents (Elt F) → Tb.Contents (Elt F) → Ty.Contents (Elt F)) :
    (Stmt.bin (τ := τ) a b y f).holds V = (rd V y = f (rd V a) (rd V b)) := rfl
theorem ter_holds (c : TRef sig Tc) (a : TRef sig Ta) (b : TRef sig Tb) (y : TRef sig Ty)
    (f : Tc.Contents (Elt F) → Ta.Contents (Elt F) → Tb.Contents (Elt F) → Ty.Contents (Elt F)) :
    (Stmt.ter (τ := τ) c a b y f).holds V = (rd V y = f (rd V c) (rd V a) (rd V b)) := rfl
theorem res_holds (x : TRef sig Tx) (y : TRef sig Ty) (he : Tx.elt = Ty.elt) (hn : Tx.shape.ShapeCasts Ty.shape) :
    (Stmt.res (τ := τ) x y he hn).holds V = (rd V y = fun i => he ▸ shapeCast Ty.shape (rd V x) hn i) := rfl
theorem unIx_holds (a : TRef sig Ta) {n : Nat} (ix : Fin n → TRef sig T) (y : TRef sig Ty)
    (f : Ta.Contents (Elt F) → (Fin n → T.Contents (Elt F)) → Ty.Contents (Elt F)) :
    (Stmt.unIx (τ := τ) a ix y f).holds V = (rd V y = f (rd V a) fun k => rd V (ix k)) := rfl
theorem binIx_holds (a : TRef sig Ta) (b : TRef sig Tb) {n : Nat} (ix : Fin n → TRef sig T) (y : TRef sig Ty)
    (f : Ta.Contents (Elt F) → Tb.Contents (Elt F) → (Fin n → T.Contents (Elt F)) → Ty.Contents (Elt F)) :
    (Stmt.binIx (τ := τ) a b ix y f).holds V = (rd V y = f (rd V a) (rd V b) fun k => rd V (ix k)) := rfl

end Holds

end Cert.Host

end
-- ==== Proof.Ref.Layer.lean ====
/-
  The reference's host program as lines of statements (`Cert.Host.Stmt`): one layer before its scan loop, the loop's
  condition and body, the layer after the loop, and the slices that pick a layer's weights; each over the arguments and
  the buffers of one call, so that the four layers are four uses of the same lines.
-/
module

public import proofs.«01_k».proof.Proof.Gen.ReferenceIdeal
public import proofs.«01_k».proof.Proof.Ref.Stmt

@[expose] public section

set_option maxRecDepth 100000

noncomputable section

namespace Cert.ReferenceIdeal.Hand

open Idealize.ShloMosaic Idealize.ShloMosaic.StableHlo Idealize.SL.Sem
open Cert.Host Cert.ReferenceIdeal Cert.ReferenceIdeal.Facts₀

variable {F : FTy → Type} [FloatOps F]

local notation "St" => Stmt τ sig F

/-- The references one layer reads: its input and its eleven weights. -/
structure Args where
  x : TRef sig ⟨S2x1024x768, .f32⟩
  w1 : TRef sig ⟨S3072x768, .f32⟩
  w2 : TRef sig ⟨S1536x4, .f32⟩
  w3 : TRef sig ⟨S1536, .f32⟩
  w4 : TRef sig ⟨S80x1536, .f32⟩
  w5 : TRef sig ⟨S1536x48, .f32⟩
  w6 : TRef sig ⟨S1536, .f32⟩
  w7 : TRef sig ⟨S1536x16, .f32⟩
  w8 : TRef sig ⟨S1536, .f32⟩
  w9 : TRef sig ⟨S768x1536, .f32⟩
  w10 : TRef sig ⟨S768, .f32⟩
  w11 : TRef sig ⟨S768, .f32⟩

/-- The references that hold a layer's weights while they are picked: a slice of one layer, then without its unit axis. -/
structure Slabs where
  s1 : TRef sig ⟨S1x3072x768, .f32⟩
  w1 : TRef sig ⟨S3072x768, .f32⟩
  s2 : TRef sig ⟨S1x1536x4, .f32⟩
  w2 : TRef sig ⟨S1536x4, .f32⟩
  s3 : TRef sig ⟨S1x1536, .f32⟩
  w3 : TRef sig ⟨S1536, .f32⟩
  s4 : TRef sig ⟨S1x80x1536, .f32⟩
  w4 : TRef sig ⟨S80x1536, .f32⟩
  s5 : TRef sig ⟨S1x1536x48, .f32⟩
  w5 : TRef sig ⟨S1536x48, .f32⟩
  s6 : TRef sig ⟨S1x1536, .f32⟩
  w6 : TRef sig ⟨S1536, .f32⟩
  s7 : TRef sig ⟨S1x1536x16, .f32⟩
  w7 : TRef sig ⟨S1536x16, .f32⟩
  s8 : TRef sig ⟨S1x1536, .f32⟩
  w8 : TRef sig ⟨S1536, .f32⟩
  s9 : TRef sig ⟨S1x768x1536, .f32⟩
  w9 : TRef sig ⟨S768x1536, .f32⟩
  s10 : TRef sig ⟨S1x768, .f32⟩
  w10 : TRef sig ⟨S768, .f32⟩
  s11 : TRef sig ⟨S1x768, .f32⟩
  w11 : TRef sig ⟨S768, .f32⟩

/-- A layer's slices lie inside the weights. -/
structure Inside (i : Nat) : Prop where
  h1 : S4x3072x768.Slices ![i, 0, 0] S1x3072x768
  h2 : S4x1536x4.Slices ![i, 0, 0] S1x1536x4
  h3 : S4x1536.Slices ![i, 0] S1x1536
  h4 : S4x80x1536.Slices ![i, 0, 0] S1x80x1536
  h5 : S4x1536x48.Slices ![i, 0, 0] S1x1536x48
  h6 : S4x1536.Slices ![i, 0] S1x1536
  h7 : S4x1536x16.Slices ![i, 0, 0] S1x1536x16
  h8 : S4x1536.Slices ![i, 0] S1x1536
  h9 : S4x768x1536.Slices ![i, 0, 0] S1x768x1536
  h10 : S4x768.Slices ![i, 0] S1x768
  h11 : S4x768.Slices ![i, 0] S1x768

/-- The weights of layer `i`. -/
noncomputable def pickL (i : Nat) (h : Inside i) (σ : Slabs) : List St :=
  [.un (.of main_arg1 : TRef sig ⟨S4x3072x768, .f32⟩) σ.s1 (extractStridedSlice S1x3072x768 ![i, 0, 0] · h.h1),
   .res σ.s1 σ.w1 (rfl : (.f32 : EltTy) = .f32) shapeCasts_S1x3072x768_S3072x768,
   .un (.of main_arg2 : TRef sig ⟨S4x1536x4, .f32⟩) σ.s2 (extractStridedSlice S1x1536x4 ![i, 0, 0] · h.h2),
   .res σ.s2 σ.w2 (rfl : (.f32 : EltTy) = .f32) shapeCasts_S1x1536x4_S1536x4,
   .un (.of main_arg3 : TRef sig ⟨S4x1536, .f32⟩) σ.s3 (extractStridedSlice S1x1536 ![i, 0] · h.h3),
   .res σ.s3 σ.w3 (rfl : (.f32 : EltTy) = .f32) shapeCasts_S1x1536_S1536,
   .un (.of main_arg4 : TRef sig ⟨S4x80x1536, .f32⟩) σ.s4 (extractStridedSlice S1x80x1536 ![i, 0, 0] · h.h4),
   .res σ.s4 σ.w4 (rfl : (.f32 : EltTy) = .f32) shapeCasts_S1x80x1536_S80x1536,
   .un (.of main_arg5 : TRef sig ⟨S4x1536x48, .f32⟩) σ.s5 (extractStridedSlice S1x1536x48 ![i, 0, 0] · h.h5),
   .res σ.s5 σ.w5 (rfl : (.f32 : EltTy) = .f32) shapeCasts_S1x1536x48_S1536x48,
   .un (.of main_arg6 : TRef sig ⟨S4x1536, .f32⟩) σ.s6 (extractStridedSlice S1x1536 ![i, 0] · h.h6),
   .res σ.s6 σ.w6 (rfl : (.f32 : EltTy) = .f32) shapeCasts_S1x1536_S1536,
   .un (.of main_arg7 : TRef sig ⟨S4x1536x16, .f32⟩) σ.s7 (extractStridedSlice S1x1536x16 ![i, 0, 0] · h.h7),
   .res σ.s7 σ.w7 (rfl : (.f32 : EltTy) = .f32) shapeCasts_S1x1536x16_S1536x16,
   .un (.of main_arg8 : TRef sig ⟨S4x1536, .f32⟩) σ.s8 (extractStridedSlice S1x1536 ![i, 0] · h.h8),
   .res σ.s8 σ.w8 (rfl : (.f32 : EltTy) = .f32) shapeCasts_S1x1536_S1536,
   .un (.of main_arg9 : TRef sig ⟨S4x768x1536, .f32⟩) σ.s9 (extractStridedSlice S1x768x1536 ![i, 0, 0] · h.h9),
   .res σ.s9 σ.w9 (rfl : (.f32 : EltTy) = .f32) shapeCasts_S1x768x1536_S768x1536,
   .un (.of main_arg10 : TRef sig ⟨S4x768, .f32⟩) σ.s10 (extractStridedSlice S1x768 ![i, 0] · h.h10),
   .res σ.s10 σ.w10 (rfl : (.f32 : EltTy) = .f32) shapeCasts_S1x768_S768,
   .un (.of main_arg11 : TRef sig ⟨S4x768, .f32⟩) σ.s11 (extractStridedSlice S1x768 ![i, 0] · h.h11),
   .res σ.s11 σ.w11 (rfl : (.f32 : EltTy) = .f32) shapeCasts_S1x768_S768]

/-- Three zero rows before the first. -/
noncomputable def padL (arg0 : TRef sig ⟨S2x1024x1536, .f32⟩) (arg1 : TRef sig ⟨S_, .i32⟩) (φ : fn_pad.Bufs) : List St :=
  [.un arg1 φ.v0 (sitofp .f32),
   .bin arg0 φ.v0 φ.v1 (fun x v => pad S2x1027x1536 ![0, 3, 0] ![0, 0, 0] ![0, 0, 0] x v pads_S2x1024x1536_S2x1027x1536_000_300_000 h_S_)]

/-- `v / (1 + exp (-v))`. -/
noncomputable def siluL (arg0 : TRef sig ⟨S2x1024x1536, .f32⟩) (φ : fn_silu.Bufs) : List St :=
  [.un arg0 φ.v0 Host.negf,
   .un φ.v0 φ.v1 Host.exp,
   .nul φ.cst (constant S_ .f32 0x3F800000#32),
   .un φ.cst φ.v2 (broadcastInDim S2x1024x1536 ![] bcast_S_S2x1024x1536),
   .bin φ.v2 φ.v1 φ.v3 addf,
   .nul φ.cst_0 (constant S_ .f32 0x3F800000#32),
   .un φ.cst_0 φ.v4 (broadcastInDim S2x1024x1536 ![] bcast_S_S2x1024x1536),
   .bin φ.v4 φ.v3 φ.v5 Host.divf,
   .bin arg0 φ.v5 φ.v6 mulf]

/-- The logarithm of `1 + exp v`. -/
noncomputable def softL (arg0 : TRef sig ⟨S2x1024x1536, .f32⟩) (φ : fn_softplus.Bufs) : List St :=
  [.nul φ.cst (constant S_ .f32 0x00000000#32),
   .un φ.cst φ.v0 (broadcastInDim S2x1024x1536 ![] bcast_S_S2x1024x1536),
   .bin arg0 φ.v0 φ.v1 maximumf,
   .un φ.cst φ.v2 (broadcastInDim S2x1024x1536 ![] bcast_S_S2x1024x1536),
   .bin arg0 φ.v2 φ.v3 subf,
   .bin φ.v3 φ.v3 φ.v4 (cmpf .une),
   .un φ.cst φ.v5 (broadcastInDim S2x1024x1536 ![] bcast_S_S2x1024x1536),
   .bin arg0 φ.v5 φ.v6 addf,
   .un φ.v3 φ.v7 Host.absf,
   .un φ.v7 φ.v8 Host.negf,
   .un φ.v8 φ.v9 Host.exp,
   .un φ.v9 φ.v10 Host.log1p,
   .bin φ.v1 φ.v10 φ.v11 addf,
   .ter φ.v4 φ.v6 φ.v11 φ.v12 select]

/-- Row `arg1` of a time-major array. -/
noncomputable def rowL (arg0 : TRef sig ⟨S1024x2x1536x16, .f32⟩) (arg1 : TRef sig ⟨S_, .i32⟩) (φ : fn_dynamic_index_in_dim.Bufs) : List St :=
  [.nul φ.c (constantI S_ 32 0#32),
   .nul φ.c_0 (constantI S_ 32 0#32),
   .nul φ.c_1 (constantI S_ 32 0#32),
   .unIx arg0 ![arg1, φ.c, φ.c_0, φ.c_1] φ.v0 (fun x i => Host.dynamicSlice S1x2x1536x16 x (fun k => (i k (Shape.Idx.first h_S_)).toInt) sliceFits_S1024x2x1536x16_S1x2x1536x16),
   .res φ.v0 φ.v1 (rfl : (.f32 : EltTy) = .f32) shapeCasts_S1x2x1536x16_S2x1536x16]

/-- Row `arg1` of a time-major array of the output weights. -/
noncomputable def rowCL (arg0 : TRef sig ⟨S1024x2x16, .f32⟩) (arg1 : TRef sig ⟨S_, .i32⟩) (φ : fn_dynamic_index_in_dim_0.Bufs) : List St :=
  [.nul φ.c (constantI S_ 32 0#32),
   .nul φ.c_0 (constantI S_ 32 0#32),
   .unIx arg0 ![arg1, φ.c, φ.c_0] φ.v0 (fun x i => Host.dynamicSlice S1x2x16 x (fun k => (i k (Shape.Idx.first h_S_)).toInt) sliceFits_S1024x2x16_S1x2x16),
   .res φ.v0 φ.v1 (rfl : (.f32 : EltTy) = .f32) shapeCasts_S1x2x16_S2x16]

/-- The outputs with row `arg2` replaced. -/
noncomputable def putL (arg0 : TRef sig ⟨S1024x2x1536, .f32⟩) (arg1 : TRef sig ⟨S2x1536, .f32⟩) (arg2 : TRef sig ⟨S_, .i32⟩) (φ : fn_dynamic_update_index_in_dim.Bufs) : List St :=
  [.un arg1 φ.v0 (broadcastInDim S1x2x1536 ![1, 2] bcast_S2x1536_S1x2x1536_1_2),
   .nul φ.c (constantI S_ 32 0#32),
   .nul φ.c_0 (constantI S_ 32 0#32),
   .binIx arg0 φ.v0 ![arg2, φ.c, φ.c_0] φ.v1 (fun x u i => Host.dynamicUpdateSlice x u (fun k => (i k (Shape.Idx.first h_S_)).toInt) updateFits_S1024x2x1536_S1x2x1536)]

/-- The input projection and its two halves. -/
noncomputable def inL (A : Args) (φ : fn_layer.Bufs) : List St :=
  [.bin A.x A.w1 φ.v0 (fun l r => Host.dotGeneral dot_S2x1024x768_S3072x768_S2x1024x3072_2_1_01_0_n_n none l r),
   .un φ.v0 φ.v1 (extractStridedSlice S2x1024x1536 ![0, 0, 0] · slices_S2x1024x3072_S2x1024x1536_0_0_0),
   .un φ.v0 φ.v2 (extractStridedSlice S2x1024x1536 ![0, 0, 1536] · slices_S2x1024x3072_S2x1024x1536_0_0_1536),
   .nul φ.c (constantI S_ 32 0#32)]

/-- The four taps of the causal convolution and its bias. -/
noncomputable def convL (A : Args) (φ : fn_layer.Bufs) : List St :=
  [.un φ.call0.v1 φ.v4 (extractStridedSlice S2x1024x1536 ![0, 0, 0] · slices_S2x1027x1536_S2x1024x1536_0_0_0),
   .un A.w2 φ.v5 (extractStridedSlice S1536x1 ![0, 0] · slices_S1536x4_S1536x1_0_0),
   .res φ.v5 φ.v6 (rfl : (.f32 : EltTy) = .f32) shapeCasts_S1536x1_S1536,
   .un φ.v6 φ.v7 (broadcastInDim S1x1x1536 ![2] bcast_S1536_S1x1x1536_2),
   .un φ.v7 φ.v8 (broadcastInDim S2x1024x1536 ![0, 1, 2] bcast_S1x1x1536_S2x1024x1536_0_1_2),
   .bin φ.v4 φ.v8 φ.v9 mulf,
   .nul φ.cst (constant S_ .f32 0x00000000#32),
   .un φ.cst φ.v10 (broadcastInDim S2x1024x1536 ![] bcast_S_S2x1024x1536),
   .bin φ.v10 φ.v9 φ.v11 addf,
   .un φ.call0.v1 φ.v12 (extractStridedSlice S2x1024x1536 ![0, 1, 0] · slices_S2x1027x1536_S2x1024x1536_0_1_0),
   .un A.w2 φ.v13 (extractStridedSlice S1536x1 ![0, 1] · slices_S1536x4_S1536x1_0_1),
   .res φ.v13 φ.v14 (rfl : (.f32 : EltTy) = .f32) shapeCasts_S1536x1_S1536,
   .un φ.v14 φ.v15 (broadcastInDim S1x1x1536 ![2] bcast_S1536_S1x1x1536_2),
   .un φ.v15 φ.v16 (broadcastInDim S2x1024x1536 ![0, 1, 2] bcast_S1x1x1536_S2x1024x1536_0_1_2),
   .bin φ.v12 φ.v16 φ.v17 mulf,
   .bin φ.v11 φ.v17 φ.v18 addf,
   .un φ.call0.v1 φ.v19 (extractStridedSlice S2x1024x1536 ![0, 2, 0] · slices_S2x1027x1536_S2x1024x1536_0_2_0),
   .un A.w2 φ.v20 (extractStridedSlice S1536x1 ![0, 2] · slices_S1536x4_S1536x1_0_2),
   .res φ.v20 φ.v21 (rfl : (.f32 : EltTy) = .f32) shapeCasts_S1536x1_S1536,
   .un φ.v21 φ.v22 (broadcastInDim S1x1x1536 ![2] bcast_S1536_S1x1x1536_2),
   .un φ.v22 φ.v23 (broadcastInDim S2x1024x1536 ![0, 1, 2] bcast_S1x1x1536_S2x1024x1536_0_1_2),
   .bin φ.v19 φ.v23 φ.v24 mulf,
   .bin φ.v18 φ.v24 φ.v25 addf,
   .un φ.call0.v1 φ.v26 (extractStridedSlice S2x1024x1536 ![0, 3, 0] · slices_S2x1027x1536_S2x1024x1536_0_3_0),
   .un A.w2 φ.v27 (extractStridedSlice S1536x1 ![0, 3] · slices_S1536x4_S1536x1_0_3),
   .res φ.v27 φ.v28 (rfl : (.f32 : EltTy) = .f32) shapeCasts_S1536x1_S1536,
   .un φ.v28 φ.v29 (broadcastInDim S1x1x1536 ![2] bcast_S1536_S1x1x1536_2),
   .un φ.v29 φ.v30 (broadcastInDim S2x1024x1536 ![0, 1, 2] bcast_S1x1x1536_S2x1024x1536_0_1_2),
   .bin φ.v26 φ.v30 φ.v31 mulf,
   .bin φ.v25 φ.v31 φ.v32 addf,
   .un A.w3 φ.v33 (broadcastInDim S1x1x1536 ![2] bcast_S1536_S1x1x1536_2),
   .un φ.v33 φ.v34 (broadcastInDim S2x1024x1536 ![0, 1, 2] bcast_S1x1x1536_S2x1024x1536_0_1_2),
   .bin φ.v32 φ.v34 φ.v35 addf]

/-- The state projection, its three parts, and the step size before the softplus. -/
noncomputable def projL (A : Args) (φ : fn_layer.Bufs) : List St :=
  [.bin φ.call1.v6 A.w4 φ.v37 (fun l r => Host.dotGeneral dot_S2x1024x1536_S80x1536_S2x1024x80_2_1_01_0_n_n none l r),
   .un φ.v37 φ.v38 (extractStridedSlice S2x1024x48 ![0, 0, 0] · slices_S2x1024x80_S2x1024x48_0_0_0),
   .un φ.v37 φ.v39 (extractStridedSlice S2x1024x16 ![0, 0, 48] · slices_S2x1024x80_S2x1024x16_0_0_48),
   .un φ.v37 φ.v40 (extractStridedSlice S2x1024x16 ![0, 0, 64] · slices_S2x1024x80_S2x1024x16_0_0_64),
   .bin φ.v38 A.w5 φ.v41 (fun l r => Host.dotGeneral dot_S2x1024x48_S1536x48_S2x1024x1536_2_1_01_0_n_n none l r),
   .un A.w6 φ.v42 (broadcastInDim S1x1x1536 ![2] bcast_S1536_S1x1x1536_2),
   .un φ.v42 φ.v43 (broadcastInDim S2x1024x1536 ![0, 1, 2] bcast_S1x1x1536_S2x1024x1536_0_1_2),
   .bin φ.v41 φ.v43 φ.v44 addf]

/-- The scan's decays, inputs and output weights, time-major, and its zero starting values. -/
noncomputable def scanL (A : Args) (φ : fn_layer.Bufs) : List St :=
  [.un A.w7 φ.v46 Host.exp,
   .un φ.v46 φ.v47 Host.negf,
   .un φ.call2.v12 φ.v48 (broadcastInDim S2x1024x1536x1 ![0, 1, 2] bcast_S2x1024x1536_S2x1024x1536x1_0_1_2),
   .un φ.v47 φ.v49 (broadcastInDim S1x1x1536x16 ![2, 3] bcast_S1536x16_S1x1x1536x16_2_3),
   .un φ.v48 φ.v50 (broadcastInDim S2x1024x1536x16 ![0, 1, 2, 3] bcast_S2x1024x1536x1_S2x1024x1536x16_0_1_2_3),
   .un φ.v49 φ.v51 (broadcastInDim S2x1024x1536x16 ![0, 1, 2, 3] bcast_S1x1x1536x16_S2x1024x1536x16_0_1_2_3),
   .bin φ.v50 φ.v51 φ.v52 mulf,
   .un φ.v52 φ.v53 Host.exp,
   .bin φ.call2.v12 φ.call1.v6 φ.v54 mulf,
   .un φ.v54 φ.v55 (broadcastInDim S2x1024x1536x1 ![0, 1, 2] bcast_S2x1024x1536_S2x1024x1536x1_0_1_2),
   .un φ.v39 φ.v56 (broadcastInDim S2x1024x1x16 ![0, 1, 3] bcast_S2x1024x16_S2x1024x1x16_0_1_3),
   .un φ.v55 φ.v57 (broadcastInDim S2x1024x1536x16 ![0, 1, 2, 3] bcast_S2x1024x1536x1_S2x1024x1536x16_0_1_2_3),
   .un φ.v56 φ.v58 (broadcastInDim S2x1024x1536x16 ![0, 1, 2, 3] bcast_S2x1024x1x16_S2x1024x1536x16_0_1_2_3),
   .bin φ.v57 φ.v58 φ.v59 mulf,
   .nul φ.cst_0 (constant S_ .f32 0x00000000#32),
   .un φ.cst_0 φ.v60 (broadcastInDim S2x1536x16 ![] bcast_S_S2x1536x16),
   .un φ.v53 φ.v61 (transpose S1024x2x1536x16 [1, 0, 2, 3] · transposes_S2x1024x1536x16_S1024x2x1536x16_1_0_2_3),
   .un φ.v59 φ.v62 (transpose S1024x2x1536x16 [1, 0, 2, 3] · transposes_S2x1024x1536x16_S1024x2x1536x16_1_0_2_3),
   .un φ.v40 φ.v63 (transpose S1024x2x16 [1, 0, 2] · transposes_S2x1024x16_S1024x2x16_1_0_2),
   .nul φ.cst_1 (constant S_ .f32 0x00000000#32),
   .un φ.cst_1 φ.v64 (broadcastInDim S1024x2x1536 ![] bcast_S_S1024x2x1536),
   .nul φ.c_2 (constantI S_ 32 0#32)]

/-- The copies into the buffers the loop carries. -/
noncomputable def enterL (A : Args) (φ : fn_layer.Bufs) : List St :=
  [.un φ.v61 φ.v65_0 id,
   .un φ.v62 φ.v65_1 id,
   .un φ.v63 φ.v65_2 id,
   .un φ.c_2 φ.v65_3 id,
   .un φ.v60 φ.v65_4 id,
   .un φ.v64 φ.v65_5 id]

/-- The scanned outputs, batch-major, with the skip connection. -/
noncomputable def skipL (A : Args) (φ : fn_layer.Bufs) : List St :=
  [.un φ.v65_5 φ.v66 (transpose S2x1024x1536 [1, 0, 2] · transposes_S1024x2x1536_S2x1024x1536_1_0_2),
   .un A.w8 φ.v67 (broadcastInDim S1x1x1536 ![2] bcast_S1536_S1x1x1536_2),
   .un φ.v67 φ.v68 (broadcastInDim S2x1024x1536 ![0, 1, 2] bcast_S1x1x1536_S2x1024x1536_0_1_2),
   .bin φ.call1.v6 φ.v68 φ.v69 mulf,
   .bin φ.v66 φ.v69 φ.v70 addf]

/-- The gate, the output projection and the residual. -/
noncomputable def outL (A : Args) (φ : fn_layer.Bufs) : List St :=
  [.bin φ.v70 φ.call7.v6 φ.v72 mulf,
   .bin φ.v72 A.w9 φ.v73 (fun l r => Host.dotGeneral dot_S2x1024x1536_S768x1536_S2x1024x768_2_1_01_0_n_n none l r),
   .bin A.x φ.v73 φ.v74 addf]

/-- The layer normalisation. -/
noncomputable def normL (A : Args) (φ : fn_layer.Bufs) : List St :=
  [.nul φ.cst_3 (constant S_ .f32 0x00000000#32),
   .bin φ.v74 φ.cst_3 φ.v75 (fun x v => Host.reduceAdd x v reducesTo_S2x1024x768_S2x1024_d2 h_S_),
   .un φ.v75 φ.v76 (broadcastInDim S2x1024x1 ![0, 1] bcast_S2x1024_S2x1024x1_0_1),
   .nul φ.cst_4 (constant S_ .f32 0x44400000#32),
   .un φ.cst_4 φ.v77 (broadcastInDim S2x1024x1 ![] bcast_S_S2x1024x1),
   .bin φ.v76 φ.v77 φ.v78 Host.divf,
   .un φ.v78 φ.v79 (broadcastInDim S2x1024x768 ![0, 1, 2] bcast_S2x1024x1_S2x1024x768_0_1_2),
   .bin φ.v74 φ.v79 φ.v80 subf,
   .bin φ.v80 φ.v80 φ.v81 mulf,
   .nul φ.cst_5 (constant S_ .f32 0x00000000#32),
   .bin φ.v81 φ.cst_5 φ.v82 (fun x v => Host.reduceAdd x v reducesTo_S2x1024x768_S2x1024_d2 h_S_),
   .un φ.v82 φ.v83 (broadcastInDim S2x1024x1 ![0, 1] bcast_S2x1024_S2x1024x1_0_1),
   .nul φ.cst_6 (constant S_ .f32 0x44400000#32),
   .un φ.cst_6 φ.v84 (broadcastInDim S2x1024x1 ![] bcast_S_S2x1024x1),
   .bin φ.v83 φ.v84 φ.v85 Host.divf,
   .un φ.v78 φ.v86 (broadcastInDim S2x1024x768 ![0, 1, 2] bcast_S2x1024x1_S2x1024x768_0_1_2),
   .bin φ.v74 φ.v86 φ.v87 subf,
   .nul φ.cst_7 (constant S_ .f32 0x358637BD#32),
   .un φ.cst_7 φ.v88 (broadcastInDim S2x1024x1 ![] bcast_S_S2x1024x1),
   .bin φ.v85 φ.v88 φ.v89 addf,
   .un φ.v89 φ.v90 Host.rsqrt,
   .un φ.v90 φ.v91 (broadcastInDim S2x1024x768 ![0, 1, 2] bcast_S2x1024x1_S2x1024x768_0_1_2),
   .bin φ.v87 φ.v91 φ.v92 mulf,
   .un A.w10 φ.v93 (broadcastInDim S1x1x768 ![2] bcast_S768_S1x1x768_2),
   .un φ.v93 φ.v94 (broadcastInDim S2x1024x768 ![0, 1, 2] bcast_S1x1x768_S2x1024x768_0_1_2),
   .bin φ.v92 φ.v94 φ.v95 mulf,
   .un A.w11 φ.v96 (broadcastInDim S1x1x768 ![2] bcast_S768_S1x1x768_2),
   .un φ.v96 φ.v97 (broadcastInDim S2x1024x768 ![0, 1, 2] bcast_S1x1x768_S2x1024x768_0_1_2),
   .bin φ.v95 φ.v97 φ.v98 addf]

/-- The loop's condition: the counter is below 1024. -/
noncomputable def condL (φ : fn_layer.Bufs) : List St :=
  [.nul φ.while0c_c_13 (constantI S_ 32 1024#32),
   .bin φ.v65_3 φ.while0c_c_13 φ.while0c_v99 (cmpi .slt)]

/-- One step of the state and of the output. -/
noncomputable def stepL (φ : fn_layer.Bufs) : List St :=
  [.bin φ.while0b_call3.v1 φ.v65_4 φ.while0b_v102 mulf,
   .bin φ.while0b_v102 φ.while0b_call4.v1 φ.while0b_v103 addf,
   .bin φ.while0b_v103 φ.while0b_call5.v1 φ.while0b_v104 (fun l r => Host.dotGeneral dot_S2x1536x16_S2x16_S2x1536_2_1_1_n_0_0 none l r)]

/-- The counter, one more. -/
noncomputable def countL (φ : fn_layer.Bufs) : List St :=
  [.nul φ.while0b_c_13 (constantI S_ 32 1#32),
   .bin φ.v65_3 φ.while0b_c_13 φ.while0b_v106 addi]

/-- The copies back into the buffers the loop carries. -/
noncomputable def backL (φ : fn_layer.Bufs) : List St :=
  [.un φ.while0b_v106 φ.v65_3 id,
   .un φ.while0b_v103 φ.v65_4 id,
   .un φ.while0b_call6.v1 φ.v65_5 id]

/-- A layer before its loop. -/
noncomputable def preL (A : Args) (φ : fn_layer.Bufs) : List St :=
  inL A φ ++ (padL φ.v1 φ.c φ.call0 ++ (convL A φ ++ (siluL φ.v35 φ.call1 ++ (projL A φ ++ (softL φ.v44 φ.call2
    ++ (scanL A φ ++ enterL A φ))))))

/-- One trip's new values. -/
noncomputable def tripL (φ : fn_layer.Bufs) : List St :=
  rowL φ.v65_0 φ.v65_3 φ.while0b_call3 ++ (rowL φ.v65_1 φ.v65_3 φ.while0b_call4 ++ (rowCL φ.v65_2 φ.v65_3 φ.while0b_call5
    ++ (stepL φ ++ (putL φ.v65_5 φ.while0b_v104 φ.v65_3 φ.while0b_call6 ++ countL φ))))

/-- A layer after its loop. -/
noncomputable def postL (A : Args) (φ : fn_layer.Bufs) : List St :=
  skipL A φ ++ (siluL φ.v2 φ.call7 ++ (outL A φ ++ normL A φ))

/-- The buffers of a call of the reference's second layer function, which has the first's text, as the first's. -/
noncomputable def toL (φ : fn_layer_1.Bufs) : fn_layer.Bufs where
  v0 := φ.v0
  v1 := φ.v1
  v2 := φ.v2
  c := φ.c
  call0 := φ.call0
  v4 := φ.v4
  v5 := φ.v5
  v6 := φ.v6
  v7 := φ.v7
  v8 := φ.v8
  v9 := φ.v9
  cst := φ.cst
  v10 := φ.v10
  v11 := φ.v11
  v12 := φ.v12
  v13 := φ.v13
  v14 := φ.v14
  v15 := φ.v15
  v16 := φ.v16
  v17 := φ.v17
  v18 := φ.v18
  v19 := φ.v19
  v20 := φ.v20
  v21 := φ.v21
  v22 := φ.v22
  v23 := φ.v23
  v24 := φ.v24
  v25 := φ.v25
  v26 := φ.v26
  v27 := φ.v27
  v28 := φ.v28
  v29 := φ.v29
  v30 := φ.v30
  v31 := φ.v31
  v32 := φ.v32
  v33 := φ.v33
  v34 := φ.v34
  v35 := φ.v35
  call1 := φ.call1
  v37 := φ.v37
  v38 := φ.v38
  v39 := φ.v39
  v40 := φ.v40
  v41 := φ.v41
  v42 := φ.v42
  v43 := φ.v43
  v44 := φ.v44
  call2 := φ.call2
  v46 := φ.v46
  v47 := φ.v47
  v48 := φ.v48
  v49 := φ.v49
  v50 := φ.v50
  v51 := φ.v51
  v52 := φ.v52
  v53 := φ.v53
  v54 := φ.v54
  v55 := φ.v55
  v56 := φ.v56
  v57 := φ.v57
  v58 := φ.v58
  v59 := φ.v59
  cst_0 := φ.cst_0
  v60 := φ.v60
  v61 := φ.v61
  v62 := φ.v62
  v63 := φ.v63
  cst_1 := φ.cst_1
  v64 := φ.v64
  c_2 := φ.c_2
  v65_0 := φ.v65_0
  v65_1 := φ.v65_1
  v65_2 := φ.v65_2
  v65_3 := φ.v65_3
  v65_4 := φ.v65_4
  v65_5 := φ.v65_5
  while0c_c_13 := φ.while0c_c_13
  while0c_v99 := φ.while0c_v99
  while0b_call3 := φ.while0b_call3
  while0b_call4 := φ.while0b_call4
  while0b_call5 := φ.while0b_call5
  while0b_v102 := φ.while0b_v102
  while0b_v103 := φ.while0b_v103
  while0b_v104 := φ.while0b_v104
  while0b_call6 := φ.while0b_call6
  while0b_c_13 := φ.while0b_c_13
  while0b_v106 := φ.while0b_v106
  while0 := φ.while0
  v66 := φ.v66
  v67 := φ.v67
  v68 := φ.v68
  v69 := φ.v69
  v70 := φ.v70
  call7 := φ.call7
  v72 := φ.v72
  v73 := φ.v73
  v74 := φ.v74
  cst_3 := φ.cst_3
  v75 := φ.v75
  v76 := φ.v76
  cst_4 := φ.cst_4
  v77 := φ.v77
  v78 := φ.v78
  v79 := φ.v79
  v80 := φ.v80
  v81 := φ.v81
  cst_5 := φ.cst_5
  v82 := φ.v82
  v83 := φ.v83
  cst_6 := φ.cst_6
  v84 := φ.v84
  v85 := φ.v85
  v86 := φ.v86
  v87 := φ.v87
  cst_7 := φ.cst_7
  v88 := φ.v88
  v89 := φ.v89
  v90 := φ.v90
  v91 := φ.v91
  v92 := φ.v92
  v93 := φ.v93
  v94 := φ.v94
  v95 := φ.v95
  v96 := φ.v96
  v97 := φ.v97
  v98 := φ.v98

/-- The weights' references in layer 0. -/
noncomputable def slabs0 : Slabs where
  s1 := .of main_v0
  w1 := .of main_v1
  s2 := .of main_v2
  w2 := .of main_v3
  s3 := .of main_v4
  w3 := .of main_v5
  s4 := .of main_v6
  w4 := .of main_v7
  s5 := .of main_v8
  w5 := .of main_v9
  s6 := .of main_v10
  w6 := .of main_v11
  s7 := .of main_v12
  w7 := .of main_v13
  s8 := .of main_v14
  w8 := .of main_v15
  s9 := .of main_v16
  w9 := .of main_v17
  s10 := .of main_v18
  w10 := .of main_v19
  s11 := .of main_v20
  w11 := .of main_v21

/-- The references layer 0 reads. -/
noncomputable def args0 : Args where
  x := .of main_arg0
  w1 := .of main_v1
  w2 := .of main_v3
  w3 := .of main_v5
  w4 := .of main_v7
  w5 := .of main_v9
  w6 := .of main_v11
  w7 := .of main_v13
  w8 := .of main_v15
  w9 := .of main_v17
  w10 := .of main_v19
  w11 := .of main_v21

theorem inside0 : Inside 0 where
  h1 := slices_S4x3072x768_S1x3072x768_0_0_0
  h2 := slices_S4x1536x4_S1x1536x4_0_0_0
  h3 := slices_S4x1536_S1x1536_0_0
  h4 := slices_S4x80x1536_S1x80x1536_0_0_0
  h5 := slices_S4x1536x48_S1x1536x48_0_0_0
  h6 := slices_S4x1536_S1x1536_0_0
  h7 := slices_S4x1536x16_S1x1536x16_0_0_0
  h8 := slices_S4x1536_S1x1536_0_0
  h9 := slices_S4x768x1536_S1x768x1536_0_0_0
  h10 := slices_S4x768_S1x768_0_0
  h11 := slices_S4x768_S1x768_0_0

/-- The weights' references in layer 1. -/
noncomputable def slabs1 : Slabs where
  s1 := .of main_v23
  w1 := .of main_v24
  s2 := .of main_v25
  w2 := .of main_v26
  s3 := .of main_v27
  w3 := .of main_v28
  s4 := .of main_v29
  w4 := .of main_v30
  s5 := .of main_v31
  w5 := .of main_v32
  s6 := .of main_v33
  w6 := .of main_v34
  s7 := .of main_v35
  w7 := .of main_v36
  s8 := .of main_v37
  w8 := .of main_v38
  s9 := .of main_v39
  w9 := .of main_v40
  s10 := .of main_v41
  w10 := .of main_v42
  s11 := .of main_v43
  w11 := .of main_v44

/-- The references layer 1 reads. -/
noncomputable def args1 : Args where
  x := .of main_v22
  w1 := .of main_v24
  w2 := .of main_v26
  w3 := .of main_v28
  w4 := .of main_v30
  w5 := .of main_v32
  w6 := .of main_v34
  w7 := .of main_v36
  w8 := .of main_v38
  w9 := .of main_v40
  w10 := .of main_v42
  w11 := .of main_v44

theorem inside1 : Inside 1 where
  h1 := slices_S4x3072x768_S1x3072x768_1_0_0
  h2 := slices_S4x1536x4_S1x1536x4_1_0_0
  h3 := slices_S4x1536_S1x1536_1_0
  h4 := slices_S4x80x1536_S1x80x1536_1_0_0
  h5 := slices_S4x1536x48_S1x1536x48_1_0_0
  h6 := slices_S4x1536_S1x1536_1_0
  h7 := slices_S4x1536x16_S1x1536x16_1_0_0
  h8 := slices_S4x1536_S1x1536_1_0
  h9 := slices_S4x768x1536_S1x768x1536_1_0_0
  h10 := slices_S4x768_S1x768_1_0
  h11 := slices_S4x768_S1x768_1_0

/-- The weights' references in layer 2. -/
noncomputable def slabs2 : Slabs where
  s1 := .of main_v46
  w1 := .of main_v47
  s2 := .of main_v48
  w2 := .of main_v49
  s3 := .of main_v50
  w3 := .of main_v51
  s4 := .of main_v52
  w4 := .of main_v53
  s5 := .of main_v54
  w5 := .of main_v55
  s6 := .of main_v56
  w6 := .of main_v57
  s7 := .of main_v58
  w7 := .of main_v59
  s8 := .of main_v60
  w8 := .of main_v61
  s9 := .of main_v62
  w9 := .of main_v63
  s10 := .of main_v64
  w10 := .of main_v65
  s11 := .of main_v66
  w11 := .of main_v67

/-- The references layer 2 reads. -/
noncomputable def args2 : Args where
  x := .of main_v45
  w1 := .of main_v47
  w2 := .of main_v49
  w3 := .of main_v51
  w4 := .of main_v53
  w5 := .of main_v55
  w6 := .of main_v57
  w7 := .of main_v59
  w8 := .of main_v61
  w9 := .of main_v63
  w10 := .of main_v65
  w11 := .of main_v67

theorem inside2 : Inside 2 where
  h1 := slices_S4x3072x768_S1x3072x768_2_0_0
  h2 := slices_S4x1536x4_S1x1536x4_2_0_0
  h3 := slices_S4x1536_S1x1536_2_0
  h4 := slices_S4x80x1536_S1x80x1536_2_0_0
  h5 := slices_S4x1536x48_S1x1536x48_2_0_0
  h6 := slices_S4x1536_S1x1536_2_0
  h7 := slices_S4x1536x16_S1x1536x16_2_0_0
  h8 := slices_S4x1536_S1x1536_2_0
  h9 := slices_S4x768x1536_S1x768x1536_2_0_0
  h10 := slices_S4x768_S1x768_2_0
  h11 := slices_S4x768_S1x768_2_0

/-- The weights' references in layer 3. -/
noncomputable def slabs3 : Slabs where
  s1 := .of main_v69
  w1 := .of main_v70
  s2 := .of main_v71
  w2 := .of main_v72
  s3 := .of main_v73
  w3 := .of main_v74
  s4 := .of main_v75
  w4 := .of main_v76
  s5 := .of main_v77
  w5 := .of main_v78
  s6 := .of main_v79
  w6 := .of main_v80
  s7 := .of main_v81
  w7 := .of main_v82
  s8 := .of main_v83
  w8 := .of main_v84
  s9 := .of main_v85
  w9 := .of main_v86
  s10 := .of main_v87
  w10 := .of main_v88
  s11 := .of main_v89
  w11 := .of main_v90

/-- The references layer 3 reads. -/
noncomputable def args3 : Args where
  x := .of main_v68
  w1 := .of main_v70
  w2 := .of main_v72
  w3 := .of main_v74
  w4 := .of main_v76
  w5 := .of main_v78
  w6 := .of main_v80
  w7 := .of main_v82
  w8 := .of main_v84
  w9 := .of main_v86
  w10 := .of main_v88
  w11 := .of main_v90

theorem inside3 : Inside 3 where
  h1 := slices_S4x3072x768_S1x3072x768_3_0_0
  h2 := slices_S4x1536x4_S1x1536x4_3_0_0
  h3 := slices_S4x1536_S1x1536_3_0
  h4 := slices_S4x80x1536_S1x80x1536_3_0_0
  h5 := slices_S4x1536x48_S1x1536x48_3_0_0
  h6 := slices_S4x1536_S1x1536_3_0
  h7 := slices_S4x1536x16_S1x1536x16_3_0_0
  h8 := slices_S4x1536_S1x1536_3_0
  h9 := slices_S4x768x1536_S1x768x1536_3_0_0
  h10 := slices_S4x768_S1x768_3_0
  h11 := slices_S4x768_S1x768_3_0

end Cert.ReferenceIdeal.Hand

end
-- ==== Proof.Ref.Chain.lean ====
/-
  The reference's program as lines of statements: a layer's function is its statements before the loop, the loop, and
  its statements after; the loop's body is one trip's statements and the copies back; @main is four such layers.
-/
module

public import proofs.«01_k».proof.Proof.Ref.Layer

@[expose] public section

set_option maxRecDepth 100000

noncomputable section

namespace Cert.ReferenceIdeal.Hand

open Idealize.ShloMosaic Idealize.ShloMosaic.StableHlo Idealize.SL.Sem Idealize.ShloMosaic.Tactic
open Cert.Host Cert.ReferenceIdeal Cert.ReferenceIdeal.Facts₀

variable {F : FTy → Type} [FloatOps F]

/-- The reference's TensorCore programs. -/
abbrev Pr (F : FTy → Type) [FloatOps F] : Type 1 :=
  Prog (TpuEff nD τ sig (Elt F) (HostLoop.Sig (Pipeline.Sig Λ₀ (Fin 0) fun p => (pcfgs (F := F) p).Adm) 4) .tc) PUnit

variable [Facts]

/-- A call of the first layer function is the statements before the loop, the loop, the statements after it. -/
theorem layer_chain (A : Args) (φ : fn_layer.Bufs) :
    (fn_layer.body A.x A.w1 A.w2 A.w3 A.w4 A.w5 A.w6 A.w7 A.w8 A.w9 A.w10 A.w11 φ : Pr F)
      = Pipeline.chain [seq (ops (preL A φ)), HostLoop.enter φ.while0, seq (ops (postL A φ))] := by
  chain_rfl

/-- The same of the second layer function, whose text is the first's. -/
theorem layer1_chain (A : Args) (φ : fn_layer_1.Bufs) :
    (fn_layer_1.body A.x A.w1 A.w2 A.w3 A.w4 A.w5 A.w6 A.w7 A.w8 A.w9 A.w10 A.w11 φ : Pr F)
      = Pipeline.chain [seq (ops (preL A (toL φ))), HostLoop.enter φ.while0, seq (ops (postL A (toL φ)))] := by
  chain_rfl

/-- The loop's body is one trip's statements and the copies back. -/
theorem trip_chain (A : Args) (φ : fn_layer.Bufs) :
    (fn_layer.while0_body A.x A.w1 A.w2 A.w3 A.w4 A.w5 A.w6 A.w7 A.w8 A.w9 A.w10 A.w11 φ : Pr F)
      = Pipeline.chain [seq (ops (tripL φ)), seq (ops (backL φ))] := by
  chain_rfl

theorem trip1_chain (A : Args) (φ : fn_layer_1.Bufs) :
    (fn_layer_1.while0_body A.x A.w1 A.w2 A.w3 A.w4 A.w5 A.w6 A.w7 A.w8 A.w9 A.w10 A.w11 φ : Pr F)
      = Pipeline.chain [seq (ops (tripL (toL φ))), seq (ops (backL (toL φ)))] := by
  chain_rfl

/-- @main is, four times, the picking of a layer's weights and that layer. -/
theorem main_chain (d : Dev nD) :
    (main (F := F) d : Pr F) = Pipeline.chain [
      seq (ops (pickL 0 inside0 slabs0)), seq (ops (preL args0 main_call0)), HostLoop.enter 0, seq (ops (postL args0 main_call0)),
      seq (ops (pickL 1 inside1 slabs1)), seq (ops (preL args1 (toL main_call1))), HostLoop.enter 1, seq (ops (postL args1 (toL main_call1))),
      seq (ops (pickL 2 inside2 slabs2)), seq (ops (preL args2 (toL main_call2))), HostLoop.enter 2, seq (ops (postL args2 (toL main_call2))),
      seq (ops (pickL 3 inside3 slabs3)), seq (ops (preL args3 (toL main_call3))), HostLoop.enter 3, seq (ops (postL args3 (toL main_call3)))] := by
  chain_rfl

end Cert.ReferenceIdeal.Hand

end
-- ==== Proof.Ref.Launch.lean ====
/-
  The run of a host program that is a sequence of stages, each a few lines of host operations and then a counted loop,
  and closing lines: every weakly fair execution terminates, and every buffer ends at the fold of the stages.
-/
module

public import proofs.«01_k».proof.Proof.Ref.Stmt

@[expose] public section

noncomputable section

namespace Cert.Host

open Idealize.ShloMosaic Idealize.ShloMosaic.StableHlo Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (CSeg Ticket PCfg ucRefs)

variable {nD : Nat} {τ : Topo} {sig : RefSig} {F : FTy → Type} {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

abbrev adm0 : (p : Fin 0) → (pcs p).Adm := fun p => p.elim0
abbrev tk0 : Fin 0 → Ticket (Ix := Unit) (Name := ℕ) (U := Option PUnit) (Lvl := ℕ) (nD := nD) (τ := τ) pcs (adm0 pcs) := fun j => j.elim0
abbrev L0 : GSem nD τ sig → Finset Unit := fun _ => ∅
abbrev lv0 : GSem nD τ sig → Unit → ℕ := fun _ _ => 0

theorem cells0 : Function.Injective (Pipeline.cellOf (nD := nD) (τ := τ) (Pipeline.pin pcs (adm0 pcs))) :=
  fun k => k.1.elim0

/-- What rides along beside the buffers. -/
abbrev Ride (c : Dev nD) : sProp 𝕄 := iprop(∃ W, owes (c : Thread nD τ) (0 : CellTallies nD τ sig Unit) W)

/-- Lines of operations, then a counted loop. -/
structure Stage where
  lines : List (List (HloOp τ sig (Elt F)))
  plain : Plain lines
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  isLoop : loops l = HostLoop.step l cond body
  test : List (HloOp τ sig (Elt F))
  trip : List (List (HloOp τ sig (Elt F)))
  tripPlain : Plain trip
  isBody : body = Pipeline.chain (trip.map fun ops => (seq ops : Prog _ PUnit))
  n : ℕ
  spec : ∀ W : Dev nD → Valuation τ sig (Elt F),
    LoopCond pcs defs₀ Variants.none loops (Ride (F := F)) cond test trip (fun c => afterL lines (W c)) n

variable {pcs defs₀ loops}

/-- The contents after a stage. -/
def Stage.fold (s : Stage pcs defs₀ loops) (W : Dev nD → Valuation τ sig (Elt F)) : Dev nD → Valuation τ sig (Elt F) :=
  fun c => after s.test (atTrip s.test s.trip (fun c => afterL s.lines (W c)) s.n c)

/-- The contents after several. -/
def foldAll : List (Stage pcs defs₀ loops) → (Dev nD → Valuation τ sig (Elt F)) → Dev nD → Valuation τ sig (Elt F)
  | [], W => W
  | s :: r, W => foldAll r (s.fold W)

/-- The program of several stages and closing lines, as a list. -/
def items : List (Stage pcs defs₀ loops) → List (List (HloOp τ sig (Elt F))) →
    List (Prog (TpuEff nD τ sig (Elt F) (HostLoop.Sig (Pipeline.Sig Λ₀ (Fin 0) fun p => (pcs p).Adm) nL) .tc) PUnit)
  | [], post => post.map fun ops => seq ops
  | s :: r, post => (s.lines.map fun ops => seq ops) ++ HostLoop.enter s.l :: items r post

/-- Its segments. -/
def stageSegs : (S : List (Stage pcs defs₀ loops)) → (post : List (List (HloOp τ sig (Elt F)))) → Plain post →
    (Dev nD → Valuation τ sig (Elt F)) → List (CSeg pcs (adm0 pcs) defs₀ Variants.none L0 lv0 loops (tk0 pcs))
  | [], post, h, W => segsOf _ _ _ _ _ _ _ _ Ride post h W
  | s :: r, post, h, W => segsOf _ _ _ _ _ _ _ _ Ride s.lines s.plain W
      ++ loopSeg _ _ _ _ _ _ _ _ s.l s.cond s.body s.isLoop s.test s.trip s.tripPlain s.isBody s.n (fun c => afterL s.lines (W c)) Ride (s.spec W)
        :: stageSegs r post h (s.fold W)

theorem stageSegs_prog : ∀ (S : List (Stage pcs defs₀ loops)) (post : List (List (HloOp τ sig (Elt F)))) (h : Plain post)
    (W : Dev nD → Valuation τ sig (Elt F)), (stageSegs S post h W).map CSeg.prog = items S post
  | [], post, h, W => segsOf_prog _ _ _ _ _ _ _ _ Ride post h W
  | s :: r, post, h, W => by
    unfold stageSegs items
    rw [List.map_append, List.map_cons, segsOf_prog, stageSegs_prog r post h]
    rfl

theorem stageSegs_chains : ∀ (S : List (Stage pcs defs₀ loops)) (post : List (List (HloOp τ sig (Elt F)))) (h : Plain post)
    (W : Dev nD → Valuation τ sig (Elt F)),
    CSeg.Chains (fun c => iprop(held (c : Thread nD τ) (ucRefs τ sig) (W c) ∗ Ride c)) (stageSegs S post h W)
      (fun c => iprop(held (c : Thread nD τ) (ucRefs τ sig) (afterL post (foldAll S W c)) ∗ Ride c))
  | [], post, h, W => segsOf_chains _ _ _ _ _ _ _ _ Ride post h W
  | s :: r, post, h, W => by
    unfold stageSegs
    exact CSeg.Chains.append (segsOf_chains _ _ _ _ _ _ _ _ Ride s.lines s.plain W)
      ⟨fun _ => .rfl, stageSegs_chains r post h (s.fold W)⟩

/-- The run. -/
theorem run_stages [∀ e, Nonempty (Elt F e)]
    (main : Dev nD → Prog (TpuEff nD τ sig (Elt F) (HostLoop.Sig (Pipeline.Sig Λ₀ (Fin 0) fun p => (pcs p).Adm) nL) .tc) PUnit)
    (S : List (Stage pcs defs₀ loops)) (post : List (List (HloOp τ sig (Elt F)))) (hpost : Plain post)
    (hmain : ∀ c, main c = Pipeline.chain (items S post))
    (m : (ℓ : Loc nD τ sig) → Buf (Elt F) ℓ) (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = afterL post (foldAll S (launchContents m) c) (Proc.devRef .tc b)) :=
  Pipeline.θ_run_regions_loop_kit (Ix := Unit) (Name := ℕ) (U := Option PUnit) (Lvl := ℕ) (J := Fin 0) (P := Fin 0) (Val := Elt F)
    pcs (adm0 pcs) (cells0 pcs) defs₀ Variants.none L0 lv0 loops (tk0 pcs) m ρ main
    (stageSegs S post hpost (launchContents m))
    (fun c Q => by
      rw [hmain c]
      show wp _ _ _ (Pipeline.chain ((stageSegs S post hpost (launchContents m)).map CSeg.prog)) Q ⊢ _
      rw [stageSegs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Ride c))
    (Tₙ := fun c => iprop(held (c : Thread nD τ) (ucRefs τ sig) (afterL post (foldAll S (launchContents m) c))))
    (hch := stageSegs_chains S post hpost (launchContents m))
    (hinit := by
      refine Pipeline.initEach L0 lv0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = afterL post (foldAll S (launchContents m) c) b)
    (hfin := fun c s' => by
      unfold held
      iintro ⟨Hh, HSI⟩
      ihave Hr := (pointsTo_read_all (ucRefs τ sig) (fun b => ((c : Dev nD), b)) (fun b => afterL post (foldAll S (launchContents m) c) b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Host

end
-- ==== Proof.Ref.Run.lean ====
/-
  The reference's run: its four layers as stages (`Cert.Host.Stage`), and the contents it ends with.
-/
module

public import proofs.«01_k».proof.Proof.Ref.Chain
public import proofs.«01_k».proof.Proof.Ref.Launch
public import Idealize.ShloMosaic.Lib.Scf.ExitTest

@[expose] public section

set_option maxRecDepth 100000

noncomputable section

namespace Cert.ReferenceIdeal.Hand

open Idealize.ShloMosaic Idealize.ShloMosaic.StableHlo Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (ucRefs sub_ucRefs)
open Cert.Host Cert.ReferenceIdeal Cert.ReferenceIdeal.Facts₀

variable {F : FTy → Type} [FloatOps F] [Facts]

local notation "𝕄" => MT nD τ sig Unit (Elt F) ℕ (Option PUnit) ℕ

set_option backward.isDefEq.respectTransparency.types false in
/-- The loop's condition runs its two statements and returns what the second leaves. -/
theorem cond_wp (A : Args) (φ : fn_layer.Bufs) (X : Valuation τ sig (Elt F)) (R : sProp 𝕄) (c : Dev nD) (bd : Option (Variants.lift Variants.none).V) :
    iprop(boundary (c : Thread nD τ) ∗ held (c : Thread nD τ) (ucRefs τ sig) X ∗ R)
      ⊢ wp frame (wpE (HostLoop.defs loops (Pipeline.defs (pcfgs (F := F)) defs₀)) (Variants.lift Variants.none) (c : Thread nD τ) bd) Set.univ
          (fn_layer.while0_cond A.x A.w1 A.w2 A.w3 A.w4 A.w5 A.w6 A.w7 A.w8 A.w9 A.w10 A.w11 φ)
          (fun v => iprop(⌜v = rd (after (ops (condL φ)) X) φ.while0c_v99 HostLoop.idx0⌝ ∗ boundary (c : Thread nD τ)
            ∗ held (c : Thread nD τ) (ucRefs τ sig) (after (ops (condL φ)) X) ∗ R)) := by
  unfold fn_layer.while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    unfold rd
    refine congrFun (congrArg (cast _) ?_) HostLoop.idx0
    exact (HloOp.result_of_mem _ _ (Finset.mem_singleton_self _)).symm
  isplitl [Hb]; · iexact Hb
  isplitl [Hh]; · iexact Hh
  iexact HR

/-- The buffers the loop carries. -/
def carried (φ : fn_layer.Bufs) : List (Ref sig .tc) := [φ.v65_0.ref, φ.v65_1.ref, φ.v65_2.ref, φ.v65_3.ref, φ.v65_4.ref, φ.v65_5.ref]

/-- The buffers that the lines after the loop read from before it. -/
def staying (A : Args) (φ : fn_layer.Bufs) : List (Ref sig .tc) :=
  [A.x.ref, A.w8.ref, A.w9.ref, A.w10.ref, A.w11.ref, φ.v2.ref, φ.call1.v6.ref]

/-- The layer's inputs. -/
def inputs (A : Args) : List (Ref sig .tc) :=
  [A.x.ref, A.w1.ref, A.w2.ref, A.w3.ref, A.w4.ref, A.w5.ref, A.w6.ref, A.w7.ref, A.w8.ref, A.w9.ref, A.w10.ref, A.w11.ref]

/-- The buffers a trip leaves its new values in. -/
def fresh (φ : fn_layer.Bufs) : List (Ref sig .tc) := [φ.while0b_v106.ref, φ.while0b_v103.ref, φ.while0b_call6.v1.ref]

/-- What the numbering of a call's buffers gives, decided: single assignment in each line, and which lines spare what. -/
structure Good (F : FTy → Type) [FloatOps F] (A : Args) (φ : fn_layer.Bufs) : Prop where
  pre : once (preL (F := F) A φ) = true
  cond : once (condL (F := F) φ) = true
  trip : once (tripL (F := F) φ) = true
  back : once (backL (F := F) φ) = true
  post : once (postL (F := F) A φ) = true
  preKeeps : (inputs A).all (spares (preL (F := F) A φ)) = true
  condKeeps : (carried φ ++ staying A φ).all (spares (condL (F := F) φ)) = true
  tripKeeps : (carried φ ++ staying A φ).all (spares (tripL (F := F) φ)) = true
  backKeeps : ([φ.v65_0.ref, φ.v65_1.ref, φ.v65_2.ref] ++ fresh φ ++ staying A φ).all (spares (backL (F := F) φ)) = true
  postKeeps : (staying A φ ++ [φ.v65_5.ref]).all (spares (postL (F := F) A φ)) = true

omit [FloatOps F] [Facts] in
theorem holdsAll_append (l l' : List (Stmt τ sig F)) (V : Valuation τ sig (Elt F)) :
    holdsAll (l ++ l') V ↔ holdsAll l V ∧ holdsAll l' V := by
  induction l with
  | nil => simp [holdsAll]
  | cons s l ih => simp only [List.cons_append, holdsAll, ih, and_assoc]

omit [FloatOps F] [Facts] in
/-- A reference of a list that a line spares reads as before. -/
theorem rd_of_all {T : BufTy} {rs : List (Ref sig .tc)} {l : List (Stmt τ sig F)} (h : rs.all (spares l) = true) (x : TRef sig T)
    (hx : x.ref ∈ rs) (V : Valuation τ sig (Elt F)) : rd (after (ops l) V) x = rd V x :=
  rd_keep l x (List.all_eq_true.1 h _ hx) V

/-- The contents before the `k`-th run of the condition. -/
abbrev trips (φ : fn_layer.Bufs) (V : Valuation τ sig (Elt F)) : ℕ → Valuation τ sig (Elt F)
  | 0 => V
  | k + 1 => after (ops (backL φ)) (after (ops (tripL φ)) (after (ops (condL φ)) (trips φ V k)))

omit [Facts] in
theorem atTrip_eq [Facts] (φ : fn_layer.Bufs) (W : Dev nD → Valuation τ sig (Elt F)) (c : Dev nD) :
    ∀ k, atTrip (ops (condL φ)) [ops (tripL φ), ops (backL φ)] W k c = trips φ (W c) k
  | 0 => rfl
  | k + 1 => by
    show afterL _ (after _ (atTrip _ _ W k c)) = _
    rw [atTrip_eq φ W c k]; rfl

/-- The counter starts at 0. -/
theorem ctr_zero {A : Args} {φ : fn_layer.Bufs} (g : Good F A φ) (V : Valuation τ sig (Elt F)) :
    rd (after (ops (preL A φ)) V) φ.v65_3 = fun _ => (0#32 : BitVec 32) := by
  have h := after_holds _ g.pre V
  generalize after (ops (preL A φ)) V = X at h
  simp only [preL, holdsAll_append] at h
  obtain ⟨-, -, -, -, -, -, hs, he⟩ := h
  simp only [holdsAll, enterL, scanL, un_holds, nul_holds, bin_holds, and_true] at hs he
  rw [he.2.2.2.1, hs.2.2.2.2.2.2.2.2.2.2.2.2.2.2.2.2.2.2.2.2.2]
  rfl

/-- A trip adds one to the counter. -/
theorem ctr_succ {A : Args} {φ : fn_layer.Bufs} (g : Good F A φ) (V : Valuation τ sig (Elt F)) (k : ℕ) :
    rd (trips φ V (k + 1)) φ.v65_3 = addi (rd (trips φ V k) φ.v65_3) (constantI S_ 32 1#32) := by
  show rd (after (ops (backL φ)) (after (ops (tripL φ)) (after (ops (condL φ)) (trips φ V k)))) φ.v65_3 = _
  rw [← rd_of_all g.condKeeps φ.v65_3 (by simp [carried]) (trips φ V k)]
  generalize after (ops (condL φ)) (trips φ V k) = X
  have ht := after_holds _ g.trip X
  rw [← rd_of_all g.tripKeeps φ.v65_3 (by simp [carried]) X]
  generalize after (ops (tripL φ)) X = Y at ht
  have hb := after_holds _ g.back Y
  have hk := rd_of_all g.backKeeps φ.while0b_v106 (by simp [fresh]) Y
  generalize after (ops (backL φ)) Y = Z at hb hk
  simp only [holdsAll, backL, un_holds, and_true] at hb
  simp only [tripL, holdsAll_append] at ht
  obtain ⟨-, -, -, -, -, hc⟩ := ht
  simp only [holdsAll, countL, nul_holds, bin_holds, and_true] at hc
  rw [hb.1, id, hk, hc.2, hc.1]

/-- So before the `k`-th run of the condition it is `k`. -/
theorem ctr {A : Args} {φ : fn_layer.Bufs} (g : Good F A φ) (V : Valuation τ sig (Elt F)) :
    ∀ k, rd (trips φ (after (ops (preL A φ)) V) k) φ.v65_3 = fun _ => Scf.iv (0#32 : BitVec 32) 1#32 k
  | 0 => by rw [Scf.iv_zero]; exact ctr_zero g V
  | k + 1 => by
    rw [ctr_succ g, ctr g V k, Scf.iv_succ]
    rfl

/-- The condition's value at its `k`-th run. -/
theorem cond_iff {A : Args} {φ : fn_layer.Bufs} (g : Good F A φ) (V : Valuation τ sig (Elt F)) (k : ℕ) (hk : k ≤ 1024) :
    rd (after (ops (condL φ)) (trips φ (after (ops (preL A φ)) V) k)) φ.while0c_v99 HostLoop.idx0 = (1#1 : BitVec 1) ↔ k < 1024 := by
  have h := after_holds _ g.cond (trips φ (after (ops (preL A φ)) V) k)
  have e := rd_of_all g.condKeeps φ.v65_3 (by simp [carried]) (trips φ (after (ops (preL A φ)) V) k)
  rw [ctr g V k] at e
  generalize after (ops (condL φ)) _ = X at h e ⊢
  simp only [holdsAll, condL, nul_holds, bin_holds, and_true] at h
  rw [h.2, h.1, e]
  have ht : main_while0_count.trips = 1024 := by decide
  have := Scf.cmpi_slt_iv_ub_iff (lb := 0#32) (ub := 1024#32) (st := 1#32) main_while0_ok (k := k) (by
    show k ≤ main_while0_count.trips; rw [ht]; exact hk)
  rw [show Scf.trips 0#32 1024#32 1#32 = 1024 from ht] at this
  exact this

/-- A layer as a stage: the lines `pfx` before it, its own lines, its loop. -/
def stage (A : Args) (φ : fn_layer.Bufs) (g : Good F A φ) (pfx : List (List (Stmt τ sig F))) (l : Fin 4)
    (cond : Prog (TpuEff nD τ sig (Elt F) (HostLoop.Sig (Pipeline.Sig Λ₀ (Fin 0) fun p => (pcfgs (F := F) p).Adm) 4) .tc) (Elt F .i1))
    (body : Pr F) (hl : loops (F := F) l = HostLoop.step l cond body)
    (hc : cond = fn_layer.while0_cond A.x A.w1 A.w2 A.w3 A.w4 A.w5 A.w6 A.w7 A.w8 A.w9 A.w10 A.w11 φ)
    (hb : body = Pipeline.chain [seq (ops (tripL φ)), seq (ops (backL φ))]) : Stage (pcfgs (F := F)) defs₀ (loops (F := F)) where
  lines := pfx.map ops ++ [ops (preL A φ)]
  plain := by
    induction pfx with
    | nil => exact plain_cons _ Plain.nil
    | cons p r ih => exact plain_cons p ih
  l := l
  cond := cond
  body := body
  isLoop := hl
  test := ops (condL φ)
  trip := [ops (tripL φ), ops (backL φ)]
  tripPlain := plain_cons _ (plain_cons _ Plain.nil)
  isBody := hb
  n := 1024
  spec W k hk c bd := by
    subst hc
    rw [atTrip_eq]
    refine (cond_wp A φ _ (Ride c) c bd).trans (wp_mono _ _ _ fun v => ?_)
    iintro ⟨%hv, Hb, Hh, HR⟩
    isplitr
    · ipureintro
      rw [hv, show afterL (pfx.map ops ++ [ops (preL A φ)]) (W c) = after (ops (preL A φ)) (afterL (pfx.map ops) (W c)) from by
        rw [afterL_eq_after_flatten, afterL_eq_after_flatten, List.flatten_append, after_append]; simp [afterL]]
      exact cond_iff g _ k hk
    isplitl [Hb]; · iexact Hb
    isplitl [Hh]; · iexact Hh
    iexact HR

theorem good0 : Good F args0 main_call0 := by constructor <;> chain_rfl
theorem good1 : Good F args1 (toL main_call1) := by constructor <;> chain_rfl
theorem good2 : Good F args2 (toL main_call2) := by constructor <;> chain_rfl
theorem good3 : Good F args3 (toL main_call3) := by constructor <;> chain_rfl

end Cert.ReferenceIdeal.Hand

end
-- ==== Proof.Ref.Final.lean ====
/-
  What the reference ends with: the fold of its four layers, and its frame: it terminates, leaves its arguments as they
  were and its counters at zero.
-/
module

public import proofs.«01_k».proof.Proof.Ref.Run

@[expose] public section

set_option maxRecDepth 100000

noncomputable section

namespace Cert.ReferenceIdeal.Hand

open Idealize.ShloMosaic Idealize.ShloMosaic.StableHlo Idealize.ShloMosaic.TcCoe Idealize.ShloMosaic.Tactic
open Idealize.SL Idealize.SL.Sem
open Cert.Host Cert.ReferenceIdeal Cert.ReferenceIdeal.Facts₀

variable {F : FTy → Type} [FloatOps F] [Facts]

/-- The four layers as stages. -/
def stages : List (Stage (pcfgs (F := F)) defs₀ (loops (F := F))) :=
  [stage args0 main_call0 good0 [pickL 0 inside0 slabs0] 0 main_while0_cond main_while0_body rfl rfl (trip_chain args0 main_call0),
   stage args1 (toL main_call1) good1 [postL args0 main_call0, pickL 1 inside1 slabs1] 1 main_while1_cond main_while1_body rfl rfl (trip1_chain args1 main_call1),
   stage args2 (toL main_call2) good2 [postL args1 (toL main_call1), pickL 2 inside2 slabs2] 2 main_while2_cond main_while2_body rfl rfl (trip1_chain args2 main_call2),
   stage args3 (toL main_call3) good3 [postL args2 (toL main_call2), pickL 3 inside3 slabs3] 3 main_while3_cond main_while3_body rfl rfl (trip1_chain args3 main_call3)]

/-- The contents after a layer. -/
def layerEnd (A : Args) (φ : fn_layer.Bufs) (V : Valuation τ sig (Elt F)) : Valuation τ sig (Elt F) :=
  after (ops (postL A φ)) (after (ops (condL φ)) (trips φ (after (ops (preL A φ)) V) 1024))

/-- The contents after the picking of layer 0's weights, and after layer 0; and so on. -/
def picked0 (V : Valuation τ sig (Elt F)) : Valuation τ sig (Elt F) := after (ops (pickL 0 inside0 slabs0)) V
def picked1 (V : Valuation τ sig (Elt F)) : Valuation τ sig (Elt F) := after (ops (pickL 1 inside1 slabs1)) (layerEnd args0 main_call0 (picked0 V))
def picked2 (V : Valuation τ sig (Elt F)) : Valuation τ sig (Elt F) := after (ops (pickL 2 inside2 slabs2)) (layerEnd args1 (toL main_call1) (picked1 V))
def picked3 (V : Valuation τ sig (Elt F)) : Valuation τ sig (Elt F) := after (ops (pickL 3 inside3 slabs3)) (layerEnd args2 (toL main_call2) (picked2 V))
def ended (V : Valuation τ sig (Elt F)) : Valuation τ sig (Elt F) := layerEnd args3 (toL main_call3) (picked3 V)

omit [Facts] in
theorem stage_fold [Facts] (A : Args) (φ : fn_layer.Bufs) (g : Good F A φ) (pfx : List (List (Stmt τ sig F))) (l cond body hl hc hb)
    (W : Dev nD → Valuation τ sig (Elt F)) (c : Dev nD) :
    (stage A φ g pfx l cond body hl hc hb).fold W c
      = after (ops (condL φ)) (trips φ (afterL (pfx.map ops ++ [ops (preL A φ)]) (W c)) 1024) :=
  congrArg (after (ops (condL φ))) (atTrip_eq φ _ c 1024)

theorem fold_eq (W : Dev nD → Valuation τ sig (Elt F)) (c : Dev nD) :
    afterL [ops (postL args3 (toL main_call3))] (foldAll stages W c) = ended (W c) := by
  unfold stages
  simp only [foldAll, stage_fold]
  rfl

/-- The reference's run: every buffer ends at the fold. -/
theorem run (m : (ℓ : Loc nD τ sig) → Buf (Elt F) ℓ) (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = ended (launchContents m c) (Proc.devRef .tc b)) := by
  have h := run_stages (main (F := F)) stages [ops (postL args3 (toL main_call3))] (plain_cons _ Plain.nil)
    (fun c => main_chain c) m ρ
  simp only [fold_eq] at h
  exact h

/-- The arguments. -/
def argRefs : List (Ref sig .tc) := [main_arg0, main_arg1, main_arg2, main_arg3, main_arg4, main_arg5, main_arg6, main_arg7,
  main_arg8, main_arg9, main_arg10, main_arg11]

/-- A layer's lines leave the buffer `r` alone. -/
def Clear (F : FTy → Type) [FloatOps F] (A : Args) (φ : fn_layer.Bufs) (r : Ref sig .tc) : Bool :=
  spares (preL (F := F) A φ) r && spares (condL (F := F) φ) r && spares (tripL (F := F) φ) r && spares (backL (F := F) φ) r
    && spares (postL (F := F) A φ) r

omit [Facts] in
theorem layerEnd_keep [Facts] (A : Args) (φ : fn_layer.Bufs) (r : Ref sig .tc) (h : Clear F A φ r = true) (V : Valuation τ sig (Elt F)) :
    layerEnd A φ V (Proc.devRef .tc r) = V (Proc.devRef .tc r) := by
  simp only [Clear, Bool.and_eq_true] at h
  obtain ⟨⟨⟨⟨h1, h2⟩, h3⟩, h4⟩, h5⟩ := h
  have ht : ∀ k, trips φ (after (ops (preL A φ)) V) k (Proc.devRef .tc r) = V (Proc.devRef .tc r) := by
    intro k
    induction k with
    | zero => exact after_keep _ _ h1 V
    | succ k ih => exact (after_keep _ _ h4 _).trans ((after_keep _ _ h3 _).trans ((after_keep _ _ h2 _).trans ih))
  exact (after_keep _ _ h5 _).trans ((after_keep _ _ h2 _).trans (ht 1024))

theorem args_clear : argRefs.all (fun r => spares (pickL (F := F) 0 inside0 slabs0) r && Clear F args0 main_call0 r
    && spares (pickL (F := F) 1 inside1 slabs1) r && Clear F args1 (toL main_call1) r
    && spares (pickL (F := F) 2 inside2 slabs2) r && Clear F args2 (toL main_call2) r
    && spares (pickL (F := F) 3 inside3 slabs3) r && Clear F args3 (toL main_call3) r) = true := by chain_rfl

/-- No layer writes an argument. -/
theorem arg_keeps (V : Valuation τ sig (Elt F)) (r : Ref sig .tc) (hr : r ∈ argRefs) :
    picked0 V (Proc.devRef .tc r) = V (Proc.devRef .tc r)
      ∧ layerEnd args0 main_call0 (picked0 V) (Proc.devRef .tc r) = V (Proc.devRef .tc r)
      ∧ layerEnd args1 (toL main_call1) (picked1 V) (Proc.devRef .tc r) = V (Proc.devRef .tc r)
      ∧ layerEnd args2 (toL main_call2) (picked2 V) (Proc.devRef .tc r) = V (Proc.devRef .tc r)
      ∧ ended V (Proc.devRef .tc r) = V (Proc.devRef .tc r) := by
  have h := List.all_eq_true.1 (args_clear (F := F)) r hr
  simp only [Bool.and_eq_true] at h
  obtain ⟨⟨⟨⟨⟨⟨⟨h0, l0⟩, h1⟩, l1⟩, h2⟩, l2⟩, h3⟩, l3⟩ := h
  have e0 : picked0 V (Proc.devRef .tc r) = V (Proc.devRef .tc r) := after_keep _ _ h0 V
  have f0 := (layerEnd_keep _ _ r l0 (picked0 V)).trans e0
  have e1 : picked1 V (Proc.devRef .tc r) = V (Proc.devRef .tc r) := (after_keep _ _ h1 _).trans f0
  have f1 := (layerEnd_keep _ _ r l1 (picked1 V)).trans e1
  have e2 : picked2 V (Proc.devRef .tc r) = V (Proc.devRef .tc r) := (after_keep _ _ h2 _).trans f1
  have f2 := (layerEnd_keep _ _ r l2 (picked2 V)).trans e2
  have e3 : picked3 V (Proc.devRef .tc r) = V (Proc.devRef .tc r) := (after_keep _ _ h3 _).trans f2
  exact ⟨e0, f0, f1, f2, (layerEnd_keep _ _ r l3 (picked3 V)).trans e3⟩

/-- The reference's frame. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine (θ_run defs _ _).mono (fun r h => ?_) (run m ρ)
  have ha : ∀ (c : Dev nD) (b : Ref sig .tc), b ∈ argRefs → (Proc.devRef .tc b : DevRef τ sig).isScoped = false →
      r.2.mem ((c.tc : Thread nD τ).loc b) = m ((c.tc : Thread nD τ).loc b) := fun c b hb hs =>
    (h c b hs).trans (arg_keeps (launchContents m c) b hb).2.2.2.2
  exact ⟨fun c => ⟨ha c main_arg0 (by simp [argRefs]) rfl, ha c main_arg1 (by simp [argRefs]) rfl, ha c main_arg2 (by simp [argRefs]) rfl, ha c main_arg3 (by simp [argRefs]) rfl, ha c main_arg4 (by simp [argRefs]) rfl, ha c main_arg5 (by simp [argRefs]) rfl, ha c main_arg6 (by simp [argRefs]) rfl, ha c main_arg7 (by simp [argRefs]) rfl, ha c main_arg8 (by simp [argRefs]) rfl, ha c main_arg9 (by simp [argRefs]) rfl, ha c main_arg10 (by simp [argRefs]) rfl, ha c main_arg11 (by simp [argRefs]) rfl⟩, sem_eq_zero_of_no_sems (by decide) r.2⟩

end Cert.ReferenceIdeal.Hand

end
-- ==== Proof.Value.Spec.lean ====
/-
  One layer of the encoder on one sequence, entry by entry, over the extended reals: what both programs compute.
-/
module

public import Idealize.ShloMosaic.Lib.Pointwise

@[expose] public section

noncomputable section

namespace Cert.Spec

open Idealize.ShloMosaic

/-- A layer's weights. -/
structure Wts where
  w1 : Fin 3072 → Fin 768 → EReal
  w2 : Fin 1536 → Fin 4 → EReal
  w3 : Fin 1536 → EReal
  w4 : Fin 80 → Fin 1536 → EReal
  w5 : Fin 1536 → Fin 48 → EReal
  w6 : Fin 1536 → EReal
  w7 : Fin 1536 → Fin 16 → EReal
  w8 : Fin 1536 → EReal
  w9 : Fin 768 → Fin 1536 → EReal
  w10 : Fin 768 → EReal
  w11 : Fin 768 → EReal

/-- A sequence of rows. -/
abbrev Sq := Fin 1024 → Fin 768 → EReal

/-- The width as the float constant that divides, and the constant under the root. -/
def width : EReal := Ideal.ofBits FTy.f32 1145044992#32
def eps : EReal := Ideal.ofBits FTy.f32 897988541#32

def silu (v : EReal) : EReal := v * Ideal.div 1 (1 + Ideal.exp (-v))
def soft (v : EReal) : EReal := max v 0 + Ideal.log (1 + Ideal.exp (-(max v (-v))))

/-- `f` moved `s` places later, zero before. -/
def late (f : Fin 1024 → EReal) (s : ℕ) (t : Fin 1024) : EReal :=
  if t.val < s then 0 else f ⟨t.val - s, Nat.lt_of_le_of_lt (Nat.sub_le _ _) t.isLt⟩

/-- The first-order recurrence `h ← a h + b` from `s`. -/
def rec1 (s : EReal) (a b : ℕ → EReal) : ℕ → EReal
  | 0 => s
  | k + 1 => a k * rec1 s a b k + b k

/-- A function of the first `N` naturals, zero from there on. -/
def nat {N : ℕ} (f : Fin N → EReal) (k : ℕ) : EReal := if h : k < N then f ⟨k, h⟩ else 0

theorem nat_lt {N : ℕ} (f : Fin N → EReal) {k : ℕ} (h : k < N) : nat f k = f ⟨k, h⟩ := dif_pos h

theorem rec1_congr {s s' : EReal} (hs : s = s') {a b a' b' : ℕ → EReal} (k : ℕ) (h : ∀ j < k, a j = a' j ∧ b j = b' j) :
    rec1 s a b k = rec1 s' a' b' k := by
  induction k with
  | zero => exact hs
  | succ k ih =>
    rw [rec1, rec1, ih fun j hj => h j (Nat.lt_succ_of_lt hj), (h k (Nat.lt_succ_self k)).1, (h k (Nat.lt_succ_self k)).2]

theorem rec1_add (s : EReal) (a b : ℕ → EReal) (m k : ℕ) :
    rec1 s a b (m + k) = rec1 (rec1 s a b m) (fun j => a (m + j)) (fun j => b (m + j)) k := by
  induction k with
  | zero => rfl
  | succ k ih => rw [← Nat.add_assoc, rec1, rec1, ih]

section Layer

variable (w : Wts) (x : Sq)

/-- The input projection. -/
def xz (t : Fin 1024) (e : Fin 3072) : EReal := ∑ k, x t k * w.w1 e k

/-- The half that is scanned and the half that gates. -/
def xu (t : Fin 1024) (d : Fin 1536) : EReal := xz w x t (Fin.castLE (by decide) d)
def xg (t : Fin 1024) (d : Fin 1536) : EReal := xz w x t ⟨1536 + d.val, by omega⟩

/-- The causal convolution, activated. -/
def act (t : Fin 1024) (d : Fin 1536) : EReal :=
  silu (xu w x t d * w.w2 d 3 + w.w3 d + late (xu w x · d) 1 t * w.w2 d 2 + late (xu w x · d) 2 t * w.w2 d 1
    + late (xu w x · d) 3 t * w.w2 d 0)

/-- The state projection. -/
def xd (t : Fin 1024) (e : Fin 80) : EReal := ∑ d, act w x t d * w.w4 e d

/-- The step sizes. -/
def delta (t : Fin 1024) (d : Fin 1536) : EReal :=
  soft (∑ r : Fin 48, xd w x t (Fin.castLE (by decide) r) * w.w5 d r + w.w6 d)

/-- The decays and the inputs of the recurrence. -/
def dec (d : Fin 1536) (n : Fin 16) (t : Fin 1024) : EReal := Ideal.exp (delta w x t d * -Ideal.exp (w.w7 d n))
def inp (d : Fin 1536) (n : Fin 16) (t : Fin 1024) : EReal := delta w x t d * act w x t d * xd w x t ⟨48 + n.val, by omega⟩

/-- The state before step `k`. -/
def state (d : Fin 1536) (n : Fin 16) (k : ℕ) : EReal := rec1 0 (nat (dec w x d n)) (nat (inp w x d n)) k

/-- The scan's output. -/
def scanOut (t : Fin 1024) (d : Fin 1536) : EReal := ∑ n : Fin 16, state w x d n (t.val + 1) * xd w x t ⟨64 + n.val, by omega⟩

/-- The gated output. -/
def gated (t : Fin 1024) (d : Fin 1536) : EReal := (scanOut w x t d + act w x t d * w.w8 d) * silu (xg w x t d)

/-- The output projection and the residual. -/
def res (t : Fin 1024) (k : Fin 768) : EReal := ∑ d, gated w x t d * w.w9 k d + x t k

end Layer

/-- A row less its mean. -/
def cen (o : Fin 768 → EReal) (k : Fin 768) : EReal := o k - Ideal.div (∑ j, o j) width

/-- The layer normalisation of a row. -/
def norm (g b : Fin 768 → EReal) (o : Fin 768 → EReal) (k : Fin 768) : EReal :=
  cen o k * Ideal.rsqrt (Ideal.div (∑ j, cen o j * cen o j) width + eps) * g k + b k

/-- One layer. -/
def layer (w : Wts) (x : Sq) : Sq := fun t => norm w.w10 w.w11 (res w x t)

/-- The four layers on each sequence of the batch. -/
def enc (W : Fin 4 → Wts) (x : Fin 2 → Sq) (b : Fin 2) : Sq := layer (W 3) (layer (W 2) (layer (W 1) (layer (W 0) (x b))))

end Cert.Spec

end
-- ==== Proof.Value.Kernel.lean ====
/-
  The kernel's layer at the extended reals is the layer of `Cert.Spec`.
-/
module

public import proofs.«01_k».proof.Proof.Ideal.State
public import proofs.«01_k».proof.Proof.Value.Spec

@[expose] public section

set_option maxRecDepth 16384

noncomputable section

namespace Cert.KernelIdeal.Hand

open Cert.KernelIdeal Cert.KernelIdeal.Gen Cert.Spec
open Idealize.ShloMosaic Idealize.ShloMosaic.Tactic

/-- The window blocks hold the weights `w`. -/
structure Fits (w : Wts) (x1 x2 : Vec Ideal S1x768x1536 .bf16) (x3 : Vec Ideal S1x8x1536 .f32) (x4 : Vec Ideal S1x1x1536 .f32)
    (x5 : Vec Ideal S1x1536x128 .bf16) (x6 : Vec Ideal S1x128x1536 .bf16) (x7 : Vec Ideal S1x1x1536 .f32) (x8 : Vec Ideal S1x16x1536 .f32)
    (x9 : Vec Ideal S1x1x1536 .f32) (x10 : Vec Ideal S1x1536x768 .bf16) (x11 x12 : Vec Ideal S1x1x768 .f32) : Prop where
  h1 : ∀ k d, x1 (ix3 0 k d) = w.w1 (Fin.castLE (by decide) d) k
  h2 : ∀ k (d : Fin 1536), x2 (ix3 0 k d) = w.w1 ⟨1536 + d.val, by omega⟩ k
  h30 : ∀ d, x3 (ix3 0 0 d) = w.w2 d 0
  h31 : ∀ d, x3 (ix3 0 1 d) = w.w2 d 1
  h32 : ∀ d, x3 (ix3 0 2 d) = w.w2 d 2
  h33 : ∀ d, x3 (ix3 0 3 d) = w.w2 d 3
  h4 : ∀ d, x4 (ix3 0 0 d) = w.w3 d
  h5 : ∀ d (e : Fin 80), x5 (ix3 0 d (Fin.castLE (by decide) e)) = w.w4 e d
  h6 : ∀ d (r : Fin 48), x6 (ix3 0 (Fin.castLE (by decide) r) d) = w.w5 d r
  h60 : ∀ d (r : Fin 80), x6 (ix3 0 ⟨48 + r.val, by omega⟩ d) = 0
  h7 : ∀ d, x7 (ix3 0 0 d) = w.w6 d
  h8 : ∀ d n, x8 (ix3 0 n d) = w.w7 d n
  h9 : ∀ d, x9 (ix3 0 0 d) = w.w8 d
  h10 : ∀ k d, x10 (ix3 0 d k) = w.w9 k d
  h11 : ∀ k, x11 (ix3 0 0 k) = w.w10 k
  h12 : ∀ k, x12 (ix3 0 0 k) = w.w11 k

/-- The sequence in a block. -/
def seqOf (hin : Vec Ideal S1x1024x768 .f32) : Sq := fun t k => hin (ix3 0 t k)

section

variable {w : Wts} {x1 x2 : Vec Ideal S1x768x1536 .bf16} {x3 : Vec Ideal S1x8x1536 .f32} {x4 : Vec Ideal S1x1x1536 .f32}
    {x5 : Vec Ideal S1x1536x128 .bf16} {x6 : Vec Ideal S1x128x1536 .bf16} {x7 : Vec Ideal S1x1x1536 .f32} {x8 : Vec Ideal S1x16x1536 .f32}
    {x9 : Vec Ideal S1x1x1536 .f32} {x10 : Vec Ideal S1x1536x768 .bf16} {x11 x12 : Vec Ideal S1x1x768 .f32}
    (f : Fits w x1 x2 x3 x4 x5 x6 x7 x8 x9 x10 x11 x12) (hin : Vec Ideal S1x1024x768 .f32)

include f

theorem pay10_at (t : Fin 1024) (d : Fin 1536) : k0_pay10 hin x1 (ix2 t d) = xu w (seqOf hin) t d := by
  pointwise [k0_pay10, k0_pay9, k0_pay8]
  simp only [f.h1]; rfl

omit f in
theorem taps_at (u : Vec Ideal S1024x1536 .f32) (t : Fin 1024) (d : Fin 1536) :
    k0_pay14 (k0_pay11 x3) u (k0_pay12 x3 u x4) (k0_pay13 x3 u) (ix2 t d)
      = silu (u (ix2 t d) * x3 (ix3 0 3 d) + x4 (ix3 0 0 d) + late (fun s => u (ix2 s d)) 1 t * x3 (ix3 0 2 d)
          + late (fun s => u (ix2 s d)) 2 t * x3 (ix3 0 1 d) + late (fun s => u (ix2 s d)) 3 t * x3 (ix3 0 0 d)) := by
  pointwise [k0_pay14, k0_pay13, k0_pay12, k0_pay11]
  simp only [silu, late, sub_eq_add_neg, zero_add]
  rfl

/-- The activated convolution. -/
theorem conv_at (t : Fin 1024) (d : Fin 1536) :
    k0_pay14 (k0_pay11 x3) (k0_pay10 hin x1) (k0_pay12 x3 (k0_pay10 hin x1) x4) (k0_pay13 x3 (k0_pay10 hin x1)) (ix2 t d)
      = act w (seqOf hin) t d := by
  rw [taps_at, act]
  simp only [pay10_at f, f.h30, f.h31, f.h32, f.h33, f.h4]

theorem act_at (t : Fin 1024) (d : Fin 1536) : actV x1 x3 x4 hin (ix2 t d) = act w (seqOf hin) t d := by
  rw [← conv_at f hin t d]
  unfold actV
  generalize k0_pay10 hin x1 = u
  generalize k0_pay12 x3 u x4 = p
  generalize k0_pay13 x3 u = q
  generalize k0_pay11 x3 = r
  unfold k0_pay15
  generalize k0_pay14 r u p q = v
  pointwise

/-- The projected sequence, all 128 columns of it. -/
theorem proj_at (t : Fin 1024) (e : Fin 128) :
    projV x1 x3 x4 x5 hin (ix3 t 0 e) = ∑ d, act w (seqOf hin) t d * x5 (ix3 0 d e) := by
  simp only [← conv_at f hin t]
  unfold projV
  generalize k0_pay10 hin x1 = u
  generalize k0_pay12 x3 u x4 = p
  generalize k0_pay13 x3 u = q
  generalize k0_pay11 x3 = r
  unfold k0_pay17 k0_pay16
  generalize k0_pay14 r u p q = v
  pointwise

theorem proj_lt (t : Fin 1024) (e : Fin 80) :
    projV x1 x3 x4 x5 hin (ix3 t 0 (Fin.castLE (by decide) e)) = xd w (seqOf hin) t e := by
  rw [proj_at f]; simp only [f.h5]; rfl

theorem pre_at (t : Fin 1024) (d : Fin 1536) :
    k0_pay18 (k0_pay11 x3) (k0_pay10 hin x1) (k0_pay12 x3 (k0_pay10 hin x1) x4) (k0_pay13 x3 (k0_pay10 hin x1)) x5 x6 x7 (ix2 t d)
      = ∑ r : Fin 48, xd w (seqOf hin) t (Fin.castLE (by decide) r) * w.w5 d r + w.w6 d := by
  have e : k0_pay18 (k0_pay11 x3) (k0_pay10 hin x1) (k0_pay12 x3 (k0_pay10 hin x1) x4) (k0_pay13 x3 (k0_pay10 hin x1)) x5 x6 x7 (ix2 t d)
      = ∑ r : Fin 128, projV x1 x3 x4 x5 hin (ix3 t 0 r) * x6 (ix3 0 r d) + x7 (ix3 0 0 d) := by
    unfold projV
    generalize k0_pay10 hin x1 = u
    generalize k0_pay12 x3 u x4 = p
    generalize k0_pay13 x3 u = q
    generalize k0_pay11 x3 = r
    unfold k0_pay18 k0_pay17 k0_pay16
    generalize k0_pay14 r u p q = v
    pointwise
  rw [e, f.h7]
  congr 1
  refine (Fin.sum_univ_add (a := 48) (b := 80) (fun r : Fin 128 => projV x1 x3 x4 x5 hin (ix3 t 0 r) * x6 (ix3 0 r d))).trans ?_
  have z : ∑ r : Fin 80, projV x1 x3 x4 x5 hin (ix3 t 0 (Fin.natAdd 48 r)) * x6 (ix3 0 (Fin.natAdd 48 r) d) = 0 := by
    refine Finset.sum_eq_zero fun r _ => ?_
    have : x6 (ix3 0 (Fin.natAdd 48 r) d) = 0 := f.h60 d r
    rw [this, mul_zero]
  rw [z, add_zero]
  refine Finset.sum_congr rfl fun r _ => ?_
  have h6 : x6 (ix3 0 (Fin.castAdd 80 r) d) = w.w5 d r := f.h6 d r
  have hp : projV x1 x3 x4 x5 hin (ix3 t 0 (Fin.castAdd 80 r)) = xd w (seqOf hin) t (Fin.castLE (by decide) r) :=
    proj_lt f hin t (Fin.castLE (by decide) r)
  rw [h6, hp]

/-- The step sizes. -/
theorem delta_at (t : Fin 1024) (d : Fin 1536) : deltaV x1 x3 x4 x5 x6 x7 hin (ix2 t d) = delta w (seqOf hin) t d := by
  rw [delta, ← pre_at f hin t d]
  unfold deltaV k0_pay19
  generalize k0_pay18 (k0_pay11 x3) (k0_pay10 hin x1) (k0_pay12 x3 (k0_pay10 hin x1) x4) (k0_pay13 x3 (k0_pay10 hin x1)) x5 x6 x7 = v
  pointwise [k0_pay20]
  simp only [soft, sub_eq_add_neg, zero_add]
  rfl

end

end Cert.KernelIdeal.Hand

end
-- ==== Proof.Value.Scan.lean ====
/-
  The kernel's chunked walk at the extended reals is one walk over the whole sequence, and its layer is the layer of
  `Cert.Spec`.
-/
module

public import proofs.«01_k».proof.Proof.Value.Kernel

@[expose] public section

set_option maxRecDepth 16384

noncomputable section

namespace Cert.KernelIdeal.Hand

open Cert.KernelIdeal Cert.KernelIdeal.Gen Cert.Spec
open Idealize.ShloMosaic Idealize.ShloMosaic.Tactic

/-- Row `k` of a cube. -/
theorem window_row (c : Vec Ideal S32x16x1536 .f32) (k : ℕ) (hk : k < 32) (n : Fin 16) (d : Fin 1536) :
    VecWindow.window c ![k, 0, 0] S1x16x1536.size (row_inb k hk) (ix3 (n0 := 1) 0 n d) = c (ix3 ⟨k, hk⟩ n d) := by
  refine congrArg c (funext fun a => Fin.ext ?_)
  match a with
  | ⟨0, _⟩ => exact Nat.add_zero k
  | ⟨1, _⟩ => show 0 + 1 * n.val = n.val; omega
  | ⟨2, _⟩ => show 0 + 1 * d.val = d.val; omega

/-- A cube with row `k` put, entry by entry. -/
theorem put_row (c : Vec Ideal S32x16x1536 .f32) (k : ℕ) (v : Vec Ideal S1x16x1536 .f32) (r : Fin 32) (n : Fin 16) (d : Fin 1536) :
    VecWindow.put c ![k, 0, 0] S1x16x1536.size v (ix3 r n d) = if r.val = k then v (ix3 0 n d) else c (ix3 r n d) := by
  unfold VecWindow.put
  by_cases e : r.val = k
  · have h : ∀ a, (![k, 0, 0] : Fin 3 → ℕ) a ≤ (ix3 r n d a).val ∧ (ix3 r n d a).val < (![k, 0, 0] : Fin 3 → ℕ) a + S1x16x1536.size a := by
      intro a
      match a with
      | ⟨0, _⟩ => show k ≤ r.val ∧ r.val < k + 1; omega
      | ⟨1, _⟩ => show 0 ≤ n.val ∧ n.val < 0 + 16; omega
      | ⟨2, _⟩ => show 0 ≤ d.val ∧ d.val < 0 + 1536; omega
    rw [dif_pos h, if_pos e]
    refine congrArg v (funext fun a => Fin.ext ?_)
    match a with
    | ⟨0, _⟩ => show r.val - k = 0; omega
    | ⟨1, _⟩ => rfl
    | ⟨2, _⟩ => rfl
  · rw [dif_neg, if_neg e]
    intro h
    have := h ⟨0, by decide⟩
    have : k ≤ r.val ∧ r.val < k + 1 := this
    omega

/-- Chunk `k` of a sequence. -/
theorem window_chunk (u : Vec Ideal S1024x1536 .f32) (k : ℕ) (hk : k < 32) (r : Fin 32) (d : Fin 1536) :
    VecWindow.window u ![32 * k, 0] S32x1536.size (chunk_inb k hk) (ix2 (n0 := 32) r d) = u (ix2 ⟨32 * k + r.val, by omega⟩ d) := by
  refine congrArg u (funext fun a => Fin.ext ?_)
  match a with
  | ⟨0, _⟩ => show 32 * k + 1 * r.val = 32 * k + r.val; omega
  | ⟨1, _⟩ => show 0 + 1 * d.val = d.val; omega

/-- Chunk `k` of sixteen columns of the projected sequence. -/
theorem window_cols (u : Vec Ideal S1024x1x128 .f32) (k : ℕ) (hk : k < 32) (o : ℕ) (ho : o + 16 ≤ 128) (r : Fin 32) (n : Fin 16) :
    VecWindow.window u ![32 * k, 0, o] S32x1x16.size (cols_inb k hk o ho) (ix3 (n0 := 32) (n1 := 1) r 0 n)
      = u (ix3 ⟨32 * k + r.val, by omega⟩ 0 ⟨o + n.val, by omega⟩) := by
  refine congrArg u (funext fun a => Fin.ext ?_)
  match a with
  | ⟨0, _⟩ => show 32 * k + 1 * r.val = 32 * k + r.val; omega
  | ⟨1, _⟩ => rfl
  | ⟨2, _⟩ => show o + 1 * n.val = o + n.val; omega

/-- A sequence with chunk `k` put, entry by entry. -/
theorem put_chunk (u : Vec Ideal S1024x1536 .f32) (k : ℕ) (v : Vec Ideal S32x1536 .f32) (t : Fin 1024) (d : Fin 1536) :
    VecWindow.put u ![32 * k, 0] S32x1536.size v (ix2 t d)
      = if h : 32 * k ≤ t.val ∧ t.val < 32 * k + 32 then v (ix2 ⟨t.val - 32 * k, by omega⟩ d) else u (ix2 t d) := by
  unfold VecWindow.put
  by_cases e : 32 * k ≤ t.val ∧ t.val < 32 * k + 32
  · have h : ∀ a, (![32 * k, 0] : Fin 2 → ℕ) a ≤ (ix2 t d a).val ∧ (ix2 t d a).val < (![32 * k, 0] : Fin 2 → ℕ) a + S32x1536.size a := by
      intro a
      match a with
      | ⟨0, _⟩ => exact e
      | ⟨1, _⟩ => show 0 ≤ d.val ∧ d.val < 0 + 1536; omega
    rw [dif_pos h, dif_pos e]
    refine congrArg v (funext fun a => Fin.ext ?_)
    match a with
    | ⟨0, _⟩ => rfl
    | ⟨1, _⟩ => rfl
  · rw [dif_neg, dif_neg e]
    intro h
    have h0 := h ⟨0, by decide⟩
    exact e h0

theorem pay5_at (h : FVec Ideal S16x1536 .f32) (a b : Vec Ideal S1x16x1536 .f32) (n : Fin 16) (d : Fin 1536) :
    k0_pay5 h a b (ix2 n d) = a (ix3 0 n d) * h (ix2 n d) + b (ix3 0 n d) := by
  pointwise [k0_pay5]

theorem pay6_at (h : FVec Ideal S16x1536 .f32) (a b : Vec Ideal S1x16x1536 .f32) (n : Fin 16) (d : Fin 1536) :
    k0_pay6 h a b (ix3 0 n d) = a (ix3 0 n d) * h (ix2 n d) + b (ix3 0 n d) := by
  pointwise [k0_pay6, k0_pay5]

/-- After `k` steps inside a chunk: the state is the recurrence's, and the cube's first `k` rows are the states. -/
theorem inner_at (dA dB : Vec Ideal S32x16x1536 .f32) (h0 : FVec Ideal S16x1536 .f32) (n : Fin 16) (d : Fin 1536) :
    ∀ k, k ≤ 32 →
      (inner dA dB h0 k).1 (ix2 n d) = rec1 (h0 (ix2 n d)) (nat fun j => dA (ix3 j n d)) (nat fun j => dB (ix3 j n d)) k
      ∧ ∀ r : Fin 32, (inner dA dB h0 k).2 (ix3 r n d)
          = if r.val < k then rec1 (h0 (ix2 n d)) (nat fun j => dA (ix3 j n d)) (nat fun j => dB (ix3 j n d)) (r.val + 1) else dB (ix3 r n d)
  | 0, _ => ⟨rfl, fun r => by rw [if_neg (Nat.not_lt_zero _)]; rfl⟩
  | k + 1, hk => by
    obtain ⟨ih1, ih2⟩ := inner_at dA dB h0 n d k (Nat.le_of_succ_le hk)
    have hk' : k < 32 := hk
    have e : VecWindow.window (inner dA dB h0 k).2 ![k, 0, 0] S1x16x1536.size (row_inb k hk') (ix3 (n0 := 1) 0 n d) = dB (ix3 ⟨k, hk'⟩ n d) := by
      rw [window_row _ k hk', ih2, if_neg (Nat.lt_irrefl k)]
    have v : rec1 (h0 (ix2 n d)) (nat fun j => dA (ix3 j n d)) (nat fun j => dB (ix3 j n d)) (k + 1)
        = VecWindow.window dA ![k, 0, 0] S1x16x1536.size (row_inb k hk') (ix3 (n0 := 1) 0 n d) * (inner dA dB h0 k).1 (ix2 n d)
          + VecWindow.window (inner dA dB h0 k).2 ![k, 0, 0] S1x16x1536.size (row_inb k hk') (ix3 (n0 := 1) 0 n d) := by
      rw [e, window_row _ k hk', ih1, rec1, nat_lt _ hk', nat_lt _ hk']
    rw [inner_succ dA dB h0 k hk']
    refine ⟨(pay5_at _ _ _ n d).trans v.symm, fun r => ?_⟩
    refine (put_row _ k _ r n d).trans ?_
    by_cases er : r.val = k
    · rw [if_pos er, if_pos (by omega), er]
      exact (pay6_at _ _ _ n d).trans v.symm
    · rw [if_neg er, ih2 r]
      by_cases hr : r.val < k
      · rw [if_pos hr, if_pos (by omega)]
      · rw [if_neg hr, if_neg (by omega)]

theorem chunkA_at (v83 : Vec Ideal S1x16x1536 .f32) (U : Vec Ideal S1024x1536 .f32) (k : ℕ) (hk : k < 32) (r : Fin 32) (n : Fin 16) (d : Fin 1536) :
    chunkA v83 U k hk (ix3 r n d) = Ideal.exp (U (ix2 ⟨32 * k + r.val, by omega⟩ d) * -Ideal.exp (v83 (ix3 0 n d))) := by
  rw [← window_chunk U k hk r d]
  unfold chunkA
  generalize (VecWindow.window U ![32 * k, 0] S32x1536.size (chunk_inb k hk)) = u
  change Vec Ideal S32x1536 .f32 at u
  pointwise [k0_pay2, k0_pay1, k0_pay21]
  simp only [sub_eq_add_neg, zero_add]

theorem chunkB_at (U U2 : Vec Ideal S1024x1536 .f32) (X : Vec Ideal S1024x1x128 .f32) (k : ℕ) (hk : k < 32) (r : Fin 32) (n : Fin 16) (d : Fin 1536) :
    chunkB U U2 X k hk (ix3 r n d) = U (ix2 ⟨32 * k + r.val, by omega⟩ d) * U2 (ix2 ⟨32 * k + r.val, by omega⟩ d)
      * X (ix3 ⟨32 * k + r.val, by omega⟩ 0 ⟨48 + n.val, by omega⟩) := by
  rw [← window_chunk U k hk r d, ← window_chunk U2 k hk r d, ← window_cols X k hk 48 (by omega) r n]
  unfold chunkB
  generalize (VecWindow.window U ![32 * k, 0] S32x1536.size (chunk_inb k hk)) = u
  generalize (VecWindow.window U2 ![32 * k, 0] S32x1536.size (chunk_inb k hk)) = u2
  generalize (VecWindow.window X ![32 * k, 0, 48] S32x1x16.size (cols_inb k hk 48 (by omega))) = x
  change Vec Ideal S32x1536 .f32 at u
  change Vec Ideal S32x1536 .f32 at u2
  change Vec Ideal S32x1x16 .f32 at x
  pointwise [k0_pay4, k0_pay1]

theorem chunkY_at (v83 : Vec Ideal S1x16x1536 .f32) (U U2 : Vec Ideal S1024x1536 .f32) (X : Vec Ideal S1024x1x128 .f32) (h : FVec Ideal S16x1536 .f32)
    (k : ℕ) (hk : k < 32) (r : Fin 32) (d : Fin 1536) :
    chunkY v83 U U2 X h k hk (ix2 r d)
      = ∑ n : Fin 16, (inner (chunkA v83 U k hk) (chunkB U U2 X k hk) h 32).2 (ix3 r n d) * X (ix3 ⟨32 * k + r.val, by omega⟩ 0 ⟨64 + n.val, by omega⟩) := by
  simp only [← window_cols X k hk 64 (by omega) r]
  unfold chunkY
  generalize (VecWindow.window X ![32 * k, 0, 64] S32x1x16.size (cols_inb k hk 64 (by omega))) = x
  change Vec Ideal S32x1x16 .f32 at x
  generalize (inner (chunkA v83 U k hk) (chunkB U U2 X k hk) h 32).2 = c
  pointwise [k0_pay23, k0_pay3]

section

variable {w : Wts} {q : Sq} {v83 : Vec Ideal S1x16x1536 .f32} {U U2 : Vec Ideal S1024x1536 .f32} {X : Vec Ideal S1024x1x128 .f32}

/-- After `k` chunks: the state is the recurrence's after `32 k` steps, the first `32 k` rows are outputs, the rest are
    still the step sizes. -/
theorem outer_at (hv : ∀ d n, v83 (ix3 0 n d) = w.w7 d n) (hU : ∀ t d, U (ix2 t d) = delta w q t d) (hU2 : ∀ t d, U2 (ix2 t d) = act w q t d)
    (hX : ∀ t (e : Fin 80), X (ix3 t 0 (Fin.castLE (by decide) e)) = xd w q t e) (d : Fin 1536) :
    ∀ k, k ≤ 32 →
      (∀ n, (outer v83 U U2 X k).1 (ix2 n d) = state w q d n (32 * k))
      ∧ ∀ t : Fin 1024, (outer v83 U U2 X k).2 (ix2 t d) = if t.val < 32 * k then scanOut w q t d else delta w q t d
  | 0, _ => ⟨fun n => by unfold outer; pointwise [k0_pay22]; rfl, fun t => by rw [if_neg (by omega)]; exact hU t d⟩
  | k + 1, hk => by
    obtain ⟨ih1, ih2⟩ := outer_at hv hU hU2 hX d k (Nat.le_of_succ_le hk)
    have hk' : k < 32 := hk
    rw [outer_succ v83 U U2 X k hk']
    generalize (outer v83 U U2 X k).1 = h at ih1 ⊢
    generalize (outer v83 U U2 X k).2 = Z at ih2 ⊢
    have hZ : ∀ (r : Fin 32), Z (ix2 ⟨32 * k + r.val, by omega⟩ d) = delta w q ⟨32 * k + r.val, by omega⟩ d := fun r => by
      rw [ih2, if_neg (by simp)]
    have hA : ∀ n r, chunkA v83 Z k hk' (ix3 r n d) = dec w q d n ⟨32 * k + r.val, by omega⟩ := fun n r => by
      rw [chunkA_at, hZ, hv]; rfl
    have hB : ∀ n (r : Fin 32), chunkB Z U2 X k hk' (ix3 r n d) = inp w q d n ⟨32 * k + r.val, by omega⟩ := fun n r => by
      have hx : X (ix3 ⟨32 * k + r.val, by omega⟩ 0 ⟨48 + n.val, by omega⟩) = xd w q ⟨32 * k + r.val, by omega⟩ ⟨48 + n.val, by omega⟩ :=
        hX ⟨32 * k + r.val, by omega⟩ ⟨48 + n.val, by omega⟩
      rw [chunkB_at, hZ, hU2, hx]; rfl
    have hI : ∀ n j, j ≤ 32 → rec1 (h (ix2 n d)) (nat fun j => chunkA v83 Z k hk' (ix3 j n d)) (nat fun j => chunkB Z U2 X k hk' (ix3 j n d)) j
        = state w q d n (32 * k + j) := fun n j hj => by
      rw [state, rec1_add]
      refine rec1_congr (ih1 n) j fun i hi => ?_
      have hi' : i < 32 := Nat.lt_of_lt_of_le hi hj
      have hi'' : 32 * k + i < 1024 := by omega
      rw [nat_lt _ hi', nat_lt _ hi', nat_lt _ hi'', nat_lt _ hi'', hA, hB]
      exact ⟨rfl, rfl⟩
    refine ⟨fun n => ?_, fun t => ?_⟩
    · rw [(inner_at _ _ _ n d 32 (Nat.le_refl _)).1, hI n 32 (Nat.le_refl _)]; rfl
    · refine (put_chunk _ k _ t d).trans ?_
      by_cases ht : 32 * k ≤ t.val ∧ t.val < 32 * k + 32
      · rw [dif_pos ht, if_pos (by omega), chunkY_at, scanOut]
        refine Finset.sum_congr rfl fun n _ => ?_
        have et : (⟨32 * k + (t.val - 32 * k), by omega⟩ : Fin 1024) = t := Fin.ext (by show 32 * k + (t.val - 32 * k) = t.val; omega)
        have hx : X (ix3 t 0 ⟨64 + n.val, by omega⟩) = xd w q t ⟨64 + n.val, by omega⟩ := hX t ⟨64 + n.val, by omega⟩
        rw [(inner_at _ _ _ n d 32 (Nat.le_refl _)).2, if_pos (by show t.val - 32 * k < 32; omega), hI n _ (by show t.val - 32 * k + 1 ≤ 32; omega)]
        simp only [et, hx]
        congr 2
        omega
      · rw [dif_neg ht, ih2]
        by_cases h' : t.val < 32 * k
        · rw [if_pos h', if_pos (by omega)]
        · rw [if_neg h', if_neg (by omega)]

end

section

variable {w : Wts} {x1 x2 : Vec Ideal S1x768x1536 .bf16} {x3 : Vec Ideal S1x8x1536 .f32} {x4 : Vec Ideal S1x1x1536 .f32}
    {x5 : Vec Ideal S1x1536x128 .bf16} {x6 : Vec Ideal S1x128x1536 .bf16} {x7 : Vec Ideal S1x1x1536 .f32} {x8 : Vec Ideal S1x16x1536 .f32}
    {x9 : Vec Ideal S1x1x1536 .f32} {x10 : Vec Ideal S1x1536x768 .bf16} {x11 x12 : Vec Ideal S1x1x768 .f32}
    (f : Fits w x1 x2 x3 x4 x5 x6 x7 x8 x9 x10 x11 x12) (hin : Vec Ideal S1x1024x768 .f32)

include f

/-- The scan's output. -/
theorem scan_at (t : Fin 1024) (d : Fin 1536) : scanV x1 x3 x4 x5 x6 x7 x8 hin (ix2 t d) = scanOut w (seqOf hin) t d := by
  unfold scanV
  rw [(outer_at (w := w) (q := seqOf hin) f.h8 (delta_at f hin) (act_at f hin) (proj_lt f hin) d 32 (Nat.le_refl _)).2 t, if_pos (by omega)]

theorem gate_at (t : Fin 1024) (d : Fin 1536) : k0_pay25 (k0_pay9 hin) x2 (ix2 t d) = xg w (seqOf hin) t d := by
  pointwise [k0_pay25, k0_pay9, k0_pay8]
  simp only [f.h2]; rfl

/-- The kernel's layer is the layer of the specification. -/
theorem layer_at (t : Fin 1024) (k : Fin 768) :
    layerV x1 x2 x3 x4 x5 x6 x7 x8 x9 x10 x11 x12 hin (ix3 0 t k) = layer w (seqOf hin) t k := by
  have hs := scan_at f hin t
  have ha := act_at f hin t
  have hg := gate_at f hin t
  unfold layerV
  have hz : ∀ d, k0_pay26 (k0_pay9 hin) x2 (ix2 t d) = Ideal.exp (-(xg w (seqOf hin) t d)) := fun d => by
    rw [← hg d]
    unfold k0_pay26
    generalize k0_pay25 (k0_pay9 hin) x2 = z
    pointwise
    simp only [sub_eq_add_neg, zero_add]
  generalize scanV x1 x3 x4 x5 x6 x7 x8 hin = S at hs
  generalize actV x1 x3 x4 hin = C at ha
  generalize k0_pay25 (k0_pay9 hin) x2 = Z at hg
  generalize k0_pay26 (k0_pay9 hin) x2 = E at hz
  pointwise [k0_pay28, k0_pay24, k0_pay27, k0_pay8]
  simp only [hs, ha, hg, hz, f.h9, f.h10, f.h11, f.h12]
  rfl

end

end Cert.KernelIdeal.Hand

end
-- ==== Proof.Value.Arrays.lean ====
/-
  The kernel's result: what its blocks hold of the arguments, and the four layers of `Cert.Spec` on them.
-/
module

public import proofs.«01_k».proof.Proof.Value.Scan
public import proofs.«01_k».proof.Proof.Ideal.Run
public import Idealize.ShloMosaic.Lib.StableHlo.ReadAt
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Cert.Spec

variable (m : (ℓ : Loc nD τ sig) → Buf (Elt Ideal) ℓ) (c : Dev nD)

/-- The batch in the first argument. -/
def seqs : Fin 2 → Sq := fun b t k => (m ((c.tc : Thread nD τ).loc main_arg0) : Vec Ideal S2x1024x768 .f32) (ix3 b t k)

/-- The layers' weights in the other arguments. -/
def wts (l : Fin 4) : Wts where
  w1 e k := (m ((c.tc : Thread nD τ).loc main_arg1) : Vec Ideal S4x3072x768 .f32) (ix3 l e k)
  w2 d j := (m ((c.tc : Thread nD τ).loc main_arg2) : Vec Ideal S4x1536x4 .f32) (ix3 l d j)
  w3 d := (m ((c.tc : Thread nD τ).loc main_arg3) : Vec Ideal S4x1536 .f32) (ix2 l d)
  w4 e d := (m ((c.tc : Thread nD τ).loc main_arg4) : Vec Ideal S4x80x1536 .f32) (ix3 l e d)
  w5 d r := (m ((c.tc : Thread nD τ).loc main_arg5) : Vec Ideal S4x1536x48 .f32) (ix3 l d r)
  w6 d := (m ((c.tc : Thread nD τ).loc main_arg6) : Vec Ideal S4x1536 .f32) (ix2 l d)
  w7 d n := (m ((c.tc : Thread nD τ).loc main_arg7) : Vec Ideal S4x1536x16 .f32) (ix3 l d n)
  w8 d := (m ((c.tc : Thread nD τ).loc main_arg8) : Vec Ideal S4x1536 .f32) (ix2 l d)
  w9 k d := (m ((c.tc : Thread nD τ).loc main_arg9) : Vec Ideal S4x768x1536 .f32) (ix3 l k d)
  w10 k := (m ((c.tc : Thread nD τ).loc main_arg10) : Vec Ideal S4x768 .f32) (ix2 l k)
  w11 k := (m ((c.tc : Thread nD τ).loc main_arg11) : Vec Ideal S4x768 .f32) (ix2 l k)

/-- The layer of a point. -/
def lay (t : Fin cfg0.N) : Fin 4 := ⟨t.val % 4, Nat.mod_lt _ (by decide)⟩

/-- Every window's block index at a point. -/
theorem at0 : ∀ t : Fin cfg0.N, win0_0.index t = ![t.val / 4, 0, 0] := (by decide +kernel : ∀ t : Fin grid0.N, _)
theorem at13 : ∀ t : Fin cfg0.N, win0_13.index t = ![t.val / 4, 0, 0] := (by decide +kernel : ∀ t : Fin grid0.N, _)
theorem atW : ∀ t : Fin cfg0.N, win0_1.index t = ![t.val % 4, 0, 0] ∧ win0_2.index t = ![t.val % 4, 0, 0] ∧ win0_3.index t = ![t.val % 4, 0, 0]
    ∧ win0_4.index t = ![t.val % 4, 0, 0] ∧ win0_5.index t = ![t.val % 4, 0, 0] ∧ win0_6.index t = ![t.val % 4, 0, 0]
    ∧ win0_7.index t = ![t.val % 4, 0, 0] ∧ win0_8.index t = ![t.val % 4, 0, 0] ∧ win0_9.index t = ![t.val % 4, 0, 0]
    ∧ win0_10.index t = ![t.val % 4, 0, 0] ∧ win0_11.index t = ![t.val % 4, 0, 0] ∧ win0_12.index t = ![t.val % 4, 0, 0] :=
  (by decide +kernel : ∀ t : Fin grid0.N, _)

/-- The integer zero, converted. -/
theorem zero_conv : (FloatOps.sitofp FTy.f32 (0#32 : BitVec 32) : Ideal .f32) = (0 : EReal) := by
  show (((0#32 : BitVec 32).toInt : ℝ) : EReal) = 0
  simp

/-- A window's block at a point, over its array. -/
theorem emb1 (t : Fin cfg0.N) (k : Fin 768) (d : Fin 1536) : (win0_1.blk t).view.emb (ix3 0 k d) = ix3 (lay t) k d := by
  unfold lay; blk_ext [(atW t).1]
theorem emb2 (t : Fin cfg0.N) (k : Fin 768) (d : Fin 1536) : (win0_2.blk t).view.emb (ix3 0 k d) = ix3 (lay t) k d := by
  unfold lay; blk_ext [(atW t).2.1]
theorem emb3 (t : Fin cfg0.N) (j : Fin 8) (d : Fin 1536) : (win0_3.blk t).view.emb (ix3 0 j d) = ix3 (lay t) j d := by
  unfold lay; blk_ext [(atW t).2.2.1]
theorem emb4 (t : Fin cfg0.N) (d : Fin 1536) : (win0_4.blk t).view.emb (ix3 0 0 d) = ix3 (lay t) 0 d := by
  unfold lay; blk_ext [(atW t).2.2.2.1]
theorem emb5 (t : Fin cfg0.N) (d : Fin 1536) (e : Fin 128) : (win0_5.blk t).view.emb (ix3 0 d e) = ix3 (lay t) d e := by
  unfold lay; blk_ext [(atW t).2.2.2.2.1]
theorem emb6 (t : Fin cfg0.N) (e : Fin 128) (d : Fin 1536) : (win0_6.blk t).view.emb (ix3 0 e d) = ix3 (lay t) e d := by
  unfold lay; blk_ext [(atW t).2.2.2.2.2.1]
theorem emb7 (t : Fin cfg0.N) (d : Fin 1536) : (win0_7.blk t).view.emb (ix3 0 0 d) = ix3 (lay t) 0 d := by
  unfold lay; blk_ext [(atW t).2.2.2.2.2.2.1]
theorem emb8 (t : Fin cfg0.N) (n : Fin 16) (d : Fin 1536) : (win0_8.blk t).view.emb (ix3 0 n d) = ix3 (lay t) n d := by
  unfold lay; blk_ext [(atW t).2.2.2.2.2.2.2.1]
theorem emb9 (t : Fin cfg0.N) (d : Fin 1536) : (win0_9.blk t).view.emb (ix3 0 0 d) = ix3 (lay t) 0 d := by
  unfold lay; blk_ext [(atW t).2.2.2.2.2.2.2.2.1]
theorem emb10 (t : Fin cfg0.N) (d : Fin 1536) (k : Fin 768) : (win0_10.blk t).view.emb (ix3 0 d k) = ix3 (lay t) d k := by
  unfold lay; blk_ext [(atW t).2.2.2.2.2.2.2.2.2.1]
theorem emb11 (t : Fin cfg0.N) (k : Fin 768) : (win0_11.blk t).view.emb (ix3 0 0 k) = ix3 (lay t) 0 k := by
  unfold lay; blk_ext [(atW t).2.2.2.2.2.2.2.2.2.2.1]
theorem emb12 (t : Fin cfg0.N) (k : Fin 768) : (win0_12.blk t).view.emb (ix3 0 0 k) = ix3 (lay t) 0 k := by
  unfold lay; blk_ext [(atW t).2.2.2.2.2.2.2.2.2.2.2]

set_option maxHeartbeats 4000000 in
/-- The blocks at a point hold its layer's weights. -/
theorem fits (t : Fin cfg0.N) : Fits (wts m c (lay t)) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) where
  h1 k d := by blk_simp [iblk]; rw [emb1]; unfold V; after_reads_at; rfl
  h2 k d := by blk_simp [iblk]; rw [emb2]; unfold V; after_reads_at; rfl
  h30 d := by blk_simp [iblk]; rw [emb3]; unfold V; after_reads_at; rfl
  h31 d := by blk_simp [iblk]; rw [emb3]; unfold V; after_reads_at; rfl
  h32 d := by blk_simp [iblk]; rw [emb3]; unfold V; after_reads_at; rfl
  h33 d := by blk_simp [iblk]; rw [emb3]; unfold V; after_reads_at; rfl
  h4 d := by blk_simp [iblk]; rw [emb4]; unfold V; after_reads_at; rfl
  h5 d e := by blk_simp [iblk]; rw [emb5]; unfold V; after_reads_at; exact (dif_pos e.isLt).trans rfl
  h6 d r := by blk_simp [iblk]; rw [emb6]; unfold V; after_reads_at; exact (dif_pos r.isLt).trans rfl
  h60 d r := by blk_simp [iblk]; rw [emb6]; unfold V; after_reads_at; exact zero_conv
  h7 d := by blk_simp [iblk]; rw [emb7]; unfold V; after_reads_at; rfl
  h8 d n := by blk_simp [iblk]; rw [emb8]; unfold V; after_reads_at; rfl
  h9 d := by blk_simp [iblk]; rw [emb9]; unfold V; after_reads_at; rfl
  h10 k d := by blk_simp [iblk]; rw [emb10]; unfold V; after_reads_at; rfl
  h11 k := by blk_simp [iblk]; rw [emb11]; unfold V; after_reads_at; rfl
  h12 k := by blk_simp [iblk]; rw [emb12]; unfold V; after_reads_at; rfl

/-- The batch's sequence at a point. -/
def bat (t : Fin cfg0.N) : Fin 2 := ⟨t.val / 4, by have := Nat.lt_of_lt_of_eq t.isLt N_0; omega⟩

theorem emb0 (t : Fin cfg0.N) (s : Fin 1024) (k : Fin 768) : (win0_0.blk t).view.emb (ix3 0 s k) = ix3 (bat t) s k := by
  unfold bat; blk_ext [at0 t]
theorem emb13 (t : Fin cfg0.N) (s : Fin 1024) (k : Fin 768) : (win0_13.blk t).view.emb (ix3 0 s k) = ix3 (bat t) s k := by
  unfold bat; blk_ext [at13 t]

/-- The input block. -/
theorem start (t : Fin cfg0.N) : seqOf (k0_pay7 (iblk m c 0 t)) = seqs m c (bat t) := by
  funext s k
  unfold seqOf
  generalize hv : iblk m c 0 t = v
  show k0_pay7 v (ix3 0 s k) = _
  pointwise [k0_pay7]
  subst hv
  blk_simp [iblk]; rw [emb0]; unfold V; after_reads_at; rfl

/-- One point. -/
theorem step (t : Fin cfg0.N) (hin : Vec Ideal S1x1024x768 .f32) : seqOf (stepAt m c t hin) = layer (wts m c (lay t)) (seqOf hin) := by
  funext s k
  exact layer_at (fits m c t) hin s k

/-- After a group's four points the block holds the four layers of its sequence. -/
theorem done (t : Fin cfg0.N) (h : t.val % 4 = 3) : seqOf (held m c t.val t.isLt) = enc (wts m c) (seqs m c) (bat t) := by
  have h3 := t.isLt
  have e3 := held_later m c t (by omega)
  have e2 := held_later m c ⟨t.val - 1, by omega⟩ (by show ¬(t.val - 1) % 4 = 0; omega)
  have e1 := held_later m c ⟨t.val - 1 - 1, by omega⟩ (by show ¬(t.val - 1 - 1) % 4 = 0; omega)
  have e0 := held_first m c ⟨t.val - 1 - 1 - 1, by omega⟩ (by show (t.val - 1 - 1 - 1) % 4 = 0; omega)
  have l3 : lay t = 3 := Fin.ext h
  have l2 : lay ⟨t.val - 1, by omega⟩ = 2 := Fin.ext (by show (t.val - 1) % 4 = 2; omega)
  have l1 : lay ⟨t.val - 1 - 1, by omega⟩ = 1 := Fin.ext (by show (t.val - 1 - 1) % 4 = 1; omega)
  have l0 : lay ⟨t.val - 1 - 1 - 1, by omega⟩ = 0 := Fin.ext (by show (t.val - 1 - 1 - 1) % 4 = 0; omega)
  have b0 : bat ⟨t.val - 1 - 1 - 1, by omega⟩ = bat t := Fin.ext (by show (t.val - 1 - 1 - 1) / 4 = t.val / 4; omega)
  rw [e3, step, e2, step, e1, step, e0, step, start, l3, l2, l1, l0, b0]
  rfl

/-- The result. -/
def result : Vec Ideal S2x1024x768 .f32 := fun i => enc (wts m c) (seqs m c) (i 0) (i 1) (i 2)

theorem final : (data m 0 c).arrAt 13 cfg0.N = result m c := by
  refine (data m 0 c).arrAt_eq_of_covers 13 _ (by decide +kernel) fun t hf y => ?_
  rw [aft13]
  blk_simp
  have ht : t.val % 4 = 3 := (flush0_13 t).1 hf
  have h : ∀ (z : Fin 1) (s : Fin 1024) (k : Fin 768), held m c t.val t.isLt (ix3 z s k) = result m c ((win0_13.blk t).view.emb (ix3 z s k)) := by
    intro z s k
    rw [Subsingleton.elim z 0, emb13]
    exact congrFun (congrFun (done m c t ht) s) k
  have hy : ∀ j : S1x1024x768.Idx, held m c t.val t.isLt j = result m c ((win0_13.blk t).view.emb j) := fun j => by
    have e := h (j 0) (j 1) (j 2)
    rwa [ix3_eta] at e
  exact hy y

end Cert.KernelIdeal.Hand

end
-- ==== Proof.Value.RefPre.lean ====
/-
  The reference's layer before its loop, entry by entry: the convolution, the step sizes, the decays and inputs of the
  recurrence are the layer's of `Cert.Spec`.
-/
module

public import proofs.«01_k».proof.Proof.Ref.Run
public import proofs.«01_k».proof.Proof.Value.Spec

@[expose] public section

set_option maxRecDepth 16384

noncomputable section

namespace Cert.ReferenceIdeal.Hand

open Idealize.ShloMosaic Idealize.ShloMosaic.StableHlo Idealize.ShloMosaic.TcCoe Idealize.ShloMosaic.Tactic
open Cert.Host Cert.ReferenceIdeal Cert.ReferenceIdeal.Facts₀ Cert.Spec

variable [Facts]

/-- Contents where a layer's input is the sequences `x` and its weights are `w`. -/
structure Reads (A : Args) (w : Wts) (x : Fin 2 → Sq) (V : Valuation τ sig (Elt Ideal)) : Prop where
  hx : ∀ b t k, rd V A.x (ix3 b t k) = x b t k
  h1 : ∀ e k, rd V A.w1 (ix2 e k) = w.w1 e k
  h2 : ∀ d j, rd V A.w2 (ix2 d j) = w.w2 d j
  h3 : ∀ d, rd V A.w3 (ix1 d) = w.w3 d
  h4 : ∀ e d, rd V A.w4 (ix2 e d) = w.w4 e d
  h5 : ∀ d r, rd V A.w5 (ix2 d r) = w.w5 d r
  h6 : ∀ d, rd V A.w6 (ix1 d) = w.w6 d
  h7 : ∀ d n, rd V A.w7 (ix2 d n) = w.w7 d n
  h8 : ∀ d, rd V A.w8 (ix1 d) = w.w8 d
  h9 : ∀ k d, rd V A.w9 (ix2 k d) = w.w9 k d
  h10 : ∀ k, rd V A.w10 (ix1 k) = w.w10 k
  h11 : ∀ k, rd V A.w11 (ix1 k) = w.w11 k

/-- The part of that which the lines after the loop read. -/
structure Late (A : Args) (w : Wts) (x : Fin 2 → Sq) (V : Valuation τ sig (Elt Ideal)) : Prop where
  hx : ∀ b t k, rd V A.x (ix3 b t k) = x b t k
  h8 : ∀ d, rd V A.w8 (ix1 d) = w.w8 d
  h9 : ∀ k d, rd V A.w9 (ix2 k d) = w.w9 k d
  h10 : ∀ k, rd V A.w10 (ix1 k) = w.w10 k
  h11 : ∀ k, rd V A.w11 (ix1 k) = w.w11 k

/-- The integer zero, converted. -/
theorem zero_conv : (FloatOps.sitofp FTy.f32 (0#32 : BitVec 32) : Ideal .f32) = (0 : EReal) := by
  show (((0#32 : BitVec 32).toInt : ℝ) : EReal) = 0
  simp

/-- A tap of the convolution, padded on the left by three zeros: the sequence some places later. -/
theorem tap (f : Fin 1024 → EReal) (t : Fin 1024) (a s : ℕ) (ha : a + s = t.val + 3) (z : EReal) (hz : z = 0) :
    (if h : 3 ≤ a ∧ a - 3 < 1024 then f ⟨a - 3, h.2⟩ else z) = late f s t := by
  have := t.isLt
  unfold late
  by_cases h : t.val < s
  · rw [if_pos h, dif_neg (by omega), hz]
  · rw [if_neg h, dif_pos (by omega)]
    congr 2; omega

section

variable {A : Args} {φ : fn_layer.Bufs} {w : Wts} {x : Fin 2 → Sq} {X : Valuation τ sig (Elt Ideal)}

theorem in_at (h : holdsAll (inL A φ) X) (r : Reads A w x X) (b : Fin 2) (t : Fin 1024) (d : Fin 1536) :
    rd X φ.v1 (ix3 b t d) = xu w (x b) t d ∧ rd X φ.v2 (ix3 b t d) = xg w (x b) t d := by
  simp only [holdsAll, inL, un_holds, nul_holds, bin_holds, and_true] at h
  obtain ⟨h0, h1, h2, -⟩ := h
  constructor
  · rw [h1, h0]
    pointwise
    simp only [r.hx, r.h1]
    rfl
  · rw [h2, h0]
    pointwise
    simp only [r.hx, r.h1]
    rfl

theorem conv_at (h : holdsAll (inL A φ) X) (hp : holdsAll (padL φ.v1 φ.c φ.call0) X) (hc : holdsAll (convL A φ) X)
    (r : Reads A w x X) (b : Fin 2) (t : Fin 1024) (d : Fin 1536) :
    rd X φ.v35 (ix3 b t d) = late (xu w (x b) · d) 3 t * w.w2 d 0 + late (xu w (x b) · d) 2 t * w.w2 d 1
      + late (xu w (x b) · d) 1 t * w.w2 d 2 + xu w (x b) t d * w.w2 d 3 + w.w3 d := by
  have hin := fun t d => (in_at h r b t d).1
  have hc0 : rd X φ.c = constantI S_ 32 0#32 := h.2.2.2.1
  simp only [holdsAll, padL, convL, un_holds, nul_holds, bin_holds, res_holds, and_true] at hp hc
  simp only [hp, hc, hc0]
  pointwise
  simp only [hin, r.h2, r.h3]
  exact congrArg₂ (· + ·) (congrArg₂ (· + ·) (congrArg₂ (· + ·) (congrArg₂ (· + ·)
    (congrArg (· * w.w2 d 0) (tap (xu w (x b) · d) t t.val 3 (by omega) _ zero_conv))
    (congrArg (· * w.w2 d 1) (tap (xu w (x b) · d) t (1 + t.val) 2 (by omega) _ zero_conv)))
    (congrArg (· * w.w2 d 2) (tap (xu w (x b) · d) t (2 + t.val) 1 (by omega) _ zero_conv))) rfl) rfl

theorem silu_at {a : TRef sig ⟨S2x1024x1536, .f32⟩} {ψ : fn_silu.Bufs} (h : holdsAll (siluL a ψ) X) (b : Fin 2) (t : Fin 1024) (d : Fin 1536) :
    rd X ψ.v6 (ix3 b t d) = silu (rd X a (ix3 b t d)) := by
  simp only [holdsAll, siluL, un_holds, nul_holds, bin_holds, and_true] at h
  simp only [h]
  pointwise
  rfl

theorem soft_at {a : TRef sig ⟨S2x1024x1536, .f32⟩} {ψ : fn_softplus.Bufs} (h : holdsAll (softL a ψ) X) (b : Fin 2) (t : Fin 1024) (d : Fin 1536) :
    rd X ψ.v12 (ix3 b t d) = soft (rd X a (ix3 b t d)) := by
  simp only [holdsAll, softL, un_holds, nul_holds, bin_holds, ter_holds, and_true] at h
  simp only [h]
  pointwise
  rw [if_neg (fun h => h rfl)]
  rfl

theorem proj_at (h : holdsAll (projL A φ) X) (r : Reads A w x X) (b : Fin 2)
    (ha : ∀ t d, rd X φ.call1.v6 (ix3 b t d) = act w (x b) t d) (t : Fin 1024) :
    (∀ n : Fin 16, rd X φ.v39 (ix3 b t n) = xd w (x b) t ⟨48 + n.val, by omega⟩)
      ∧ (∀ n : Fin 16, rd X φ.v40 (ix3 b t n) = xd w (x b) t ⟨64 + n.val, by omega⟩)
      ∧ ∀ d, rd X φ.v44 (ix3 b t d) = ∑ r : Fin 48, xd w (x b) t (Fin.castLE (by decide) r) * w.w5 d r + w.w6 d := by
  simp only [holdsAll, projL, un_holds, nul_holds, bin_holds, and_true] at h
  simp only [h]
  refine ⟨fun n => ?_, fun n => ?_, fun d => ?_⟩
  · pointwise
    simp only [ha, r.h4]
    rfl
  · pointwise
    simp only [ha, r.h4]
    rfl
  · pointwise
    simp only [ha, r.h4, r.h5, r.h6]
    rfl

theorem scan_at (h : holdsAll (scanL A φ) X) (r : Reads A w x X) (b : Fin 2)
    (ha : ∀ t d, rd X φ.call1.v6 (ix3 b t d) = act w (x b) t d)
    (hd : ∀ t d, rd X φ.call2.v12 (ix3 b t d) = delta w (x b) t d)
    (hB : ∀ t (n : Fin 16), rd X φ.v39 (ix3 b t n) = xd w (x b) t ⟨48 + n.val, by omega⟩)
    (hC : ∀ t (n : Fin 16), rd X φ.v40 (ix3 b t n) = xd w (x b) t ⟨64 + n.val, by omega⟩) :
    (∀ t d n, rd X φ.v61 (ix4 t b d n) = dec w (x b) d n t) ∧ (∀ t d n, rd X φ.v62 (ix4 t b d n) = inp w (x b) d n t)
      ∧ (∀ t (n : Fin 16), rd X φ.v63 (ix3 t b n) = xd w (x b) t ⟨64 + n.val, by omega⟩)
      ∧ (∀ d n, rd X φ.v60 (ix3 b d n) = (0 : EReal)) := by
  simp only [holdsAll, scanL, un_holds, nul_holds, bin_holds, and_true] at h
  simp only [h]
  refine ⟨fun t d n => ?_, fun t d n => ?_, fun t n => ?_, fun d n => ?_⟩
  · pointwise
    simp only [hd, r.h7]
    rfl
  · pointwise
    simp only [ha, hd, hB]
    rfl
  · pointwise
    exact hC t n
  · pointwise

/-- What the loop finds: the decays, the inputs, the output weights, a zero state; and what the lines after it read. -/
theorem pre_at (h : holdsAll (preL A φ) X) (r : Reads A w x X) (b : Fin 2) :
    (∀ t d n, rd X φ.v65_0 (ix4 t b d n) = dec w (x b) d n t) ∧ (∀ t d n, rd X φ.v65_1 (ix4 t b d n) = inp w (x b) d n t)
      ∧ (∀ t (n : Fin 16), rd X φ.v65_2 (ix3 t b n) = xd w (x b) t ⟨64 + n.val, by omega⟩)
      ∧ (∀ d n, rd X φ.v65_4 (ix3 b d n) = (0 : EReal))
      ∧ (∀ t d, rd X φ.v2 (ix3 b t d) = xg w (x b) t d) ∧ (∀ t d, rd X φ.call1.v6 (ix3 b t d) = act w (x b) t d) := by
  simp only [preL, holdsAll_append] at h
  obtain ⟨hi, hp, hc, hs, hj, ho, hn, he⟩ := h
  have ha : ∀ t d, rd X φ.call1.v6 (ix3 b t d) = act w (x b) t d := fun t d => by
    rw [silu_at hs, conv_at hi hp hc r]
    unfold act
    congr 1
    abel
  have hP := proj_at hj r b ha
  have hd : ∀ t d, rd X φ.call2.v12 (ix3 b t d) = delta w (x b) t d := fun t d => by
    rw [soft_at ho, (hP t).2.2 d]; rfl
  obtain ⟨s0, s1, s2, s4⟩ := scan_at hn r b ha hd (fun t n => (hP t).1 n) (fun t n => (hP t).2.1 n)
  simp only [holdsAll, enterL, un_holds, and_true, id] at he
  exact ⟨fun t d n => by rw [he.1]; exact s0 t d n, fun t d n => by rw [he.2.1]; exact s1 t d n,
    fun t n => by rw [he.2.2.1]; exact s2 t n, fun d n => by rw [he.2.2.2.2.1]; exact s4 d n,
    fun t d => (in_at hi r b t d).2, ha⟩

/-- The lines after the loop, from the scanned outputs. -/
theorem post_at (h : holdsAll (postL A φ) X) (r : Late A w x X) (b : Fin 2)
    (hy : ∀ t d, rd X φ.v65_5 (ix3 t b d) = scanOut w (x b) t d)
    (hg : ∀ t d, rd X φ.v2 (ix3 b t d) = xg w (x b) t d) (ha : ∀ t d, rd X φ.call1.v6 (ix3 b t d) = act w (x b) t d)
    (t : Fin 1024) (k : Fin 768) : rd X φ.v98 (ix3 b t k) = layer w (x b) t k := by
  simp only [postL, holdsAll_append] at h
  obtain ⟨hs, hl, ho, hn⟩ := h
  have hv : ∀ d, rd X φ.v70 (ix3 b t d) = scanOut w (x b) t d + act w (x b) t d * w.w8 d := fun d => by
    simp only [holdsAll, skipL, un_holds, bin_holds, and_true] at hs
    simp only [hs]
    pointwise
    simp only [hy, ha, r.h8]
  have hz : ∀ d, rd X φ.call7.v6 (ix3 b t d) = silu (xg w (x b) t d) := fun d => by rw [silu_at hl, hg]
  have hr : ∀ k, rd X φ.v74 (ix3 b t k) = res w (x b) t k := fun k => by
    simp only [holdsAll, outL, bin_holds, and_true] at ho
    simp only [ho]
    pointwise
    simp only [hv, hz, r.hx, r.h9]
    exact add_comm _ _
  simp only [holdsAll, normL, un_holds, nul_holds, bin_holds, and_true] at hn
  simp only [hn]
  pointwise
  simp only [hr, r.h10, r.h11]
  rfl

end

end Cert.ReferenceIdeal.Hand

end
-- ==== Proof.Value.RefTrip.lean ====
/-
  One trip of the reference's loop, entry by entry: it reads row `k` of the decays, the inputs and the output weights,
  steps the state, and writes row `k` of the outputs.
-/
module

public import proofs.«01_k».proof.Proof.Ref.Run
public import Idealize.ShloMosaic.Lib.Pointwise

@[expose] public section

set_option maxRecDepth 16384

noncomputable section

namespace Cert.ReferenceIdeal.Hand

open Idealize.ShloMosaic Idealize.ShloMosaic.StableHlo Idealize.ShloMosaic.TcCoe Idealize.ShloMosaic.Tactic
open Cert.Host Cert.ReferenceIdeal Cert.ReferenceIdeal.Facts₀

variable [Facts] {φ : fn_layer.Bufs} {X : Valuation τ sig (Elt Ideal)}

/-- The counter as an index. -/
theorem iv_toInt (k : ℕ) (hk : k < 1024) : (Scf.iv (0#32 : BitVec 32) 1#32 k).toInt = (k : ℤ) := by
  rw [Scf.iv, BitVec.zero_add, BitVec.mul_one, BitVec.toInt, BitVec.toNat_ofNat]
  omega

/-- A start that fits is not moved. -/
theorem start_eq {s t : Shape} (h : t.rank = s.rank) (st : Fin s.rank → ℤ) (a : Fin s.rank) (k : ℕ) (hk : st a = (k : ℤ))
    (hf : k + t.size (a.cast h.symm) ≤ s.size a) : Host.clampedStart s t h st a = k := by
  unfold Host.clampedStart
  rw [hk]
  omega

/-- A row read. -/
theorem row_at {a : TRef sig ⟨S1024x2x1536x16, .f32⟩} {i : TRef sig ⟨S_, .i32⟩} {ψ : fn_dynamic_index_in_dim.Bufs}
    (h : holdsAll (rowL a i ψ) X) (k : ℕ) (hk : k < 1024) (hi : rd X i = fun _ => Scf.iv (0#32 : BitVec 32) 1#32 k)
    (b : Fin 2) (d : Fin 1536) (n : Fin 16) : rd X ψ.v1 (ix3 b d n) = rd X a (ix4 ⟨k, hk⟩ b d n) := by
  simp only [holdsAll, rowL, unIx_holds, nul_holds, res_holds, and_true] at h
  obtain ⟨hc, hc0, hc1, hv, hw⟩ := h
  rw [hw, hv]
  pointwise
  generalize hst : (fun j => BitVec.toInt (rd X (![i, ψ.c, ψ.c_0, ψ.c_1] j) (Shape.Idx.first h_S_))) = st
  have e0 : st 0 = ((k : ℕ) : ℤ) := by rw [← hst]; show BitVec.toInt (rd X i _) = _; rw [hi]; exact iv_toInt k hk
  have e1 : st 1 = ((0 : ℕ) : ℤ) := by rw [← hst]; show BitVec.toInt (rd X ψ.c _) = _; rw [hc]; rfl
  have e2 : st 2 = ((0 : ℕ) : ℤ) := by rw [← hst]; show BitVec.toInt (rd X ψ.c_0 _) = _; rw [hc0]; rfl
  have e3 : st 3 = ((0 : ℕ) : ℤ) := by rw [← hst]; show BitVec.toInt (rd X ψ.c_1 _) = _; rw [hc1]; rfl
  have c0 := start_eq (s := S1024x2x1536x16) (t := S1x2x1536x16) rfl st 0 k e0 (by show k + 1 ≤ 1024; omega)
  have c1 := start_eq (s := S1024x2x1536x16) (t := S1x2x1536x16) rfl st 1 0 e1 (by decide)
  have c2 := start_eq (s := S1024x2x1536x16) (t := S1x2x1536x16) rfl st 2 0 e2 (by decide)
  have c3 := start_eq (s := S1024x2x1536x16) (t := S1x2x1536x16) rfl st 3 0 e3 (by decide)
  simp only [c0, c1, c2, c3, Nat.zero_add]

/-- A row of the output weights read. -/
theorem rowC_at {a : TRef sig ⟨S1024x2x16, .f32⟩} {i : TRef sig ⟨S_, .i32⟩} {ψ : fn_dynamic_index_in_dim_0.Bufs}
    (h : holdsAll (rowCL a i ψ) X) (k : ℕ) (hk : k < 1024) (hi : rd X i = fun _ => Scf.iv (0#32 : BitVec 32) 1#32 k)
    (b : Fin 2) (n : Fin 16) : rd X ψ.v1 (ix2 b n) = rd X a (ix3 ⟨k, hk⟩ b n) := by
  simp only [holdsAll, rowCL, unIx_holds, nul_holds, res_holds, and_true] at h
  obtain ⟨hc, hc0, hv, hw⟩ := h
  rw [hw, hv]
  pointwise
  generalize hst : (fun j => BitVec.toInt (rd X (![i, ψ.c, ψ.c_0] j) (Shape.Idx.first h_S_))) = st
  have e0 : st 0 = ((k : ℕ) : ℤ) := by rw [← hst]; show BitVec.toInt (rd X i _) = _; rw [hi]; exact iv_toInt k hk
  have e1 : st 1 = ((0 : ℕ) : ℤ) := by rw [← hst]; show BitVec.toInt (rd X ψ.c _) = _; rw [hc]; rfl
  have e2 : st 2 = ((0 : ℕ) : ℤ) := by rw [← hst]; show BitVec.toInt (rd X ψ.c_0 _) = _; rw [hc0]; rfl
  have c0 := start_eq (s := S1024x2x16) (t := S1x2x16) rfl st 0 k e0 (by show k + 1 ≤ 1024; omega)
  have c1 := start_eq (s := S1024x2x16) (t := S1x2x16) rfl st 1 0 e1 (by decide)
  have c2 := start_eq (s := S1024x2x16) (t := S1x2x16) rfl st 2 0 e2 (by decide)
  simp only [c0, c1, c2, Nat.zero_add]

/-- A row written. -/
theorem put_at {a : TRef sig ⟨S1024x2x1536, .f32⟩} {u : TRef sig ⟨S2x1536, .f32⟩} {i : TRef sig ⟨S_, .i32⟩} {ψ : fn_dynamic_update_index_in_dim.Bufs}
    (h : holdsAll (putL a u i ψ) X) (k : ℕ) (hk : k < 1024) (hi : rd X i = fun _ => Scf.iv (0#32 : BitVec 32) 1#32 k)
    (t : Fin 1024) (b : Fin 2) (d : Fin 1536) :
    rd X ψ.v1 (ix3 t b d) = (if t.val = k then rd X u (ix2 b d) else rd X a (ix3 t b d) : EReal) := by
  simp only [holdsAll, putL, un_holds, binIx_holds, nul_holds, and_true] at h
  obtain ⟨hv, hc, hc0, hw⟩ := h
  rw [hw, hv]
  pointwise
  generalize hst : (fun j => BitVec.toInt (rd X (![i, ψ.c, ψ.c_0] j) (Shape.Idx.first h_S_))) = st
  have e0 : st 0 = ((k : ℕ) : ℤ) := by rw [← hst]; show BitVec.toInt (rd X i _) = _; rw [hi]; exact iv_toInt k hk
  have e1 : st 1 = ((0 : ℕ) : ℤ) := by rw [← hst]; show BitVec.toInt (rd X ψ.c _) = _; rw [hc]; rfl
  have e2 : st 2 = ((0 : ℕ) : ℤ) := by rw [← hst]; show BitVec.toInt (rd X ψ.c_0 _) = _; rw [hc0]; rfl
  have c0 := start_eq (s := S1024x2x1536) (t := S1x2x1536) rfl st 0 k e0 (by show k + 1 ≤ 1024; omega)
  have c1 := start_eq (s := S1024x2x1536) (t := S1x2x1536) rfl st 1 0 e1 (by decide)
  have c2 := start_eq (s := S1024x2x1536) (t := S1x2x1536) rfl st 2 0 e2 (by decide)
  simp only [c0, c1, c2, Nat.sub_zero]
  by_cases ht : t.val = k
  · rw [if_pos ht, dif_pos (by omega)]
  · rw [if_neg ht, dif_neg (by omega)]

/-- The step of the state and of the output. -/
theorem step_at (h : holdsAll (stepL φ) X) (b : Fin 2) (d : Fin 1536) (n : Fin 16) :
    rd X φ.while0b_v103 (ix3 b d n) = rd X φ.while0b_call3.v1 (ix3 b d n) * rd X φ.v65_4 (ix3 b d n) + rd X φ.while0b_call4.v1 (ix3 b d n)
     ∧ rd X φ.while0b_v104 (ix2 b d) = (∑ n, rd X φ.while0b_v103 (ix3 b d n) * rd X φ.while0b_call5.v1 (ix2 b n) : EReal) := by
  simp only [holdsAll, stepL, bin_holds, and_true] at h
  constructor
  · rw [h.2.1, h.1]; pointwise
  · rw [h.2.2]; pointwise

end Cert.ReferenceIdeal.Hand

end
-- ==== Proof.Value.RefLayer.lean ====
/-
  One layer of the reference is the layer of `Cert.Spec`: the loop's invariant, and the lines around the loop.
-/
module

public import proofs.«01_k».proof.Proof.Ref.Final
public import proofs.«01_k».proof.Proof.Value.RefPre
public import proofs.«01_k».proof.Proof.Value.RefTrip

@[expose] public section

set_option maxRecDepth 16384

noncomputable section

namespace Cert.ReferenceIdeal.Hand

open Idealize.ShloMosaic Idealize.ShloMosaic.StableHlo Idealize.ShloMosaic.TcCoe Idealize.ShloMosaic.Tactic
open Cert.Host Cert.ReferenceIdeal Cert.ReferenceIdeal.Facts₀ Cert.Spec

variable [Facts] {A : Args} {φ : fn_layer.Bufs} {w : Wts} {x : Fin 2 → Sq} {V : Valuation τ sig (Elt Ideal)}

/-- The lines before the loop leave the layer's inputs. -/
theorem Reads.pre (g : Good Ideal A φ) (r : Reads A w x V) : Reads A w x (after (ops (preL A φ)) V) where
  hx := by rw [rd_of_all g.preKeeps A.x (by simp [inputs])]; exact r.hx
  h1 := by rw [rd_of_all g.preKeeps A.w1 (by simp [inputs])]; exact r.h1
  h2 := by rw [rd_of_all g.preKeeps A.w2 (by simp [inputs])]; exact r.h2
  h3 := by rw [rd_of_all g.preKeeps A.w3 (by simp [inputs])]; exact r.h3
  h4 := by rw [rd_of_all g.preKeeps A.w4 (by simp [inputs])]; exact r.h4
  h5 := by rw [rd_of_all g.preKeeps A.w5 (by simp [inputs])]; exact r.h5
  h6 := by rw [rd_of_all g.preKeeps A.w6 (by simp [inputs])]; exact r.h6
  h7 := by rw [rd_of_all g.preKeeps A.w7 (by simp [inputs])]; exact r.h7
  h8 := by rw [rd_of_all g.preKeeps A.w8 (by simp [inputs])]; exact r.h8
  h9 := by rw [rd_of_all g.preKeeps A.w9 (by simp [inputs])]; exact r.h9
  h10 := by rw [rd_of_all g.preKeeps A.w10 (by simp [inputs])]; exact r.h10
  h11 := by rw [rd_of_all g.preKeeps A.w11 (by simp [inputs])]; exact r.h11

/-- What a trip does to the contents, by the buffers it carries. -/
theorem trip_at (g : Good Ideal A φ) (P : Valuation τ sig (Elt Ideal)) (k : ℕ) (hk : k < 1024)
    (hi : rd (trips φ P k) φ.v65_3 = fun _ => Scf.iv (0#32 : BitVec 32) 1#32 k) :
    rd (trips φ P (k + 1)) φ.v65_0 = rd (trips φ P k) φ.v65_0
      ∧ rd (trips φ P (k + 1)) φ.v65_1 = rd (trips φ P k) φ.v65_1
      ∧ rd (trips φ P (k + 1)) φ.v65_2 = rd (trips φ P k) φ.v65_2
      ∧ (∀ b d n, rd (trips φ P (k + 1)) φ.v65_4 (ix3 b d n)
          = (rd (trips φ P k) φ.v65_0 (ix4 ⟨k, hk⟩ b d n) * rd (trips φ P k) φ.v65_4 (ix3 b d n)
            + rd (trips φ P k) φ.v65_1 (ix4 ⟨k, hk⟩ b d n) : EReal))
      ∧ ∀ t b d, rd (trips φ P (k + 1)) φ.v65_5 (ix3 t b d)
          = (if t.val = k then ∑ n, rd (trips φ P (k + 1)) φ.v65_4 (ix3 b d n) * rd (trips φ P k) φ.v65_2 (ix3 ⟨k, hk⟩ b n)
            else rd (trips φ P k) φ.v65_5 (ix3 t b d) : EReal) := by
  show rd (after (ops (backL φ)) (after (ops (tripL φ)) (after (ops (condL φ)) (trips φ P k)))) φ.v65_0 = _
    ∧ rd (after (ops (backL φ)) (after (ops (tripL φ)) (after (ops (condL φ)) (trips φ P k)))) φ.v65_1 = _
    ∧ rd (after (ops (backL φ)) (after (ops (tripL φ)) (after (ops (condL φ)) (trips φ P k)))) φ.v65_2 = _
    ∧ (∀ b d n, rd (after (ops (backL φ)) (after (ops (tripL φ)) (after (ops (condL φ)) (trips φ P k)))) φ.v65_4 (ix3 b d n) = _)
    ∧ ∀ t b d, rd (after (ops (backL φ)) (after (ops (tripL φ)) (after (ops (condL φ)) (trips φ P k)))) φ.v65_5 (ix3 t b d)
      = (if t.val = k then ∑ n, rd (after (ops (backL φ)) (after (ops (tripL φ)) (after (ops (condL φ)) (trips φ P k)))) φ.v65_4 (ix3 b d n) * _
        else _ : EReal)
  generalize trips φ P k = T at hi ⊢
  rw [← rd_of_all g.condKeeps φ.v65_0 (by simp [carried]) T, ← rd_of_all g.condKeeps φ.v65_1 (by simp [carried]) T,
    ← rd_of_all g.condKeeps φ.v65_2 (by simp [carried]) T, ← rd_of_all g.condKeeps φ.v65_4 (by simp [carried]) T,
    ← rd_of_all g.condKeeps φ.v65_5 (by simp [carried]) T]
  rw [← rd_of_all g.condKeeps φ.v65_3 (by simp [carried]) T] at hi
  generalize after (ops (condL φ)) T = X at hi ⊢
  have ht := after_holds _ g.trip X
  rw [← rd_of_all g.tripKeeps φ.v65_0 (by simp [carried]) X, ← rd_of_all g.tripKeeps φ.v65_1 (by simp [carried]) X,
    ← rd_of_all g.tripKeeps φ.v65_2 (by simp [carried]) X, ← rd_of_all g.tripKeeps φ.v65_4 (by simp [carried]) X,
    ← rd_of_all g.tripKeeps φ.v65_5 (by simp [carried]) X]
  rw [← rd_of_all g.tripKeeps φ.v65_3 (by simp [carried]) X] at hi
  generalize after (ops (tripL φ)) X = Y at ht hi ⊢
  have hb := after_holds _ g.back Y
  have k0 := rd_of_all g.backKeeps φ.v65_0 (by simp) Y
  have k1 := rd_of_all g.backKeeps φ.v65_1 (by simp) Y
  have k2 := rd_of_all g.backKeeps φ.v65_2 (by simp) Y
  have k4 := rd_of_all g.backKeeps φ.while0b_v103 (by simp [fresh]) Y
  have k5 := rd_of_all g.backKeeps φ.while0b_call6.v1 (by simp [fresh]) Y
  generalize after (ops (backL φ)) Y = Z at hb k0 k1 k2 k4 k5 ⊢
  simp only [holdsAll, backL, un_holds, and_true, id] at hb
  simp only [tripL, holdsAll_append] at ht
  obtain ⟨r0, r1, r2, hs, hp, -⟩ := ht
  obtain ⟨-, b4, b5⟩ := hb
  rw [b4, b5, k4, k5]
  refine ⟨k0, k1, k2, fun b d n => ?_, fun t b d => ?_⟩
  · rw [(step_at hs b d n).1, row_at r0 k hk hi, row_at r1 k hk hi]
  · rw [put_at hp k hk hi, (step_at hs b d 0).2]
    simp only [rowC_at r2 k hk hi]

/-- Before trip `k` the state is the recurrence's and the outputs up to `k` are the scan's. -/
structure Inv (φ : fn_layer.Bufs) (w : Wts) (x : Fin 2 → Sq) (b : Fin 2) (k : ℕ) (T : Valuation τ sig (Elt Ideal)) : Prop where
  i0 : ∀ t d n, rd T φ.v65_0 (ix4 t b d n) = dec w (x b) d n t
  i1 : ∀ t d n, rd T φ.v65_1 (ix4 t b d n) = inp w (x b) d n t
  i2 : ∀ t (n : Fin 16), rd T φ.v65_2 (ix3 t b n) = xd w (x b) t ⟨64 + n.val, by omega⟩
  i4 : ∀ d n, rd T φ.v65_4 (ix3 b d n) = state w (x b) d n k
  i5 : ∀ (t : Fin 1024) d, t.val < k → rd T φ.v65_5 (ix3 t b d) = scanOut w (x b) t d

theorem inv (g : Good Ideal A φ) (r : Reads A w x V) (b : Fin 2) :
    ∀ k ≤ 1024, Inv φ w x b k (trips φ (after (ops (preL A φ)) V) k)
  | 0, _ => by
    obtain ⟨p0, p1, p2, p4, -, -⟩ := pre_at (after_holds _ g.pre V) (r.pre g) b
    exact ⟨p0, p1, p2, p4, fun t d h => absurd h (Nat.not_lt_zero _)⟩
  | k + 1, hk => by
    have ih := inv g r b k (Nat.le_of_succ_le hk)
    obtain ⟨t0, t1, t2, t4, t5⟩ := trip_at g (after (ops (preL A φ)) V) k hk (ctr g V k)
    generalize trips φ (after (ops (preL A φ)) V) (k + 1) = T' at t0 t1 t2 t4 t5 ⊢
    generalize trips φ (after (ops (preL A φ)) V) k = T at t0 t1 t2 t4 t5 ih
    have h4 : ∀ d n, rd T' φ.v65_4 (ix3 b d n) = state w (x b) d n (k + 1) := fun d n => by
      rw [t4, ih.i0, ih.i4, ih.i1]
      unfold state
      rw [rec1, nat_lt _ hk, nat_lt _ hk]
    refine ⟨by rw [t0]; exact ih.i0, by rw [t1]; exact ih.i1, by rw [t2]; exact ih.i2, h4, fun t d h => ?_⟩
    rw [t5]
    by_cases e : t.val = k
    · rw [if_pos e]
      unfold scanOut
      have : (⟨k, hk⟩ : Fin 1024) = t := Fin.ext e.symm
      simp only [h4, ih.i2, this, e]
    · rw [if_neg e, ih.i5 t d (by omega)]

/-- The loop leaves what the lines after it read. -/
theorem trips_keep (g : Good Ideal A φ) {T : BufTy} (y : TRef sig T) (hy : y.ref ∈ staying A φ) (P : Valuation τ sig (Elt Ideal)) :
    ∀ k, rd (trips φ P k) y = rd P y
  | 0 => rfl
  | k + 1 => (rd_of_all g.backKeeps y (by simp only [List.mem_append]; exact .inr hy) _).trans
      ((rd_of_all g.tripKeeps y (by simp only [List.mem_append]; exact .inr hy) _).trans
        ((rd_of_all g.condKeeps y (by simp only [List.mem_append]; exact .inr hy) _).trans (trips_keep g y hy P k)))

/-- One layer of the reference. -/
theorem layer_at (g : Good Ideal A φ) (r : Reads A w x V) (b : Fin 2) (t : Fin 1024) (k : Fin 768) :
    rd (layerEnd A φ V) φ.v98 (ix3 b t k) = layer w (x b) t k := by
  have r' := r.pre g
  obtain ⟨-, -, -, -, pg, pa⟩ := pre_at (after_holds _ g.pre V) r' b
  have hI := (inv g r b 1024 le_rfl).i5
  have hs : ∀ {T : BufTy} (y : TRef sig T), y.ref ∈ staying A φ →
      rd (layerEnd A φ V) y = rd (after (ops (preL A φ)) V) y := fun y hy =>
    (rd_of_all g.postKeeps y (by simp only [List.mem_append]; exact .inl hy) _).trans
      ((rd_of_all g.condKeeps y (by simp only [List.mem_append]; exact .inr hy) _).trans (trips_keep g y hy _ 1024))
  have h5 : rd (layerEnd A φ V) φ.v65_5 = rd (trips φ (after (ops (preL A φ)) V) 1024) φ.v65_5 :=
    (rd_of_all g.postKeeps φ.v65_5 (by simp) _).trans (rd_of_all g.condKeeps φ.v65_5 (by simp [carried]) _)
  have hp : holdsAll (postL A φ) (layerEnd A φ V) := after_holds _ g.post _
  generalize layerEnd A φ V = E at hs h5 hp ⊢
  refine post_at hp ⟨?_, ?_, ?_, ?_, ?_⟩ b (fun t d => ?_) ?_ ?_ t k
  · rw [hs A.x (by simp [staying])]; exact r'.hx
  · rw [hs A.w8 (by simp [staying])]; exact r'.h8
  · rw [hs A.w9 (by simp [staying])]; exact r'.h9
  · rw [hs A.w10 (by simp [staying])]; exact r'.h10
  · rw [hs A.w11 (by simp [staying])]; exact r'.h11
  · rw [h5]; exact hI t d t.isLt
  · rw [hs φ.v2 (by simp [staying])]; exact pg
  · rw [hs φ.call1.v6 (by simp [staying])]; exact pa

end Cert.ReferenceIdeal.Hand

end
-- ==== Proof.Value.RefValue.lean ====
/-
  The reference's result: the four layers of `Cert.Spec` on the arguments, entry by entry.
-/
module

public import proofs.«01_k».proof.Proof.Value.RefLayer

@[expose] public section

set_option maxRecDepth 100000

noncomputable section

namespace Cert.ReferenceIdeal.Hand

open Idealize.ShloMosaic Idealize.ShloMosaic.StableHlo Idealize.ShloMosaic.TcCoe Idealize.ShloMosaic.Tactic
open Cert.Host Cert.ReferenceIdeal Cert.ReferenceIdeal.Facts₀ Cert.Spec

variable [Facts] {x : Fin 2 → Sq} {V X : Valuation τ sig (Elt Ideal)}

/-- The batch in the first argument. -/
def seqs (V : Valuation τ sig (Elt Ideal)) : Fin 2 → Sq := fun b t k =>
  rd V (.of main_arg0 : TRef sig ⟨S2x1024x768, .f32⟩) (ix3 b t k)

/-- The layers' weights in the other arguments. -/
def wts (V : Valuation τ sig (Elt Ideal)) (l : Fin 4) : Wts where
  w1 e k := rd V (.of main_arg1 : TRef sig ⟨S4x3072x768, .f32⟩) (ix3 l e k)
  w2 d j := rd V (.of main_arg2 : TRef sig ⟨S4x1536x4, .f32⟩) (ix3 l d j)
  w3 d := rd V (.of main_arg3 : TRef sig ⟨S4x1536, .f32⟩) (ix2 l d)
  w4 e d := rd V (.of main_arg4 : TRef sig ⟨S4x80x1536, .f32⟩) (ix3 l e d)
  w5 d r := rd V (.of main_arg5 : TRef sig ⟨S4x1536x48, .f32⟩) (ix3 l d r)
  w6 d := rd V (.of main_arg6 : TRef sig ⟨S4x1536, .f32⟩) (ix2 l d)
  w7 d n := rd V (.of main_arg7 : TRef sig ⟨S4x1536x16, .f32⟩) (ix3 l d n)
  w8 d := rd V (.of main_arg8 : TRef sig ⟨S4x1536, .f32⟩) (ix2 l d)
  w9 k d := rd V (.of main_arg9 : TRef sig ⟨S4x768x1536, .f32⟩) (ix3 l k d)
  w10 k := rd V (.of main_arg10 : TRef sig ⟨S4x768, .f32⟩) (ix2 l k)
  w11 k := rd V (.of main_arg11 : TRef sig ⟨S4x768, .f32⟩) (ix2 l k)

/-- A layer's references: its input, and the weights picked for it. -/
def Slabs.args (σ : Slabs) (y : TRef sig ⟨S2x1024x768, .f32⟩) : Args :=
  ⟨y, σ.w1, σ.w2, σ.w3, σ.w4, σ.w5, σ.w6, σ.w7, σ.w8, σ.w9, σ.w10, σ.w11⟩

/-- The weights picked for layer `i` are layer `i`'s. -/
theorem pick_at (i : Fin 4) (n : ℕ) (hn : i.val = n) (hi : Inside n) (σ : Slabs) (y : TRef sig ⟨S2x1024x768, .f32⟩)
    (h : holdsAll (pickL n hi σ) X) (hy : ∀ b t k, rd X y (ix3 b t k) = x b t k) : Reads (σ.args y) (wts X i) x X := by
  subst hn
  simp only [holdsAll, pickL, un_holds, res_holds, and_true] at h
  obtain ⟨a1, b1, a2, b2, a3, b3, a4, b4, a5, b5, a6, b6, a7, b7, a8, b8, a9, b9, a10, b10, a11, b11⟩ := h
  constructor
  · exact hy
  · intro e k; show rd X σ.w1 _ = _; rw [b1, a1]; pointwise; rfl
  · intro d j; show rd X σ.w2 _ = _; rw [b2, a2]; pointwise; rfl
  · intro d; show rd X σ.w3 _ = _; rw [b3, a3]; pointwise; rfl
  · intro e d; show rd X σ.w4 _ = _; rw [b4, a4]; pointwise; rfl
  · intro d r; show rd X σ.w5 _ = _; rw [b5, a5]; pointwise; rfl
  · intro d; show rd X σ.w6 _ = _; rw [b6, a6]; pointwise; rfl
  · intro d n; show rd X σ.w7 _ = _; rw [b7, a7]; pointwise; rfl
  · intro d; show rd X σ.w8 _ = _; rw [b8, a8]; pointwise; rfl
  · intro k d; show rd X σ.w9 _ = _; rw [b9, a9]; pointwise; rfl
  · intro k; show rd X σ.w10 _ = _; rw [b10, a10]; pointwise; rfl
  · intro k; show rd X σ.w11 _ = _; rw [b11, a11]; pointwise; rfl

/-- The weights read only the arguments. -/
theorem wts_congr (h : ∀ r ∈ argRefs, X (Proc.devRef .tc r) = V (Proc.devRef .tc r)) : wts X = wts V := by
  unfold wts rd
  funext l
  have e : ∀ r (hr : r ∈ argRefs), X (Proc.devRef .tc r) = V (Proc.devRef .tc r) := h
  have e1 := e main_arg1 (by simp [argRefs])
  have e2 := e main_arg2 (by simp [argRefs])
  have e3 := e main_arg3 (by simp [argRefs])
  have e4 := e main_arg4 (by simp [argRefs])
  have e5 := e main_arg5 (by simp [argRefs])
  have e6 := e main_arg6 (by simp [argRefs])
  have e7 := e main_arg7 (by simp [argRefs])
  have e8 := e main_arg8 (by simp [argRefs])
  have e9 := e main_arg9 (by simp [argRefs])
  have e10 := e main_arg10 (by simp [argRefs])
  have e11 := e main_arg11 (by simp [argRefs])
  simp only [TRef.of, e1, e2, e3, e4, e5, e6, e7, e8, e9, e10, e11]

theorem picks_once : once (pickL (F := Ideal) 0 inside0 slabs0) = true ∧ once (pickL (F := Ideal) 1 inside1 slabs1) = true
    ∧ once (pickL (F := Ideal) 2 inside2 slabs2) = true ∧ once (pickL (F := Ideal) 3 inside3 slabs3) = true := by
  refine ⟨?_, ?_, ?_, ?_⟩ <;> chain_rfl

theorem picks_spare : spares (pickL (F := Ideal) 0 inside0 slabs0) args0.x.ref = true ∧ spares (pickL (F := Ideal) 1 inside1 slabs1) args1.x.ref = true
    ∧ spares (pickL (F := Ideal) 2 inside2 slabs2) args2.x.ref = true ∧ spares (pickL (F := Ideal) 3 inside3 slabs3) args3.x.ref = true := by
  refine ⟨?_, ?_, ?_, ?_⟩ <;> chain_rfl

/-- The reference's result. -/
theorem ended_at (V : Valuation τ sig (Elt Ideal)) (b : Fin 2) (t : Fin 1024) (k : Fin 768) :
    rd (ended V) (.of main_v91 : TRef sig ⟨S2x1024x768, .f32⟩) (ix3 b t k) = enc (wts V) (seqs V) b t k := by
  have ha := arg_keeps V
  have c0 : ∀ r ∈ argRefs, picked0 V (Proc.devRef .tc r) = V (Proc.devRef .tc r) := fun r hr => (ha r hr).1
  have hc := List.all_eq_true.1 (args_clear (F := Ideal))
  have c1 : ∀ r ∈ argRefs, picked1 V (Proc.devRef .tc r) = V (Proc.devRef .tc r) := fun r hr => by
    have h := hc r hr
    simp only [Bool.and_eq_true] at h
    exact (after_keep _ _ h.1.1.1.1.1.2 _).trans (ha r hr).2.1
  have c2 : ∀ r ∈ argRefs, picked2 V (Proc.devRef .tc r) = V (Proc.devRef .tc r) := fun r hr => by
    have h := hc r hr
    simp only [Bool.and_eq_true] at h
    exact (after_keep _ _ h.1.1.1.2 _).trans (ha r hr).2.2.1
  have c3 : ∀ r ∈ argRefs, picked3 V (Proc.devRef .tc r) = V (Proc.devRef .tc r) := fun r hr => by
    have h := hc r hr
    simp only [Bool.and_eq_true] at h
    exact (after_keep _ _ h.1.2 _).trans (ha r hr).2.2.2.1
  have y0 : ∀ b t k, rd (picked0 V) args0.x (ix3 b t k) = seqs V b t k := fun b t k =>
    congrFun (rd_keep _ args0.x picks_spare.1 V) _
  have r0 : Reads args0 (wts V 0) (seqs V) (picked0 V) := by
    rw [← wts_congr c0]; exact pick_at 0 0 rfl inside0 slabs0 args0.x (after_holds _ picks_once.1 V) y0
  have l0 := layer_at good0 r0
  have y1 : ∀ b t k, rd (picked1 V) args1.x (ix3 b t k) = layer (wts V 0) (seqs V b) t k := fun b t k =>
    (congrFun (rd_keep _ args1.x picks_spare.2.1 _) _).trans (l0 b t k)
  have r1 : Reads args1 (wts V 1) (fun b => layer (wts V 0) (seqs V b)) (picked1 V) := by
    rw [← wts_congr c1]; exact pick_at 1 1 rfl inside1 slabs1 args1.x (after_holds _ picks_once.2.1 _) (by rw [wts_congr c1]; exact y1)
  have l1 := layer_at good1 r1
  have y2 : ∀ b t k, rd (picked2 V) args2.x (ix3 b t k) = layer (wts V 1) (layer (wts V 0) (seqs V b)) t k := fun b t k =>
    (congrFun (rd_keep _ args2.x picks_spare.2.2.1 _) _).trans (l1 b t k)
  have r2 : Reads args2 (wts V 2) (fun b => layer (wts V 1) (layer (wts V 0) (seqs V b))) (picked2 V) := by
    rw [← wts_congr c2]; exact pick_at 2 2 rfl inside2 slabs2 args2.x (after_holds _ picks_once.2.2.1 _) (by rw [wts_congr c2]; exact y2)
  have l2 := layer_at good2 r2
  have y3 : ∀ b t k, rd (picked3 V) args3.x (ix3 b t k) = layer (wts V 2) (layer (wts V 1) (layer (wts V 0) (seqs V b))) t k := fun b t k =>
    (congrFun (rd_keep _ args3.x picks_spare.2.2.2 _) _).trans (l2 b t k)
  have r3 : Reads args3 (wts V 3) (fun b => layer (wts V 2) (layer (wts V 1) (layer (wts V 0) (seqs V b)))) (picked3 V) := by
    rw [← wts_congr c3]; exact pick_at 3 3 rfl inside3 slabs3 args3.x (after_holds _ picks_once.2.2.2 _) (by rw [wts_congr c3]; exact y3)
  have l3 := layer_at good3 r3
  exact l3 b t k

end Cert.ReferenceIdeal.Hand

end
-- ==== Proof.Value.Equal.lean ====
/-
  The two results are equal: both programs end with the four layers of `Cert.Spec` on the same arguments.
-/
module

public import proofs.«01_k».proof.Defs
public import proofs.«01_k».proof.Proof.Value.Arrays
public import proofs.«01_k».proof.Proof.Value.RefValue

@[expose] public section

set_option maxRecDepth 16384

noncomputable section

namespace Cert

open Idealize.ShloMosaic Idealize.ShloMosaic.TcCoe Idealize.SL.Sem

/-- The kernel ends with `result` in its result and its arguments as they were. -/
theorem kernel_ends (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r =>
      ∀ c : Dev KernelIdeal.nD, r.2.mem ((c.tc : Thread KernelIdeal.nD KernelIdeal.τ).loc KernelIdeal.main_v22) = KernelIdeal.Hand.result m c) :=
  (θ_run _ _ _).mono (fun _ h c => (h.1.out_eq c 13).trans (KernelIdeal.Hand.final m c)) (KernelIdeal.Hand.run m g)

section

variable [ReferenceIdeal.Facts]

/-- The reference's arguments hold the kernel's sequences and weights. -/
theorem args_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)) :
    ReferenceIdeal.Hand.seqs (StableHlo.launchContents m' c) = KernelIdeal.Hand.seqs m c
      ∧ ReferenceIdeal.Hand.wts (StableHlo.launchContents m' c) = KernelIdeal.Hand.wts m c := by
  obtain ⟨h0, h1, h2, h3, h4, h5, h6, h7, h8, h9, h10, h11⟩ := h
  constructor
  · funext b t k
    exact congrFun h0 _
  · funext l
    show Spec.Wts.mk _ _ _ _ _ _ _ _ _ _ _ = Spec.Wts.mk _ _ _ _ _ _ _ _ _ _ _
    congr 1
    · funext e k; exact congrFun h1 _
    · funext d j; exact congrFun h2 _
    · funext d; exact congrFun h3 _
    · funext e d; exact congrFun h4 _
    · funext d r; exact congrFun h5 _
    · funext d; exact congrFun h6 _
    · funext d n; exact congrFun h7 _
    · funext d; exact congrFun h8 _
    · funext k d; exact congrFun h9 _
    · funext k; exact congrFun h10 _
    · funext k; exact congrFun h11 _

/-- The reference ends with the kernel's result. -/
theorem reference_ends (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (g' : Dev ReferenceIdeal.nD → PrngReg)
    (h : ∀ c : Dev KernelIdeal.nD, ReferenceIdeal.Hand.seqs (StableHlo.launchContents m' c) = KernelIdeal.Hand.seqs m c
      ∧ ReferenceIdeal.Hand.wts (StableHlo.launchContents m' c) = KernelIdeal.Hand.wts m c) :
    θ_run (ReferenceIdeal.defs (F := Ideal)) (onTc (τ := ReferenceIdeal.τ) (ReferenceIdeal.main (F := Ideal))) ⟨m', fun _ => 0, g'⟩ (fun r =>
      ∀ c : Dev ReferenceIdeal.nD, r.2.mem ((c.tc : Thread ReferenceIdeal.nD ReferenceIdeal.τ).loc ReferenceIdeal.main_v91) = KernelIdeal.Hand.result m c) := by
  refine (θ_run _ _ _).mono (fun r hr c => (hr c ReferenceIdeal.main_v91 rfl).trans ?_) (ReferenceIdeal.Hand.run m' g')
  have e := ReferenceIdeal.Hand.ended_at (StableHlo.launchContents m' c)
  rw [(h c).1, (h c).2] at e
  have hy : ∀ j : ReferenceIdeal.S2x1024x768.Idx,
      Host.rd (ReferenceIdeal.Hand.ended (StableHlo.launchContents m' c)) (.of ReferenceIdeal.main_v91 : StableHlo.TRef ReferenceIdeal.sig ⟨ReferenceIdeal.S2x1024x768, .f32⟩) j
        = KernelIdeal.Hand.result m c j := fun j => by
    have e' := e (j 0) (j 1) (j 2)
    rw [ix3_eta] at e'
    exact e'
  exact funext hy

end

/-- The kernel and the reference agree over the extended reals. -/
theorem algebraic : @algebraic_KernelIdeal_ReferenceIdeal KernelIdeal.Gen.facts ReferenceIdeal.Gen.facts := by
  intro m g m' g' _ h
  have ha := fun c => @args_agree ReferenceIdeal.Gen.facts m m' c (h c)
  refine ⟨fun c => KernelIdeal.Hand.result m c, ?_, ?_⟩
  · exact (θ_run _ _ _).mono (fun r hr c => ⟨hr.1 c, (hr.2.1 c)⟩) (θ_run_and (kernel_ends m g) (KernelIdeal.Hand.frame m g))
  · exact (θ_run _ _ _).mono (fun r hr c => ⟨hr.1 c, (hr.2.1 c)⟩)
      (θ_run_and (@reference_ends ReferenceIdeal.Gen.facts m m' g' ha) (@ReferenceIdeal.Hand.frame Ideal _ ReferenceIdeal.Gen.facts m' g'))

end Cert

end
-- ==== Proof.lean ====
/-
  The certificate of the kernel: as printed, idealized, and its reference, each runs to the end from any memory, leaves
  its arguments as they were and every semaphore counter at zero; the idealized program is the printed one; and over the
  extended reals kernel and reference end with the same result.
-/
module

public import proofs.«01_k».proof.Defs
public import proofs.«01_k».proof.Proof.Bits.Run
public import proofs.«01_k».proof.Proof.Ideal.Run
public import proofs.«01_k».proof.Proof.Gen.ReferenceIdeal
public import proofs.«01_k».proof.Proof.Ref.Final
public import proofs.«01_k».proof.Proof.Value.Equal

@[expose] public section

noncomputable section

namespace Cert.Proof

open Idealize.ShloMosaic

/-- The claim, from the three runs and the equation of the two results. -/
theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g,
    fun m g _ => @Cert.ReferenceIdeal.Hand.frame Ideal _ Cert.ReferenceIdeal.Gen.facts m g,
    trivial, Cert.algebraic⟩

end Cert.Proof

end
